-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v18)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v18)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v18) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v30) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
-- ==== Kernel.lean ====
abbrev S2x256x5376 : Shape := ⟨3, ![2, 256, 5376]⟩
abbrev S2x8192x5376 : Shape := ⟨3, ![2, 8192, 5376]⟩
abbrev S2x16x512 : Shape := ⟨3, ![2, 16, 512]⟩
abbrev S2x512 : Shape := ⟨2, ![2, 512]⟩
abbrev S256 : Shape := ⟨1, ![256]⟩
abbrev S2x256x1024 : Shape := ⟨3, ![2, 256, 1024]⟩
abbrev S2x8192x1024 : Shape := ⟨3, ![2, 8192, 1024]⟩
abbrev S2x128x64x5376 : Shape := ⟨4, ![2, 128, 64, 5376]⟩
abbrev S_ : Shape := ⟨0, ![]⟩
abbrev S32x512 : Shape := ⟨2, ![32, 512]⟩
abbrev S1x16x512 : Shape := ⟨3, ![1, 16, 512]⟩
abbrev S16x512 : Shape := ⟨2, ![16, 512]⟩
abbrev S1 : Shape := ⟨1, ![1]⟩
abbrev S1x512 : Shape := ⟨2, ![1, 512]⟩
abbrev S512 : Shape := ⟨1, ![512]⟩
abbrev S1x256 : Shape := ⟨2, ![1, 256]⟩
abbrev S1x256x512 : Shape := ⟨3, ![1, 256, 512]⟩
abbrev S1x256x1024 : Shape := ⟨3, ![1, 256, 1024]⟩
abbrev S1x256x256 : Shape := ⟨3, ![1, 256, 256]⟩
abbrev S1x128x8x512 : Shape := ⟨4, ![1, 128, 8, 512]⟩
abbrev S1x128x8x1024 : Shape := ⟨4, ![1, 128, 8, 1024]⟩
abbrev S1x128x8x256 : Shape := ⟨4, ![1, 128, 8, 256]⟩
abbrev S4x256x128 : Shape := ⟨3, ![4, 256, 128]⟩
abbrev S256x1024 : Shape := ⟨2, ![256, 1024]⟩
abbrev S256x256 : Shape := ⟨2, ![256, 256]⟩
abbrev S1x128x1x256 : Shape := ⟨4, ![1, 128, 1, 256]⟩
abbrev S128x256 : Shape := ⟨2, ![128, 256]⟩
abbrev S256x32 : Shape := ⟨2, ![256, 32]⟩
abbrev S256x512 : Shape := ⟨2, ![256, 512]⟩
abbrev S64x64 : Shape := ⟨2, ![64, 64]⟩
abbrev S64x512 : Shape := ⟨2, ![64, 512]⟩
abbrev S1x128x1x512 : Shape := ⟨4, ![1, 128, 1, 512]⟩
abbrev S128x512 : Shape := ⟨2, ![128, 512]⟩
abbrev S1x128x1x1024 : Shape := ⟨4, ![1, 128, 1, 1024]⟩
abbrev S128x1024 : Shape := ⟨2, ![128, 1024]⟩
abbrev S64x128 : Shape := ⟨2, ![64, 128]⟩
abbrev S64x256 : Shape := ⟨2, ![64, 256]⟩
abbrev S1x256x128 : Shape := ⟨3, ![1, 256, 128]⟩
abbrev S256x128 : Shape := ⟨2, ![256, 128]⟩
abbrev S1x128 : Shape := ⟨2, ![1, 128]⟩
abbrev S64 : Shape := ⟨1, ![64]⟩
abbrev S64x1 : Shape := ⟨2, ![64, 1]⟩

abbrev nBuf : Space → Nat
  | .hbm => 28
  | .vmem => 33
  | .smem => 0
  | _ => 0

abbrev bufTy : (tb : Table) → Fin (tcTables nBuf tb) → BufTy
  | .hbm, ⟨0, _⟩ => ⟨S2x256x5376, .f32⟩
  | .hbm, ⟨1, _⟩ => ⟨S2x8192x5376, .f32⟩
  | .hbm, ⟨2, _⟩ => ⟨S2x16x512, .f32⟩
  | .hbm, ⟨3, _⟩ => ⟨S2x512, .f32⟩
  | .hbm, ⟨4, _⟩ => ⟨S256, .f32⟩
  | .hbm, ⟨5, _⟩ => ⟨S2x256x1024, .f32⟩
  | .hbm, ⟨6, _⟩ => ⟨S2x8192x1024, .f32⟩
  | .hbm, ⟨7, _⟩ => ⟨S2x128x64x5376, .f32⟩
  | .hbm, ⟨8, _⟩ => ⟨S_, .f32⟩
  | .hbm, ⟨9, _⟩ => ⟨S32x512, .f32⟩
  | .hbm, ⟨10, _⟩ => ⟨S1x16x512, .f32⟩
  | .hbm, ⟨11, _⟩ => ⟨S16x512, .f32⟩
  | .hbm, ⟨12, _⟩ => ⟨S_, .i32⟩
  | .hbm, ⟨13, _⟩ => ⟨S1, .i32⟩
  | .hbm, ⟨14, _⟩ => ⟨S32x512, .f32⟩
  | .hbm, ⟨15, _⟩ => ⟨S_, .f32⟩
  | .hbm, ⟨16, _⟩ => ⟨S32x512, .f32⟩
  | .hbm, ⟨17, _⟩ => ⟨S1x16x512, .f32⟩
  | .hbm, ⟨18, _⟩ => ⟨S16x512, .f32⟩
  | .hbm, ⟨19, _⟩ => ⟨S_, .i32⟩
  | .hbm, ⟨20, _⟩ => ⟨S1, .i32⟩
  | .hbm, ⟨21, _⟩ => ⟨S32x512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S1x256, .f32⟩
  | .hbm, ⟨26, _⟩ => ⟨S2x256x1024, .bf16⟩
  | .hbm, ⟨27, _⟩ => ⟨S2x8192x1024, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x256, .f32⟩
  | .local _ .vmem, ⟨7, _⟩ => ⟨S1x256x256, .f32⟩
  | .local _ .vmem, ⟨8, _⟩ => ⟨S1x128x8x512, .f32⟩
  | .local _ .vmem, ⟨9, _⟩ => ⟨S1x128x8x512, .f32⟩
  | .local _ .vmem, ⟨10, _⟩ => ⟨S1x128x8x512, .f32⟩
  | .local _ .vmem, ⟨11, _⟩ => ⟨S1x128x8x512, .f32⟩
  | .local _ .vmem, ⟨12, _⟩ => ⟨S1x128x8x1024, .f32⟩
  | .local _ .vmem, ⟨13, _⟩ => ⟨S1x128x8x1024, .f32⟩
  | .local _ .vmem, ⟨14, _⟩ => ⟨S1x128x8x256, .f32⟩
  | .local _ .vmem, ⟨15, _⟩ => ⟨S1x128x8x256, .f32⟩
  | .local _ .vmem, ⟨16, _⟩ => ⟨S32x512, .f32⟩
  | .local _ .vmem, ⟨17, _⟩ => ⟨S1x512, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256, .f32⟩
  | .local _ .vmem, ⟨23, _⟩ => ⟨S1x256x1024, .f32⟩
  | .local _ .vmem, ⟨24, _⟩ => ⟨S1x256x1024, .f32⟩
  | .local _ .vmem, ⟨25, _⟩ => ⟨S1x128x8x1024, .f32⟩
  | .local _ .vmem, ⟨26, _⟩ => ⟨S1x128x8x1024, .f32⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S4x256x128, .f32⟩
  | .local _ .vmem, ⟨32, _⟩ => ⟨S256x1024, .f32⟩
  | _, _ => ⟨S2x256x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![2, 33], ![false, false]⟩

def k0_off1 (i : grid0.Coords) (c0_i32_10 : BitVec 32) : Fin 4 → Nat :=
  let c0_11 : Index := 0#32
  let c0_12 : Index := 0#32
  let c2_i32 : BitVec 32 := 2#32
  let arg1 : BitVec 32 := BitVec.ofNat 32 (i 1).val
  let c1_i32_0 : BitVec 32 := 1#32
  let v1 : BitVec 32 := Scalar.subi arg1 c1_i32_0
  let c0_i32 : BitVec 32 := 0#32
  let v2 : BitVec 32 := Scalar.maxsi v1 c0_i32
  let c4_i32 : BitVec 32 := 4#32
  let c0_i32_1 : BitVec 32 := 0#32
  let v3 : BitVec 1 := Scalar.cmpi .eq c4_i32 c0_i32_1
  let c1_i32_2 : BitVec 32 := 1#32
  let v4 : BitVec 32 := Scalar.select v3 c1_i32_2 c4_i32
  let v5 : BitVec 32 := Scalar.remsi v2 v4
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let c0_i32_3 : BitVec 32 := 0#32
  let v6 : BitVec 1 := Scalar.cmpi .ne v5 c0_i32_3
  let v10 : BitVec 1 := Scalar.andi v9 v6
  let v11 : BitVec 32 := Scalar.addi v5 v4
  let v12 : BitVec 32 := Scalar.select v10 v11 v5
  let v13 : BitVec 32 := Scalar.muli c2_i32 v12
  let v19 : BitVec 32 := Scalar.addi v13 c0_i32_10
  let v20 : Index := Scalar.indexCast v19
  let c0_13 : Index := 0#32
  ![0, 0, v20.toNat, 0]
def k0_off2 (i : grid0.Coords) (c0_i32_37 : BitVec 32) : Fin 4 → Nat :=
  let c0_38 : Index := 0#32
  let c0_39 : Index := 0#32
  let c2_i32 : BitVec 32 := 2#32
  let arg1 : BitVec 32 := BitVec.ofNat 32 (i 1).val
  let c1_i32_0 : BitVec 32 := 1#32
  let v1 : BitVec 32 := Scalar.subi arg1 c1_i32_0
  let c0_i32 : BitVec 32 := 0#32
  let v2 : BitVec 32 := Scalar.maxsi v1 c0_i32
  let c4_i32 : BitVec 32 := 4#32
  let c0_i32_1 : BitVec 32 := 0#32
  let v3 : BitVec 1 := Scalar.cmpi .eq c4_i32 c0_i32_1
  let c1_i32_2 : BitVec 32 := 1#32
  let v4 : BitVec 32 := Scalar.select v3 c1_i32_2 c4_i32
  let v5 : BitVec 32 := Scalar.remsi v2 v4
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let c0_i32_3 : BitVec 32 := 0#32
  let v6 : BitVec 1 := Scalar.cmpi .ne v5 c0_i32_3
  let v10 : BitVec 1 := Scalar.andi v9 v6
  let v11 : BitVec 32 := Scalar.addi v5 v4
  let v12 : BitVec 32 := Scalar.select v10 v11 v5
  let v13 : BitVec 32 := Scalar.muli c2_i32 v12
  let v78 : BitVec 32 := Scalar.addi v13 c0_i32_37
  let v79 : Index := Scalar.indexCast v78
  let c0_40 : Index := 0#32
  ![0, 0, v79.toNat, 0]
def k0_off3 (i : grid0.Coords) (c0_i32_60 : BitVec 32) : Fin 4 → Nat :=
  let c0_61 : Index := 0#32
  let c0_62 : Index := 0#32
  let c2_i32 : BitVec 32 := 2#32
  let arg1 : BitVec 32 := BitVec.ofNat 32 (i 1).val
  let c1_i32_0 : BitVec 32 := 1#32
  let v1 : BitVec 32 := Scalar.subi arg1 c1_i32_0
  let c0_i32 : BitVec 32 := 0#32
  let v2 : BitVec 32 := Scalar.maxsi v1 c0_i32
  let c4_i32 : BitVec 32 := 4#32
  let c0_i32_1 : BitVec 32 := 0#32
  let v3 : BitVec 1 := Scalar.cmpi .eq c4_i32 c0_i32_1
  let c1_i32_2 : BitVec 32 := 1#32
  let v4 : BitVec 32 := Scalar.select v3 c1_i32_2 c4_i32
  let v5 : BitVec 32 := Scalar.remsi v2 v4
  let c0_i32_4 : BitVec 32 := 0#32
  let v7 : BitVec 1 := Scalar.cmpi .slt v5 c0_i32_4
  let c0_i32_5 : BitVec 32 := 0#32
  let v8 : BitVec 1 := Scalar.cmpi .slt v4 c0_i32_5
  let v9 : BitVec 1 := Scalar.xori v7 v8
  let c0_i32_3 : BitVec 32 := 0#32
  let v6 : BitVec 1 := Scalar.cmpi .ne v5 c0_i32_3
  let v10 : BitVec 1 := Scalar.andi v9 v6
  let v11 : BitVec 32 := Scalar.addi v5 v4
  let v12 : BitVec 32 := Scalar.select v10 v11 v5
  let v13 : BitVec 32 := Scalar.muli c2_i32 v12
  let v106 : BitVec 32 := Scalar.addi v13 c0_i32_60
  let v107 : Index := Scalar.indexCast v106
  let c0_63 : Index := 0#32
  ![0, 0, v107.toNat, 0]
def k0_cond2 (i : grid0.Coords) : BitVec 1 :=
  let arg1 : BitVec 32 := BitVec.ofNat 32 (i 1).val
  let c1_i32 : BitVec 32 := 1#32
  let v0 : BitVec 1 := Scalar.cmpi .slt arg1 c1_i32
  let v907 : BitVec 32 := Scalar.extui v0
  let c0_i32_364 : BitVec 32 := 0#32
  let v908 : BitVec 1 := Scalar.cmpi .ne v907 c0_i32_364
  v908

def k0_cond3 (i : grid0.Coords) : BitVec 1 :=
  let arg1 : BitVec 32 := BitVec.ofNat 32 (i 1).val
  let c1_i32 : BitVec 32 := 1#32
  let v0 : BitVec 1 := Scalar.cmpi .slt arg1 c1_i32
  let v_true : BitVec 1 := 1#1
  let v909 : BitVec 1 := Scalar.xori v0 v_true
  let v910 : BitVec 32 := Scalar.extui v909
  let c0_i32_365 : BitVec 32 := 0#32
  let v911 : BitVec 1 := Scalar.cmpi .ne v910 c0_i32_365
  v911

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c6_i32 : BitVec 32 := 6#32
  let c0_i32_0 : BitVec 32 := 0#32
  ![arg0.toNat, v0.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c7_i32 : BitVec 32 := 7#32
  let c0_i32_0 : BitVec 32 := 0#32
  ![arg0.toNat, v0.toNat, c7_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c4_i32 : BitVec 32 := 4#32
  let c0_i32_0 : BitVec 32 := 0#32
  ![arg0.toNat, v0.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c20_i32 : BitVec 32 := 20#32
  let c0_i32_0 : BitVec 32 := 0#32
  ![arg0.toNat, v0.toNat, c20_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c6_i32 : BitVec 32 := 6#32
  let c0_i32_7 : BitVec 32 := 0#32
  ![arg0.toNat, c0_i32_6.toNat, v18.toNat, c6_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c7_i32 : BitVec 32 := 7#32
  let c0_i32_7 : BitVec 32 := 0#32
  ![arg0.toNat, c0_i32_6.toNat, v18.toNat, c7_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c4_i32_7 : BitVec 32 := 4#32
  let c0_i32_8 : BitVec 32 := 0#32
  ![arg0.toNat, c0_i32_6.toNat, v18.toNat, c4_i32_7.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c20_i32 : BitVec 32 := 20#32
  let c0_i32_7 : BitVec 32 := 0#32
  ![arg0.toNat, c0_i32_6.toNat, v18.toNat, c20_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c2_i32 : BitVec 32 := 2#32
  let c0_i32_0 : BitVec 32 := 0#32
  ![arg0.toNat, v0.toNat, c2_i32.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c2_i32 : BitVec 32 := 2#32
  let c0_i32_7 : BitVec 32 := 0#32
  ![arg0.toNat, c0_i32_6.toNat, v18.toNat, c2_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S2x256x5376 : Shape := ⟨3, ![2, 256, 5376]⟩
abbrev S2x8192x5376 : Shape := ⟨3, ![2, 8192, 5376]⟩
abbrev S2x16x512 : Shape := ⟨3, ![2, 16, 512]⟩
abbrev S2x512 : Shape := ⟨2, ![2, 512]⟩
abbrev S256 : Shape := ⟨1, ![256]⟩
abbrev S2x256x1024 : Shape := ⟨3, ![2, 256, 1024]⟩
abbrev S2x8192x1024 : Shape := ⟨3, ![2, 8192, 1024]⟩
abbrev S2x128x64x5376 : Shape := ⟨4, ![2, 128, 64, 5376]⟩
abbrev S2x64x128x5376 : Shape := ⟨4, ![2, 64, 128, 5376]⟩
abbrev S2x8448x5376 : Shape := ⟨3, ![2, 8448, 5376]⟩
abbrev S2x8448x1024 : Shape := ⟨3, ![2, 8448, 1024]⟩
abbrev S_ : Shape := ⟨0, ![]⟩
abbrev S2x4x128x256 : Shape := ⟨4, ![2, 4, 128, 256]⟩
abbrev S2x132x64x5376 : Shape := ⟨4, ![2, 132, 64, 5376]⟩
abbrev S132x2x64x5376 : Shape := ⟨4, ![132, 2, 64, 5376]⟩
abbrev S2x132x64x1024 : Shape := ⟨4, ![2, 132, 64, 1024]⟩
abbrev S132x2x64x1024 : Shape := ⟨4, ![132, 2, 64, 1024]⟩
abbrev S1x2x64x5376 : Shape := ⟨4, ![1, 2, 64, 5376]⟩
abbrev S2x64x5376 : Shape := ⟨3, ![2, 64, 5376]⟩
abbrev S1x2x64x1024 : Shape := ⟨4, ![1, 2, 64, 1024]⟩
abbrev S2x64x1024 : Shape := ⟨3, ![2, 64, 1024]⟩
abbrev S2x64x16 : Shape := ⟨3, ![2, 64, 16]⟩
abbrev S1x16x512 : Shape := ⟨3, ![1, 16, 512]⟩
abbrev S16x512 : Shape := ⟨2, ![16, 512]⟩
abbrev S2x64x512 : Shape := ⟨3, ![2, 64, 512]⟩
abbrev S1x512 : Shape := ⟨2, ![1, 512]⟩
abbrev S512 : Shape := ⟨1, ![512]⟩
abbrev S1x1x512 : Shape := ⟨3, ![1, 1, 512]⟩
abbrev S2x64x4x128 : Shape := ⟨4, ![2, 64, 4, 128]⟩
abbrev S2x64x4x256 : Shape := ⟨4, ![2, 64, 4, 256]⟩
abbrev S2x1x4x128 : Shape := ⟨4, ![2, 1, 4, 128]⟩
abbrev S2x4x128 : Shape := ⟨3, ![2, 4, 128]⟩
abbrev S2x4x64x64 : Shape := ⟨4, ![2, 4, 64, 64]⟩
abbrev S64x64 : Shape := ⟨2, ![64, 64]⟩
abbrev S2x4x256x64 : Shape := ⟨4, ![2, 4, 256, 64]⟩
abbrev S2x4x128x1 : Shape := ⟨4, ![2, 4, 128, 1]⟩
abbrev S2x64x4 : Shape := ⟨3, ![2, 64, 4]⟩
abbrev S2x64x4x1 : Shape := ⟨4, ![2, 64, 4, 1]⟩
abbrev S1x1x1x256 : Shape := ⟨4, ![1, 1, 1, 256]⟩

abbrev nBuf : Space → Nat
  | .hbm => 165
  | .vmem => 0
  | .smem => 0
  | _ => 0

abbrev hbmTy0_0 (i : Nat) : BufTy := match i % 128 with
  | 0 => ⟨S2x256x5376, .f32⟩
  | 1 => ⟨S2x8192x5376, .f32⟩
  | 2 => ⟨S2x16x512, .f32⟩
  | 3 => ⟨S2x512, .f32⟩
  | 4 => ⟨S256, .f32⟩
  | 5 => ⟨S2x256x1024, .f32⟩
  | 6 => ⟨S2x8192x1024, .f32⟩
  | 7 => ⟨S2x128x64x5376, .f32⟩
  | 8 => ⟨S2x64x128x5376, .f32⟩
  | 9 => ⟨S2x8192x5376, .f32⟩
  | 10 => ⟨S2x8448x5376, .f32⟩
  | 11 => ⟨S2x8448x1024, .f32⟩
  | 12 => ⟨S_, .f32⟩
  | 13 => ⟨S2x4x128x256, .f32⟩
  | 14 => ⟨S2x132x64x5376, .f32⟩
  | 15 => ⟨S132x2x64x5376, .f32⟩
  | 16 => ⟨S2x132x64x1024, .f32⟩
  | 17 => ⟨S132x2x64x1024, .f32⟩
  | 18 => ⟨S_, .f32⟩
  | 19 => ⟨S132x2x64x1024, .f32⟩
  | 20 => ⟨S_, .i32⟩
  | 21 => ⟨S132x2x64x5376, .f32⟩
  | 22 => ⟨S132x2x64x1024, .f32⟩
  | 23 => ⟨S2x16x512, .f32⟩
  | 24 => ⟨S2x512, .f32⟩
  | 25 => ⟨S256, .f32⟩
  | 26 => ⟨S_, .i32⟩
  | 27 => ⟨S2x4x128x256, .f32⟩
  | 28 => ⟨S132x2x64x1024, .f32⟩
  | 29 => ⟨S_, .i32⟩
  | 30 => ⟨S_, .i1⟩
  | 31 => ⟨S_, .i32⟩
  | 32 => ⟨S_, .i32⟩
  | 33 => ⟨S_, .i32⟩
  | 34 => ⟨S1x2x64x5376, .f32⟩
  | 35 => ⟨S2x64x5376, .f32⟩
  | 36 => ⟨S_, .i32⟩
  | 37 => ⟨S_, .i32⟩
  | 38 => ⟨S_, .i32⟩
  | 39 => ⟨S1x2x64x1024, .f32⟩
  | 40 => ⟨S2x64x1024, .f32⟩
  | 41 => ⟨S2x64x16, .f32⟩
  | 42 => ⟨S1x16x512, .f32⟩
  | 43 => ⟨S16x512, .f32⟩
  | 44 => ⟨S2x64x512, .f32⟩
  | 45 => ⟨S1x512, .f32⟩
  | 46 => ⟨S512, .f32⟩
  | 47 => ⟨S1x1x512, .f32⟩
  | 48 => ⟨S2x64x512, .f32⟩
  | 49 => ⟨S2x64x512, .f32⟩
  | 50 => ⟨S2x64x512, .f32⟩
  | 51 => ⟨S_, .f32⟩
  | 52 => ⟨S2x64x512, .f32⟩
  | 53 => ⟨S2x64x512, .f32⟩
  | 54 => ⟨S2x64x512, .f32⟩
  | 55 => ⟨S2x64x512, .f32⟩
  | 56 => ⟨S2x64x512, .i1⟩
  | 57 => ⟨S2x64x512, .f32⟩
  | 58 => ⟨S2x64x512, .f32⟩
  | 59 => ⟨S2x64x512, .f32⟩
  | 60 => ⟨S2x64x512, .f32⟩
  | 61 => ⟨S2x64x512, .f32⟩
  | 62 => ⟨S2x64x512, .f32⟩
  | 63 => ⟨S2x64x512, .f32⟩
  | 64 => ⟨S2x64x512, .f32⟩
  | 65 => ⟨S2x64x512, .f32⟩
  | 66 => ⟨S_, .f32⟩
  | 67 => ⟨S2x64x512, .f32⟩
  | 68 => ⟨S2x64x512, .f32⟩
  | 69 => ⟨S2x64x4x128, .f32⟩
  | 70 => ⟨S2x64x512, .f32⟩
  | 71 => ⟨S2x64x4x128, .f32⟩
  | 72 => ⟨S_, .f32⟩
  | 73 => ⟨S2x64x4x128, .f32⟩
  | 74 => ⟨S2x64x4x128, .f32⟩
  | 75 => ⟨S2x64x512, .f32⟩
  | 76 => ⟨S2x64x4x128, .f32⟩
  | 77 => ⟨S2x64x1024, .f32⟩
  | 78 => ⟨S2x64x4x256, .f32⟩
  | 79 => ⟨S_, .f32⟩
  | 80 => ⟨S_, .f32⟩
  | 81 => ⟨S2x64x4x128, .f32⟩
  | 82 => ⟨S2x1x4x128, .f32⟩
  | 83 => ⟨S2x4x128, .f32⟩
  | 84 => ⟨S2x1x4x128, .f32⟩
  | 85 => ⟨S2x64x4x128, .f32⟩
  | 86 => ⟨S2x64x4x128, .f32⟩
  | 87 => ⟨S2x64x4x128, .f32⟩
  | 88 => ⟨S2x64x4x128, .f32⟩
  | 89 => ⟨S2x4x128x256, .f32⟩
  | 90 => ⟨S2x64x4x128, .f32⟩
  | 91 => ⟨S2x64x4x128, .f32⟩
  | 92 => ⟨S2x64x4x128, .f32⟩
  | 93 => ⟨S2x64x4x128, .f32⟩
  | 94 => ⟨S2x64x4x128, .f32⟩
  | 95 => ⟨S2x4x64x64, .f32⟩
  | 96 => ⟨S_, .i1⟩
  | 97 => ⟨S64x64, .i1⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i1⟩
  | 105 => ⟨S64x64, .i1⟩
  | 106 => ⟨S64x64, .i1⟩
  | 107 => ⟨S_, .f32⟩
  | 108 => ⟨S_, .f32⟩
  | 109 => ⟨S2x4x64x64, .i1⟩
  | 110 => ⟨S2x4x64x64, .f32⟩
  | 111 => ⟨S2x4x64x64, .f32⟩
  | 112 => ⟨S2x4x256x64, .f32⟩
  | 113 => ⟨S2x64x4x256, .f32⟩
  | 114 => ⟨S2x4x256x64, .f32⟩
  | 115 => ⟨S2x64x4x256, .f32⟩
  | 116 => ⟨S2x64x4x256, .f32⟩
  | 117 => ⟨S2x4x128, .f32⟩
  | 118 => ⟨S2x4x128x1, .f32⟩
  | 119 => ⟨S2x4x128x256, .f32⟩
  | 120 => ⟨S2x4x128x256, .f32⟩
  | 121 => ⟨S2x4x128x256, .f32⟩
  | 122 => ⟨S2x64x4x256, .f32⟩
  | 123 => ⟨S2x64x4x256, .f32⟩
  | 124 => ⟨S2x64x4x256, .f32⟩
  | 125 => ⟨S_, .f32⟩
  | 126 => ⟨S2x64x4, .f32⟩
  | 127 => ⟨S2x64x4x1, .f32⟩
  | _ => ⟨S2x256x5376, .f32⟩

abbrev hbmTy0_1 (i : Nat) : BufTy := match i % 128 with
  | 0 => ⟨S_, .f32⟩
  | 1 => ⟨S2x64x4x1, .f32⟩
  | 2 => ⟨S2x64x4x1, .f32⟩
  | 3 => ⟨S_, .f32⟩
  | 4 => ⟨S2x64x4x1, .f32⟩
  | 5 => ⟨S2x64x4x1, .f32⟩
  | 6 => ⟨S2x64x4x1, .f32⟩
  | 7 => ⟨S2x64x4x256, .f32⟩
  | 8 => ⟨S2x64x4x256, .f32⟩
  | 9 => ⟨S1x1x1x256, .f32⟩
  | 10 => ⟨S2x64x4x256, .f32⟩
  | 11 => ⟨S2x64x4x256, .f32⟩
  | 12 => ⟨S2x64x1024, .f32⟩
  | 13 => ⟨S2x64x1024, .f32⟩
  | 14 => ⟨S2x64x1024, .f32⟩
  | 15 => ⟨S2x64x1024, .f32⟩
  | 16 => ⟨S_, .f32⟩
  | 17 => ⟨S2x64x1024, .f32⟩
  | 18 => ⟨S2x64x1024, .f32⟩
  | 19 => ⟨S_, .f32⟩
  | 20 => ⟨S2x64x1024, .f32⟩
  | 21 => ⟨S2x64x1024, .f32⟩
  | 22 => ⟨S2x64x1024, .f32⟩
  | 23 => ⟨S2x64x1024, .f32⟩
  | 24 => ⟨S1x2x64x1024, .f32⟩
  | 25 => ⟨S_, .i32⟩
  | 26 => ⟨S_, .i32⟩
  | 27 => ⟨S_, .i32⟩
  | 28 => ⟨S132x2x64x1024, .f32⟩
  | 29 => ⟨S_, .i32⟩
  | 30 => ⟨S_, .i32⟩
  | 31 => ⟨S2x132x64x1024, .f32⟩
  | 32 => ⟨S2x8448x1024, .f32⟩
  | 33 => ⟨S2x256x1024, .f32⟩
  | 34 => ⟨S2x256x1024, .bf16⟩
  | 35 => ⟨S2x8192x1024, .f32⟩
  | 36 => ⟨S2x8192x1024, .bf16⟩
  | _ => ⟨S2x256x5376, .f32⟩

abbrev hbmTy (i : Nat) : BufTy := match i / 128 with
  | 0 => hbmTy0_0 i
  | 1 => hbmTy0_1 i
  | _ => ⟨S2x256x5376, .f32⟩

abbrev bufTy : (tb : Table) → Fin (tcTables nBuf tb) → BufTy
  | .hbm, ⟨i, _⟩ => hbmTy i
  | _, _ => ⟨S2x256x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_c : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev main_while0c_c_8 : Ref sig .tc := ⟨.hbm, 29, rfl⟩
abbrev main_while0c_v18 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_v0 : Ref sig .tc := ⟨.hbm, 34, rfl⟩
abbrev main_while0b_v18 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_c_1 : Ref sig .tc := ⟨.hbm, 38, rfl⟩
abbrev main_while0b_call1_v0 : Ref sig .tc := ⟨.hbm, 39, rfl⟩
abbrev main_while0b_v19 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_v24 : Ref sig .tc := ⟨.hbm, 45, rfl⟩
abbrev main_while0b_v25 : Ref sig .tc := ⟨.hbm, 46, rfl⟩
abbrev main_while0b_v26 : Ref sig .tc := ⟨.hbm, 47, rfl⟩
abbrev main_while0b_v27 : Ref sig .tc := ⟨.hbm, 48, rfl⟩
abbrev main_while0b_v28 : Ref sig .tc := ⟨.hbm, 49, rfl⟩
abbrev main_while0b_v29 : Ref sig .tc := ⟨.hbm, 50, rfl⟩
abbrev main_while0b_call2_cst : Ref sig .tc := ⟨.hbm, 51, rfl⟩
abbrev main_while0b_call2_v0 : Ref sig .tc := ⟨.hbm, 52, rfl⟩
abbrev main_while0b_call2_v1 : Ref sig .tc := ⟨.hbm, 53, rfl⟩
abbrev main_while0b_call2_v2 : Ref sig .tc := ⟨.hbm, 54, rfl⟩
abbrev main_while0b_call2_v3 : Ref sig .tc := ⟨.hbm, 55, rfl⟩
abbrev main_while0b_call2_v4 : Ref sig .tc := ⟨.hbm, 56, rfl⟩
abbrev main_while0b_call2_v5 : Ref sig .tc := ⟨.hbm, 57, rfl⟩
abbrev main_while0b_call2_v6 : Ref sig .tc := ⟨.hbm, 58, rfl⟩
abbrev main_while0b_call2_v7 : Ref sig .tc := ⟨.hbm, 59, rfl⟩
abbrev main_while0b_call2_v8 : Ref sig .tc := ⟨.hbm, 60, rfl⟩
abbrev main_while0b_call2_v9 : Ref sig .tc := ⟨.hbm, 61, rfl⟩
abbrev main_while0b_call2_v10 : Ref sig .tc := ⟨.hbm, 62, rfl⟩
abbrev main_while0b_call2_v11 : Ref sig .tc := ⟨.hbm, 63, rfl⟩
abbrev main_while0b_v30 : Ref sig .tc := ⟨.hbm, 64, rfl⟩
abbrev main_while0b_v31 : Ref sig .tc := ⟨.hbm, 65, rfl⟩
abbrev main_while0b_cst_8 : Ref sig .tc := ⟨.hbm, 66, rfl⟩
abbrev main_while0b_v32 : Ref sig .tc := ⟨.hbm, 67, rfl⟩
abbrev main_while0b_v33 : Ref sig .tc := ⟨.hbm, 68, rfl⟩
abbrev main_while0b_v34 : Ref sig .tc := ⟨.hbm, 69, rfl⟩
abbrev main_while0b_v35 : Ref sig .tc := ⟨.hbm, 70, rfl⟩
abbrev main_while0b_v36 : Ref sig .tc := ⟨.hbm, 71, rfl⟩
abbrev main_while0b_cst_9 : Ref sig .tc := ⟨.hbm, 72, rfl⟩
abbrev main_while0b_v37 : Ref sig .tc := ⟨.hbm, 73, rfl⟩
abbrev main_while0b_v38 : Ref sig .tc := ⟨.hbm, 74, rfl⟩
abbrev main_while0b_v39 : Ref sig .tc := ⟨.hbm, 75, rfl⟩
abbrev main_while0b_v40 : Ref sig .tc := ⟨.hbm, 76, rfl⟩
abbrev main_while0b_v41 : Ref sig .tc := ⟨.hbm, 77, rfl⟩
abbrev main_while0b_v42 : Ref sig .tc := ⟨.hbm, 78, rfl⟩
abbrev main_while0b_call3_call0_cst : Ref sig .tc := ⟨.hbm, 79, rfl⟩
abbrev main_while0b_call3_call0_v0 : Ref sig .tc := ⟨.hbm, 80, rfl⟩
abbrev main_while0b_v43 : Ref sig .tc := ⟨.hbm, 81, rfl⟩
abbrev main_while0b_v44 : Ref sig .tc := ⟨.hbm, 82, rfl⟩
abbrev main_while0b_v45 : Ref sig .tc := ⟨.hbm, 83, rfl⟩
abbrev main_while0b_v46 : Ref sig .tc := ⟨.hbm, 84, rfl⟩
abbrev main_while0b_v47 : Ref sig .tc := ⟨.hbm, 85, rfl⟩
abbrev main_while0b_v48 : Ref sig .tc := ⟨.hbm, 86, rfl⟩
abbrev main_while0b_v49 : Ref sig .tc := ⟨.hbm, 87, rfl⟩
abbrev main_while0b_v50 : Ref sig .tc := ⟨.hbm, 88, rfl⟩
abbrev main_while0b_v51 : Ref sig .tc := ⟨.hbm, 89, rfl⟩
abbrev main_while0b_v52 : Ref sig .tc := ⟨.hbm, 90, rfl⟩
abbrev main_while0b_v53 : Ref sig .tc := ⟨.hbm, 91, rfl⟩
abbrev main_while0b_v54 : Ref sig .tc := ⟨.hbm, 92, rfl⟩
abbrev main_while0b_v55 : Ref sig .tc := ⟨.hbm, 93, rfl⟩
abbrev main_while0b_v56 : Ref sig .tc := ⟨.hbm, 94, rfl⟩
abbrev main_while0b_v57 : Ref sig .tc := ⟨.hbm, 95, rfl⟩
abbrev main_while0b_c_10 : Ref sig .tc := ⟨.hbm, 96, rfl⟩
abbrev main_while0b_v58 : Ref sig .tc := ⟨.hbm, 97, rfl⟩
abbrev main_while0b_call4_v0 : Ref sig .tc := ⟨.hbm, 98, rfl⟩
abbrev main_while0b_call4_c : Ref sig .tc := ⟨.hbm, 99, rfl⟩
abbrev main_while0b_call4_v1 : Ref sig .tc := ⟨.hbm, 100, rfl⟩
abbrev main_while0b_call4_v2 : Ref sig .tc := ⟨.hbm, 101, rfl⟩
abbrev main_while0b_call4_v3 : Ref sig .tc := ⟨.hbm, 102, rfl⟩
abbrev main_while0b_call4_v4 : Ref sig .tc := ⟨.hbm, 103, rfl⟩
abbrev main_while0b_call4_c_0 : Ref sig .tc := ⟨.hbm, 104, rfl⟩
abbrev main_while0b_call4_v5 : Ref sig .tc := ⟨.hbm, 105, rfl⟩
abbrev main_while0b_v59 : Ref sig .tc := ⟨.hbm, 106, rfl⟩
abbrev main_while0b_cst_11 : Ref sig .tc := ⟨.hbm, 107, rfl⟩
abbrev main_while0b_call5_v0 : Ref sig .tc := ⟨.hbm, 108, rfl⟩
abbrev main_while0b_call5_v1 : Ref sig .tc := ⟨.hbm, 109, rfl⟩
abbrev main_while0b_call5_v2 : Ref sig .tc := ⟨.hbm, 110, rfl⟩
abbrev main_while0b_v60 : Ref sig .tc := ⟨.hbm, 111, rfl⟩
abbrev main_while0b_v61 : Ref sig .tc := ⟨.hbm, 112, rfl⟩
abbrev main_while0b_v62 : Ref sig .tc := ⟨.hbm, 113, rfl⟩
abbrev main_while0b_v63 : Ref sig .tc := ⟨.hbm, 114, rfl⟩
abbrev main_while0b_v64 : Ref sig .tc := ⟨.hbm, 115, rfl⟩
abbrev main_while0b_v65 : Ref sig .tc := ⟨.hbm, 116, rfl⟩
abbrev main_while0b_v66 : Ref sig .tc := ⟨.hbm, 117, rfl⟩
abbrev main_while0b_v67 : Ref sig .tc := ⟨.hbm, 118, rfl⟩
abbrev main_while0b_v68 : Ref sig .tc := ⟨.hbm, 119, rfl⟩
abbrev main_while0b_v69 : Ref sig .tc := ⟨.hbm, 120, rfl⟩
abbrev main_while0b_v70 : Ref sig .tc := ⟨.hbm, 121, rfl⟩
abbrev main_while0b_v71 : Ref sig .tc := ⟨.hbm, 122, rfl⟩
abbrev main_while0b_v72 : Ref sig .tc := ⟨.hbm, 123, rfl⟩
abbrev main_while0b_v73 : Ref sig .tc := ⟨.hbm, 124, rfl⟩
abbrev main_while0b_cst_12 : Ref sig .tc := ⟨.hbm, 125, rfl⟩
abbrev main_while0b_v74 : Ref sig .tc := ⟨.hbm, 126, rfl⟩
abbrev main_while0b_v75 : Ref sig .tc := ⟨.hbm, 127, rfl⟩
abbrev main_while0b_cst_13 : Ref sig .tc := ⟨.hbm, 128, rfl⟩
abbrev main_while0b_v76 : Ref sig .tc := ⟨.hbm, 129, rfl⟩
abbrev main_while0b_v77 : Ref sig .tc := ⟨.hbm, 130, rfl⟩
abbrev main_while0b_cst_14 : Ref sig .tc := ⟨.hbm, 131, rfl⟩
abbrev main_while0b_v78 : Ref sig .tc := ⟨.hbm, 132, rfl⟩
abbrev main_while0b_v79 : Ref sig .tc := ⟨.hbm, 133, rfl⟩
abbrev main_while0b_v80 : Ref sig .tc := ⟨.hbm, 134, rfl⟩
abbrev main_while0b_v81 : Ref sig .tc := ⟨.hbm, 135, rfl⟩
abbrev main_while0b_v82 : Ref sig .tc := ⟨.hbm, 136, rfl⟩
abbrev main_while0b_v83 : Ref sig .tc := ⟨.hbm, 137, rfl⟩
abbrev main_while0b_v84 : Ref sig .tc := ⟨.hbm, 138, rfl⟩
abbrev main_while0b_v85 : Ref sig .tc := ⟨.hbm, 139, rfl⟩
abbrev main_while0b_v86 : Ref sig .tc := ⟨.hbm, 140, rfl⟩
abbrev main_while0b_v87 : Ref sig .tc := ⟨.hbm, 141, rfl⟩
abbrev main_while0b_call6_v0 : Ref sig .tc := ⟨.hbm, 142, rfl⟩
abbrev main_while0b_call6_v1 : Ref sig .tc := ⟨.hbm, 143, rfl⟩
abbrev main_while0b_call6_cst : Ref sig .tc := ⟨.hbm, 144, rfl⟩
abbrev main_while0b_call6_v2 : Ref sig .tc := ⟨.hbm, 145, rfl⟩
abbrev main_while0b_call6_v3 : Ref sig .tc := ⟨.hbm, 146, rfl⟩
abbrev main_while0b_call6_cst_0 : Ref sig .tc := ⟨.hbm, 147, rfl⟩
abbrev main_while0b_call6_v4 : Ref sig .tc := ⟨.hbm, 148, rfl⟩
abbrev main_while0b_call6_v5 : Ref sig .tc := ⟨.hbm, 149, rfl⟩
abbrev main_while0b_v88 : Ref sig .tc := ⟨.hbm, 150, rfl⟩
abbrev main_while0b_v89 : Ref sig .tc := ⟨.hbm, 151, rfl⟩
abbrev main_while0b_call7_v0 : Ref sig .tc := ⟨.hbm, 152, rfl⟩
abbrev main_while0b_call7_c : Ref sig .tc := ⟨.hbm, 153, rfl⟩
abbrev main_while0b_call7_c_0 : Ref sig .tc := ⟨.hbm, 154, rfl⟩
abbrev main_while0b_call7_c_1 : Ref sig .tc := ⟨.hbm, 155, rfl⟩
abbrev main_while0b_v90 : Ref sig .tc := ⟨.hbm, 156, rfl⟩
abbrev main_while0b_c_15 : Ref sig .tc := ⟨.hbm, 157, rfl⟩
abbrev main_while0b_v91 : Ref sig .tc := ⟨.hbm, 158, rfl⟩
abbrev main_v12 : Ref sig .tc := ⟨.hbm, 159, rfl⟩
abbrev main_v13 : Ref sig .tc := ⟨.hbm, 160, rfl⟩
abbrev main_v14 : Ref sig .tc := ⟨.hbm, 161, rfl⟩
abbrev main_v15 : Ref sig .tc := ⟨.hbm, 162, rfl⟩
abbrev main_v16 : Ref sig .tc := ⟨.hbm, 163, rfl⟩
abbrev main_v17 : Ref sig .tc := ⟨.hbm, 164, rfl⟩

abbrev nD : Nat := 1
abbrev τ : Topo := Topo.v7x

variable {F : FTy → Type} [FloatOps F]

abbrev main_while0_count : Scf.Loop 32 := ⟨0#32, 132#32, 1#32⟩
-- ==== Ffn.lean ====
abbrev S2x8192x2048 : Shape := ⟨3, ![2, 8192, 2048]⟩
abbrev S2048 : Shape := ⟨1, ![2048]⟩
abbrev S2x1x2048 : Shape := ⟨3, ![2, 1, 2048]⟩
abbrev S22x2048x512 : Shape := ⟨3, ![22, 2048, 512]⟩
abbrev S3x5632 : Shape := ⟨2, ![3, 5632]⟩
abbrev S5632 : Shape := ⟨1, ![5632]⟩
abbrev S5632x2048 : Shape := ⟨2, ![5632, 2048]⟩
abbrev S_ : Shape := ⟨0, ![]⟩
abbrev S1x1x2048 : Shape := ⟨3, ![1, 1, 2048]⟩
abbrev S16384x2048 : Shape := ⟨2, ![16384, 2048]⟩
abbrev S1x5632 : Shape := ⟨2, ![1, 5632]⟩
abbrev S1024x2048 : Shape := ⟨2, ![1024, 2048]⟩
abbrev S8x2048 : Shape := ⟨2, ![8, 2048]⟩
abbrev S1x2048x512 : Shape := ⟨3, ![1, 2048, 512]⟩
abbrev S3x512 : Shape := ⟨2, ![3, 512]⟩
abbrev S1x512 : Shape := ⟨2, ![1, 512]⟩
abbrev S512x2048 : Shape := ⟨2, ![512, 2048]⟩
abbrev S16x2048 : Shape := ⟨2, ![16, 2048]⟩
abbrev S1024 : Shape := ⟨1, ![1024]⟩
abbrev S1024x1 : Shape := ⟨2, ![1024, 1]⟩
abbrev S1x2048 : Shape := ⟨2, ![1, 2048]⟩
abbrev S8 : Shape := ⟨1, ![8]⟩
abbrev S8x1 : Shape := ⟨2, ![8, 1]⟩
abbrev S2048x512 : Shape := ⟨2, ![2048, 512]⟩
abbrev S1024x512 : Shape := ⟨2, ![1024, 512]⟩
abbrev S16x512 : Shape := ⟨2, ![16, 512]⟩
abbrev S8x512 : Shape := ⟨2, ![8, 512]⟩
abbrev S1024x1024 : Shape := ⟨2, ![1024, 1024]⟩
abbrev S512x1024 : Shape := ⟨2, ![512, 1024]⟩

abbrev nBuf : Space → Nat
  | .hbm => 19
  | .vmem => 25
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S22x2048x512, .bf16⟩
  | .hbm, ⟨5, _⟩ => ⟨S3x5632, .f32⟩
  | .hbm, ⟨6, _⟩ => ⟨S5632, .f32⟩
  | .hbm, ⟨7, _⟩ => ⟨S5632x2048, .f32⟩
  | .hbm, ⟨8, _⟩ => ⟨S2x1x2048, .f32⟩
  | .hbm, ⟨9, _⟩ => ⟨S_, .f32⟩
  | .hbm, ⟨10, _⟩ => ⟨S2x1x2048, .f32⟩
  | .hbm, ⟨11, _⟩ => ⟨S2x1x2048, .f32⟩
  | .hbm, ⟨12, _⟩ => ⟨S1x1x2048, .f32⟩
  | .hbm, ⟨13, _⟩ => ⟨S2x1x2048, .f32⟩
  | .hbm, ⟨14, _⟩ => ⟨S2x1x2048, .f32⟩
  | .hbm, ⟨15, _⟩ => ⟨S16384x2048, .f32⟩
  | .hbm, ⟨16, _⟩ => ⟨S5632x2048, .bf16⟩
  | .hbm, ⟨17, _⟩ => ⟨S1x5632, .f32⟩
  | .hbm, ⟨18, _⟩ => ⟨S16384x2048, .f32⟩
  | .local _ .vmem, ⟨0, _⟩ => ⟨S1024x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S3x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S512x2048, .bf16⟩
  | .local _ .vmem, ⟨18, _⟩ => ⟨S512x2048, .bf16⟩
  | .local _ .vmem, ⟨19, _⟩ => ⟨S1x1x2048, .f32⟩
  | .local _ .vmem, ⟨20, _⟩ => ⟨S1x1x2048, .f32⟩
  | .local _ .vmem, ⟨21, _⟩ => ⟨S1024x2048, .f32⟩
  | .local _ .vmem, ⟨22, _⟩ => ⟨S1024x2048, .f32⟩
  | .local _ .vmem, ⟨23, _⟩ => ⟨S1024x2048, .bf16⟩
  | .local _ .vmem, ⟨24, _⟩ => ⟨S16x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S2x8192x2048 : Shape := ⟨3, ![2, 8192, 2048]⟩
abbrev S2048 : Shape := ⟨1, ![2048]⟩
abbrev S2x1x2048 : Shape := ⟨3, ![2, 1, 2048]⟩
abbrev S22x2048x512 : Shape := ⟨3, ![22, 2048, 512]⟩
abbrev S3x5632 : Shape := ⟨2, ![3, 5632]⟩
abbrev S5632 : Shape := ⟨1, ![5632]⟩
abbrev S5632x2048 : Shape := ⟨2, ![5632, 2048]⟩
abbrev S2048x22x512 : Shape := ⟨3, ![2048, 22, 512]⟩
abbrev S2048x11264 : Shape := ⟨2, ![2048, 11264]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x11264 : Shape := ⟨3, ![2, 8192, 11264]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S16384x2048 : Shape := ⟨2, ![16384, 2048]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S22x2048x512, .bf16⟩
  | .hbm, ⟨5, _⟩ => ⟨S3x5632, .f32⟩
  | .hbm, ⟨6, _⟩ => ⟨S5632, .f32⟩
  | .hbm, ⟨7, _⟩ => ⟨S5632x2048, .f32⟩
  | .hbm, ⟨8, _⟩ => ⟨S2x1x2048, .f32⟩
  | .hbm, ⟨9, _⟩ => ⟨S22x2048x512, .f32⟩
  | .hbm, ⟨10, _⟩ => ⟨S2048x22x512, .f32⟩
  | .hbm, ⟨11, _⟩ => ⟨S2048x11264, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S1x1x2048, .f32⟩
  | .hbm, ⟨26, _⟩ => ⟨S2x8192x2048, .f32⟩
  | .hbm, ⟨27, _⟩ => ⟨S2x8192x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S2x8192x11264, .f32⟩
  | .hbm, ⟨36, _⟩ => ⟨S2x8192x5632, .f32⟩
  | .hbm, ⟨37, _⟩ => ⟨S2x8192x5632, .f32⟩
  | .hbm, ⟨38, _⟩ => ⟨S_, .i32⟩
  | .hbm, ⟨39, _⟩ => ⟨S_, .f32⟩
  | .hbm, ⟨40, _⟩ => ⟨S2x8194x5632, .f32⟩
  | .hbm, ⟨41, _⟩ => ⟨S2x8192x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S2x8192x5632, .f32⟩
  | .hbm, ⟨46, _⟩ => ⟨S2x8192x5632, .f32⟩
  | .hbm, ⟨47, _⟩ => ⟨S2x8192x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S2x8192x5632, .f32⟩
  | .hbm, ⟨52, _⟩ => ⟨S2x8192x5632, .f32⟩
  | .hbm, ⟨53, _⟩ => ⟨S2x8192x5632, .f32⟩
  | .hbm, ⟨54, _⟩ => ⟨S2x8192x5632, .f32⟩
  | .hbm, ⟨55, _⟩ => ⟨S1x5632, .f32⟩
  | .hbm, ⟨56, _⟩ => ⟨S5632, .f32⟩
  | .hbm, ⟨57, _⟩ => ⟨S1x1x5632, .f32⟩
  | .hbm, ⟨58, _⟩ => ⟨S2x8192x5632, .f32⟩
  | .hbm, ⟨59, _⟩ => ⟨S2x8192x5632, .f32⟩
  | .hbm, ⟨60, _⟩ => ⟨S2x8192x5632, .f32⟩
  | .hbm, ⟨61, _⟩ => ⟨S1x1x5632, .f32⟩
  | .hbm, ⟨62, _⟩ => ⟨S2x8192x5632, .f32⟩
  | .hbm, ⟨63, _⟩ => ⟨S2x8192x5632, .f32⟩
  | .hbm, ⟨64, _⟩ => ⟨S2x8192x5632, .f32⟩
  | .hbm, ⟨65, _⟩ => ⟨S2x8192x5632, .f32⟩
  | .hbm, ⟨66, _⟩ => ⟨S_, .f32⟩
  | .hbm, ⟨67, _⟩ => ⟨S2x8192x5632, .f32⟩
  | .hbm, ⟨68, _⟩ => ⟨S2x8192x5632, .f32⟩
  | .hbm, ⟨69, _⟩ => ⟨S_, .f32⟩
  | .hbm, ⟨70, _⟩ => ⟨S2x8192x5632, .f32⟩
  | .hbm, ⟨71, _⟩ => ⟨S2x8192x5632, .f32⟩
  | .hbm, ⟨72, _⟩ => ⟨S2x8192x5632, .f32⟩
  | .hbm, ⟨73, _⟩ => ⟨S2x8192x5632, .f32⟩
  | .hbm, ⟨74, _⟩ => ⟨S2x8192x2048, .f32⟩
  | .hbm, ⟨75, _⟩ => ⟨S2x8192x2048, .f32⟩
  | .hbm, ⟨76, _⟩ => ⟨S2x8192x2048, .f32⟩
  | .hbm, ⟨77, _⟩ => ⟨S2x8192x2048, .f32⟩
  | .hbm, ⟨78, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Merge.lean ====
abbrev S2x8192x2048 : Shape := ⟨3, ![2, 8192, 2048]⟩
abbrev S2048 : Shape := ⟨1, ![2048]⟩
abbrev S2x1x2048 : Shape := ⟨3, ![2, 1, 2048]⟩
abbrev S2x8192x512 : Shape := ⟨3, ![2, 8192, 512]⟩
abbrev S2x8192x1024 : Shape := ⟨3, ![2, 8192, 1024]⟩
abbrev S2048x11296 : Shape := ⟨2, ![2048, 11296]⟩
abbrev S2048x2048 : Shape := ⟨2, ![2048, 2048]⟩
abbrev S_ : Shape := ⟨0, ![]⟩
abbrev S1x1x2048 : Shape := ⟨3, ![1, 1, 2048]⟩
abbrev S2048x6144 : Shape := ⟨2, ![2048, 6144]⟩
abbrev S2048x3x2048 : Shape := ⟨3, ![2048, 3, 2048]⟩
abbrev S3x2048x2048 : Shape := ⟨3, ![3, 2048, 2048]⟩
abbrev S16384x2048 : Shape := ⟨2, ![16384, 2048]⟩
abbrev S16384x512 : Shape := ⟨2, ![16384, 512]⟩
abbrev S16384x1024 : Shape := ⟨2, ![16384, 1024]⟩
abbrev S3x2048x4x512 : Shape := ⟨4, ![3, 2048, 4, 512]⟩
abbrev S4x3x2048x512 : Shape := ⟨4, ![4, 3, 2048, 512]⟩
abbrev S2048x4x512 : Shape := ⟨3, ![2048, 4, 512]⟩
abbrev S4x2048x512 : Shape := ⟨3, ![4, 2048, 512]⟩
abbrev S1024x2048 : Shape := ⟨2, ![1024, 2048]⟩
abbrev S1024x512 : Shape := ⟨2, ![1024, 512]⟩
abbrev S1024x1024 : Shape := ⟨2, ![1024, 1024]⟩
abbrev S1x3x2048x512 : Shape := ⟨4, ![1, 3, 2048, 512]⟩
abbrev S1x2048x512 : Shape := ⟨3, ![1, 2048, 512]⟩
abbrev S1024 : Shape := ⟨1, ![1024]⟩
abbrev S1024x1 : Shape := ⟨2, ![1024, 1]⟩
abbrev S1x2048 : Shape := ⟨2, ![1, 2048]⟩
abbrev S1x1x2048x512 : Shape := ⟨4, ![1, 1, 2048, 512]⟩
abbrev S2048x512 : Shape := ⟨2, ![2048, 512]⟩
abbrev S1x512x512 : Shape := ⟨3, ![1, 512, 512]⟩
abbrev S512x512 : Shape := ⟨2, ![512, 512]⟩
abbrev S1x1024x512 : Shape := ⟨3, ![1, 1024, 512]⟩

abbrev nBuf : Space → Nat
  | .hbm => 29
  | .vmem => 19
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x8192x512, .bf16⟩
  | .hbm, ⟨5, _⟩ => ⟨S2x8192x512, .bf16⟩
  | .hbm, ⟨6, _⟩ => ⟨S2x8192x1024, .bf16⟩
  | .hbm, ⟨7, _⟩ => ⟨S2048x11296, .f32⟩
  | .hbm, ⟨8, _⟩ => ⟨S2048x2048, .f32⟩
  | .hbm, ⟨9, _⟩ => ⟨S_, .f32⟩
  | .hbm, ⟨10, _⟩ => ⟨S2x1x2048, .f32⟩
  | .hbm, ⟨11, _⟩ => ⟨S2x1x2048, .f32⟩
  | .hbm, ⟨12, _⟩ => ⟨S1x1x2048, .f32⟩
  | .hbm, ⟨13, _⟩ => ⟨S2x1x2048, .f32⟩
  | .hbm, ⟨14, _⟩ => ⟨S2x1x2048, .f32⟩
  | .hbm, ⟨15, _⟩ => ⟨S2048x6144, .f32⟩
  | .hbm, ⟨16, _⟩ => ⟨S2048x3x2048, .f32⟩
  | .hbm, ⟨17, _⟩ => ⟨S3x2048x2048, .f32⟩
  | .hbm, ⟨18, _⟩ => ⟨S3x2048x2048, .bf16⟩
  | .hbm, ⟨19, _⟩ => ⟨S2048x2048, .bf16⟩
  | .hbm, ⟨20, _⟩ => ⟨S16384x2048, .f32⟩
  | .hbm, ⟨21, _⟩ => ⟨S16384x512, .bf16⟩
  | .hbm, ⟨22, _⟩ => ⟨S16384x512, .bf16⟩
  | .hbm, ⟨23, _⟩ => ⟨S16384x1024, .bf16⟩
  | .hbm, ⟨24, _⟩ => ⟨S3x2048x4x512, .bf16⟩
  | .hbm, ⟨25, _⟩ => ⟨S4x3x2048x512, .bf16⟩
  | .hbm, ⟨26, _⟩ => ⟨S2048x4x512, .bf16⟩
  | .hbm, ⟨27, _⟩ => ⟨S4x2048x512, .bf16⟩
  | .hbm, ⟨28, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1x3x2048x512, .bf16⟩
  | .local _ .vmem, ⟨13, _⟩ => ⟨S1x3x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1024x512, .bf16⟩
  | .local _ .vmem, ⟨17, _⟩ => ⟨S1024x512, .bf16⟩
  | .local _ .vmem, ⟨18, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S2x8192x2048 : Shape := ⟨3, ![2, 8192, 2048]⟩
abbrev S2048 : Shape := ⟨1, ![2048]⟩
abbrev S2x1x2048 : Shape := ⟨3, ![2, 1, 2048]⟩
abbrev S2x8192x512 : Shape := ⟨3, ![2, 8192, 512]⟩
abbrev S2x8192x1024 : Shape := ⟨3, ![2, 8192, 1024]⟩
abbrev S2048x11296 : Shape := ⟨2, ![2048, 11296]⟩
abbrev S2048x2048 : Shape := ⟨2, ![2048, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x6144 : Shape := ⟨2, ![2048, 6144]⟩
abbrev S2x8192x6144 : Shape := ⟨3, ![2, 8192, 6144]⟩
abbrev S512x2048 : Shape := ⟨2, ![512, 2048]⟩
abbrev S1024x2048 : Shape := ⟨2, ![1024, 2048]⟩
abbrev S16384x2048 : Shape := ⟨2, ![16384, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x8192x512, .bf16⟩
  | .hbm, ⟨5, _⟩ => ⟨S2x8192x512, .bf16⟩
  | .hbm, ⟨6, _⟩ => ⟨S2x8192x1024, .bf16⟩
  | .hbm, ⟨7, _⟩ => ⟨S2048x11296, .f32⟩
  | .hbm, ⟨8, _⟩ => ⟨S2048x2048, .f32⟩
  | .hbm, ⟨9, _⟩ => ⟨S2x8192x512, .f32⟩
  | .hbm, ⟨10, _⟩ => ⟨S2x8192x512, .f32⟩
  | .hbm, ⟨11, _⟩ => ⟨S2x8192x1024, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S1x1x2048, .f32⟩
  | .hbm, ⟨26, _⟩ => ⟨S2x8192x2048, .f32⟩
  | .hbm, ⟨27, _⟩ => ⟨S2x8192x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S2048x6144, .f32⟩
  | .hbm, ⟨36, _⟩ => ⟨S2x8192x6144, .f32⟩
  | .hbm, ⟨37, _⟩ => ⟨S2x8192x6144, .f32⟩
  | .hbm, ⟨38, _⟩ => ⟨S2x8192x6144, .f32⟩
  | .hbm, ⟨39, _⟩ => ⟨S_, .f32⟩
  | .hbm, ⟨40, _⟩ => ⟨S2x8192x6144, .f32⟩
  | .hbm, ⟨41, _⟩ => ⟨S2x8192x6144, .f32⟩
  | .hbm, ⟨42, _⟩ => ⟨S_, .f32⟩
  | .hbm, ⟨43, _⟩ => ⟨S2x8192x6144, .f32⟩
  | .hbm, ⟨44, _⟩ => ⟨S2x8192x6144, .f32⟩
  | .hbm, ⟨45, _⟩ => ⟨S2x8192x2048, .f32⟩
  | .hbm, ⟨46, _⟩ => ⟨S512x2048, .f32⟩
  | .hbm, ⟨47, _⟩ => ⟨S2x8192x2048, .f32⟩
  | .hbm, ⟨48, _⟩ => ⟨S2x8192x2048, .f32⟩
  | .hbm, ⟨49, _⟩ => ⟨S2x8192x2048, .f32⟩
  | .hbm, ⟨50, _⟩ => ⟨S512x2048, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S1024x2048, .f32⟩
  | .hbm, ⟨56, _⟩ => ⟨S2x8192x2048, .f32⟩
  | .hbm, ⟨57, _⟩ => ⟨S2x8192x2048, .f32⟩
  | .hbm, ⟨58, _⟩ => ⟨S2x8192x2048, .f32⟩
  | .hbm, ⟨59, _⟩ => ⟨S2x8192x2048, .bf16⟩
  | .hbm, ⟨60, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proj.lean ====
abbrev S2x8192x2048 : Shape := ⟨3, ![2, 8192, 2048]⟩
abbrev S2048 : Shape := ⟨1, ![2048]⟩
abbrev S2x1x2048 : Shape := ⟨3, ![2, 1, 2048]⟩
abbrev S2048x11296 : Shape := ⟨2, ![2048, 11296]⟩
abbrev S_ : Shape := ⟨0, ![]⟩
abbrev S1x1x2048 : Shape := ⟨3, ![1, 1, 2048]⟩
abbrev S2048x512 : Shape := ⟨2, ![2048, 512]⟩
abbrev S2048x1536 : Shape := ⟨2, ![2048, 1536]⟩
abbrev S2048x1024 : Shape := ⟨2, ![2048, 1024]⟩
abbrev S2048x32 : Shape := ⟨2, ![2048, 32]⟩
abbrev S2048x224 : Shape := ⟨2, ![2048, 224]⟩
abbrev S2048x5376 : Shape := ⟨2, ![2048, 5376]⟩
abbrev S16384x2048 : Shape := ⟨2, ![16384, 2048]⟩
abbrev S2048x3x1792 : Shape := ⟨3, ![2048, 3, 1792]⟩
abbrev S3x2048x1792 : Shape := ⟨3, ![3, 2048, 1792]⟩
abbrev S16384x5376 : Shape := ⟨2, ![16384, 5376]⟩
abbrev S1024x2048 : Shape := ⟨2, ![1024, 2048]⟩
abbrev S1x2048x1792 : Shape := ⟨3, ![1, 2048, 1792]⟩
abbrev S1024x1792 : Shape := ⟨2, ![1024, 1792]⟩
abbrev S1024 : Shape := ⟨1, ![1024]⟩
abbrev S1024x1 : Shape := ⟨2, ![1024, 1]⟩
abbrev S1x2048 : Shape := ⟨2, ![1, 2048]⟩
abbrev S2048x1792 : Shape := ⟨2, ![2048, 1792]⟩

abbrev nBuf : Space → Nat
  | .hbm => 26
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x11296, .f32⟩
  | .hbm, ⟨5, _⟩ => ⟨S_, .f32⟩
  | .hbm, ⟨6, _⟩ => ⟨S2x1x2048, .f32⟩
  | .hbm, ⟨7, _⟩ => ⟨S2x1x2048, .f32⟩
  | .hbm, ⟨8, _⟩ => ⟨S1x1x2048, .f32⟩
  | .hbm, ⟨9, _⟩ => ⟨S2x1x2048, .f32⟩
  | .hbm, ⟨10, _⟩ => ⟨S2x1x2048, .f32⟩
  | .hbm, ⟨11, _⟩ => ⟨S2048x512, .f32⟩
  | .hbm, ⟨12, _⟩ => ⟨S2048x1536, .f32⟩
  | .hbm, ⟨13, _⟩ => ⟨S2048x1024, .f32⟩
  | .hbm, ⟨14, _⟩ => ⟨S2048x512, .f32⟩
  | .hbm, ⟨15, _⟩ => ⟨S2048x512, .f32⟩
  | .hbm, ⟨16, _⟩ => ⟨S2048x1024, .f32⟩
  | .hbm, ⟨17, _⟩ => ⟨S2048x32, .f32⟩
  | .hbm, ⟨18, _⟩ => ⟨S_, .f32⟩
  | .hbm, ⟨19, _⟩ => ⟨S2048x224, .f32⟩
  | .hbm, ⟨20, _⟩ => ⟨S2048x5376, .f32⟩
  | .hbm, ⟨21, _⟩ => ⟨S2048x5376, .bf16⟩
  | .hbm, ⟨22, _⟩ => ⟨S16384x2048, .f32⟩
  | .hbm, ⟨23, _⟩ => ⟨S2048x3x1792, .bf16⟩
  | .hbm, ⟨24, _⟩ => ⟨S3x2048x1792, .bf16⟩
  | .hbm, ⟨25, _⟩ => ⟨S16384x5376, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x1792, .bf16⟩
  | .local _ .vmem, ⟨7, _⟩ => ⟨S1x2048x1792, .bf16⟩
  | .local _ .vmem, ⟨8, _⟩ => ⟨S1024x1792, .f32⟩
  | .local _ .vmem, ⟨9, _⟩ => ⟨S1024x1792, .f32⟩
  | .local _ .vmem, ⟨10, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S2x8192x2048 : Shape := ⟨3, ![2, 8192, 2048]⟩
abbrev S2048 : Shape := ⟨1, ![2048]⟩
abbrev S2x1x2048 : Shape := ⟨3, ![2, 1, 2048]⟩
abbrev S2048x11296 : Shape := ⟨2, ![2048, 11296]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x5152 : Shape := ⟨2, ![2048, 5152]⟩
abbrev S2x8192x5152 : Shape := ⟨3, ![2, 8192, 5152]⟩
abbrev S2x8192x512 : Shape := ⟨3, ![2, 8192, 512]⟩
abbrev S2x8192x1536 : Shape := ⟨3, ![2, 8192, 1536]⟩
abbrev S2x8192x1024 : Shape := ⟨3, ![2, 8192, 1024]⟩
abbrev S2x8192x32 : Shape := ⟨3, ![2, 8192, 32]⟩
abbrev S2x8192x224 : Shape := ⟨3, ![2, 8192, 224]⟩
abbrev S2x8192x5376 : Shape := ⟨3, ![2, 8192, 5376]⟩
abbrev S16384x5376 : Shape := ⟨2, ![16384, 5376]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x11296, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2048x5152, .f32⟩
  | .hbm, ⟨29, _⟩ => ⟨S2x8192x5152, .f32⟩
  | .hbm, ⟨30, _⟩ => ⟨S2x8192x512, .f32⟩
  | .hbm, ⟨31, _⟩ => ⟨S2x8192x1536, .f32⟩
  | .hbm, ⟨32, _⟩ => ⟨S2x8192x1024, .f32⟩
  | .hbm, ⟨33, _⟩ => ⟨S2x8192x512, .f32⟩
  | .hbm, ⟨34, _⟩ => ⟨S2x8192x512, .f32⟩
  | .hbm, ⟨35, _⟩ => ⟨S2x8192x1024, .f32⟩
  | .hbm, ⟨36, _⟩ => ⟨S2x8192x32, .f32⟩
  | .hbm, ⟨37, _⟩ => ⟨S_, .f32⟩
  | .hbm, ⟨38, _⟩ => ⟨S2x8192x224, .f32⟩
  | .hbm, ⟨39, _⟩ => ⟨S2x8192x5376, .f32⟩
  | .hbm, ⟨40, _⟩ => ⟨S16384x5376, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S2x8192x2048 : Shape := ⟨3, ![2, 8192, 2048]⟩
abbrev S2x1x2048 : Shape := ⟨3, ![2, 1, 2048]⟩
abbrev S2048x1x2048 : Shape := ⟨3, ![2048, 1, 2048]⟩
abbrev S1x2048x2048 : Shape := ⟨3, ![1, 2048, 2048]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2x8192x2048, .f32⟩
  | .hbm, ⟨3, _⟩ => ⟨S2x1x2048, .f32⟩
  | .hbm, ⟨4, _⟩ => ⟨S2048x2048, .bf16⟩
  | .hbm, ⟨5, _⟩ => ⟨S16384x2048, .f32⟩
  | .hbm, ⟨6, _⟩ => ⟨S2048x1x2048, .bf16⟩
  | .hbm, ⟨7, _⟩ => ⟨S1x2048x2048, .bf16⟩
  | .hbm, ⟨8, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1024x2048, .f32⟩
  | .local _ .vmem, ⟨4, _⟩ => ⟨S1024x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .f32⟩
  | .local _ .vmem, ⟨8, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S16384x2048 : Shape := ⟨2, ![16384, 2048]⟩
abbrev S2048x2048 : Shape := ⟨2, ![2048, 2048]⟩
abbrev S2x8192x2048 : Shape := ⟨3, ![2, 8192, 2048]⟩
abbrev S2x1x2048 : Shape := ⟨3, ![2, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2x8192x2048, .f32⟩
  | .hbm, ⟨3, _⟩ => ⟨S2x1x2048, .f32⟩
  | .hbm, ⟨4, _⟩ => ⟨S16384x2048, .f32⟩
  | .hbm, ⟨5, _⟩ => ⟨S2x8192x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Norm.lean ====
abbrev S2x8192x2048 : Shape := ⟨3, ![2, 8192, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2x8192x2048 : Shape := ⟨3, ![2, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x8192x2048, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x2048, .f32⟩
  | .hbm, ⟨14, _⟩ => ⟨S2x8192x2048, .f32⟩
  | .hbm, ⟨15, _⟩ => ⟨S1x1x2048, .f32⟩
  | .hbm, ⟨16, _⟩ => ⟨S2x8192x2048, .f32⟩
  | .hbm, ⟨17, _⟩ => ⟨S2x8192x2048, .f32⟩
  | .hbm, ⟨18, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.GlaPoints.lean ====
/- The points of the attention call's grid (idealized): 33 to a batch element, the first of them (the context) under the
   first two conditions of the body, the other 32 (the latents) under the third. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The state is reset: the second coordinate is zero. -/
abbrev Reset (i : grid0.Coords) : Prop := (Scalar.cmpi .ne (Scalar.extui (Scalar.cmpi .eq (BitVec.ofNat 32 (i 1).val) 0#32)) 0#32) = 1#1
/-- The context's output is stored. -/
abbrev Ctx (i : grid0.Coords) : Prop := k0_cond2 i = 1#1
/-- The latents' output is stored. -/
abbrev Lat (i : grid0.Coords) : Prop := k0_cond3 i = 1#1

theorem reset_iff : ∀ t : Fin cfg0.N, Reset (grid0.coords t) ↔ t.val % 33 = 0 :=
  (by decide +kernel : ∀ t : Fin grid0.N, Reset (grid0.coords t) ↔ t.val % 33 = 0)
theorem ctx_iff : ∀ t : Fin cfg0.N, Ctx (grid0.coords t) ↔ t.val % 33 = 0 :=
  (by decide +kernel : ∀ t : Fin grid0.N, Ctx (grid0.coords t) ↔ t.val % 33 = 0)
theorem lat_iff : ∀ t : Fin cfg0.N, Lat (grid0.coords t) ↔ ¬ t.val % 33 = 0 :=
  (by decide +kernel : ∀ t : Fin grid0.N, Lat (grid0.coords t) ↔ ¬ t.val % 33 = 0)

/-- The inputs are never idle. -/
theorem live_in : ∀ (w : Fin cfg0.W) (_ : w.val < 15) (t : Fin cfg0.N), cfg0.idle w (grid0.coords t) = false :=
  (by decide +kernel : ∀ (w : Fin cfg0.W) (_ : w.val < 15) (t : Fin grid0.N), cfg0.idle w (grid0.coords t) = false)
/-- The context's window is idle exactly at the latents' points. -/
theorem idle_ctx : ∀ t : Fin cfg0.N, cfg0.idle 15 (grid0.coords t) = !decide (t.val % 33 = 0) :=
  (by decide +kernel : ∀ t : Fin grid0.N, cfg0.idle 15 (grid0.coords t) = !decide (t.val % 33 = 0))
/-- The latents' window is idle exactly at the context's points. -/
theorem idle_lat : ∀ t : Fin cfg0.N, cfg0.idle 16 (grid0.coords t) = decide (t.val % 33 = 0) :=
  (by decide +kernel : ∀ t : Fin grid0.N, cfg0.idle 16 (grid0.coords t) = decide (t.val % 33 = 0))
/-- The context's window is written back at the end of each batch element. -/
theorem flush_ctx : ∀ t : Fin cfg0.N, (cfg0.win 15).flush t = decide (t.val % 33 = 32) := by decide +kernel
/-- The latents' window is written back at each of the latents' points. -/
theorem flush_lat : ∀ t : Fin cfg0.N, (cfg0.win 16).flush t = !decide (t.val % 33 = 0) := by decide +kernel
/-- Before which points the context's window holds nothing stored: before the first of each batch element. -/
def freshTab (n : ℕ) : Bool := decide (n % 33 = 0)
theorem freshTab_step : ∀ t : Fin cfg0.N,
    freshTab (t.val + 1) = ((cfg0.win 15).flush t || (cfg0.idle 15 (cfg0.grid.coords t) && freshTab t.val)) := by decide +kernel
theorem fresh_ctx (t : Fin cfg0.N) : cfg0.fresh 15 t.val = decide (t.val % 33 = 0) :=
  Pipeline.Cfg.fresh_tab cfg0 15 freshTab rfl freshTab_step t.val (Nat.le_of_lt t.isLt)

/-- The scratch that carries the state, and the one that holds a step's output. -/
abbrev stateM : Memref sig .tc .vmem S4x256x128 .f32 := Memref.whole cc0_scratch0
abbrev outM : Memref sig .tc .vmem S256x1024 .f32 := Memref.whole cc0_scratch1
/-- Views the contents of the outputs and of the state are read through. -/
abbrev ctxV : View sig .tc .vmem S1x256x1024 .bf16 := (Memref.whole cc0_stg15_0 : Memref sig .tc .vmem S1x256x1024 .bf16).view
abbrev latV : View sig .tc .vmem S1x256x1024 .bf16 := (Memref.whole cc0_stg16_0 : Memref sig .tc .vmem S1x256x1024 .bf16).view
abbrev stateV : View sig .tc .vmem S4x256x128 .f32 := stateM.view

/-- What a region is entered with: the two scratches and the generator's register at anything. -/
theorem entered_eq (c : Dev nD) :
    (Pipeline.ΦA spec0 c : sProp 𝕄)
      = iprop(iprop((∃ d, owns (c : Thread nD τ) stateM fullShare d) ∗ (∃ d, owns (c : Thread nD τ) outM fullShare d)) ∗ (∃ r, prngReg c r)) := by
  unfold Pipeline.ΦA; rw [scopedRest0_eq]; simp only [stateM, outM, owns_whole]; try rfl

end Cert.KernelIdeal.Gla

end
-- ==== Proof.GlaRunCtx.lean ====
/- The attention call's body run once at a point of the context: the state is reset first, and the output of the latents is left alone. -/
module

public import proofs.«01_k».proof.Proof.GlaPoints

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- What the body stores into the output, the state and the step's scratch, as pieces, with its triple
    (the context: the state is reset first, and the output of the latents is left alone). -/
noncomputable def runCtx (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x1024 .f32) (harg4 : arg4.IsWhole) (arg5 : Memref sig .tc .vmem S1x256x256 .f32) (harg5 : arg5.IsWhole) (arg6 : Memref sig .tc .vmem S1x128x8x512 .f32) (harg6 : arg6.IsWhole) (arg7 : Memref sig .tc .vmem S1x128x8x512 .f32) (harg7 : arg7.IsWhole) (arg8 : Memref sig .tc .vmem S1x128x8x1024 .f32) (harg8 : arg8.IsWhole) (arg9 : Memref sig .tc .vmem S1x128x8x256 .f32) (harg9 : arg9.IsWhole) (arg10 : Memref sig .tc .vmem S32x512 .f32) (harg10 : arg10.IsWhole) (arg11 : Memref sig .tc .vmem S1x512 .f32) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256 .f32) (harg14 : arg14.IsWhole) (arg15 : Memref sig .tc .vmem S1x256x1024 .f32) (harg15 : arg15.IsWhole) (arg16 : Memref sig .tc .vmem S1x128x8x1024 .f32) (harg16 : arg16.IsWhole) (arg17 : Memref sig .tc .vmem S1x256x1024 .bf16) (harg17 : arg17.IsWhole) (arg18 : Memref sig .tc .vmem S1x256x1024 .bf16) (harg18 : arg18.IsWhole) (arg19 : Memref sig .tc .vmem S4x256x128 .f32) (harg19 : arg19.IsWhole) (arg20 : Memref sig .tc .vmem S256x1024 .f32) (harg20 : arg20.IsWhole) (hc0 : Reset i) (hc1 : Ctx i) (hc2 : ¬Lat i)
    (x0 : Vec F S1x256x512 .f32) (x1 : Vec F S1x256x512 .f32) (x2 : Vec F S1x256x1024 .f32) (x3 : Vec F S1x256x256 .f32) (x4 : Vec F S1x128x8x512 .f32) (x5 : Vec F S1x128x8x512 .f32) (x6 : Vec F S1x128x8x1024 .f32) (x7 : Vec F S1x128x8x256 .f32) (x8 : Vec F S32x512 .f32) (x9 : Vec F S1x512 .f32) (x10 : Vec F S1x256x1024 .f32) (x11 : Vec F S1x256x1024 .f32) (x12 : Vec F S1x256 .f32) (x13 : Vec F S1x256x1024 .f32) (x14 : Vec F S1x128x8x1024 .f32) :
    Σ' (L : List (View.Piece (Elt F) S1x256x1024 .bf16)), Σ' (LS : List (View.Piece (Elt F) S4x256x128 .f32)), { LT : List (View.Piece (Elt F) S256x1024 .f32) //
      ∀ (xi : Vec F S1x256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xi ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L) ∗ owns (c : Thread nD τ) arg18 fullShare xi ∗ (∃ f, arg19.view.loc (c : Thread nD τ) ↦[arg19.view.set]{fullShare} arg19.view.writes (Elt F) f LS) ∗ (∃ f, arg20.view.loc (c : Thread nD τ) ↦[arg20.view.set]{fullShare} arg20.view.writes (Elt F) f LT)) -∗ K ⟨⟩))
          ⊢ wp frame (wpE (defs₀ (F := F)) Variants.none c none) E (cc0_gla_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun xi E K => ?run⟩
  case run =>
    simp only [cc0_gla_fwd_eq_skeleton]; unfold cc0_gla_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hf16
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]
    · iexists _; isplitr; · ipureintro; exact harg18.read_unread _
      iexact H16
    isplitl [HS0]; · iexists _; iexact HS0
    iexists _; iexact HS1

end Cert.KernelIdeal.Gla

end
-- ==== Proof.GlaRunLat.lean ====
/- The attention call's body run once at a point of latents: the state is what the point before left, and the output of the context is left alone. -/
module

public import proofs.«01_k».proof.Proof.GlaRunCtx

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- What the body stores into the output, the state and the step's scratch, as pieces, with its triple
    (latents: the state is what the point before left, and the output of the context is left alone). -/
noncomputable def runLat (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x1024 .f32) (harg4 : arg4.IsWhole) (arg5 : Memref sig .tc .vmem S1x256x256 .f32) (harg5 : arg5.IsWhole) (arg6 : Memref sig .tc .vmem S1x128x8x512 .f32) (harg6 : arg6.IsWhole) (arg7 : Memref sig .tc .vmem S1x128x8x512 .f32) (harg7 : arg7.IsWhole) (arg8 : Memref sig .tc .vmem S1x128x8x1024 .f32) (harg8 : arg8.IsWhole) (arg9 : Memref sig .tc .vmem S1x128x8x256 .f32) (harg9 : arg9.IsWhole) (arg10 : Memref sig .tc .vmem S32x512 .f32) (harg10 : arg10.IsWhole) (arg11 : Memref sig .tc .vmem S1x512 .f32) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256 .f32) (harg14 : arg14.IsWhole) (arg15 : Memref sig .tc .vmem S1x256x1024 .f32) (harg15 : arg15.IsWhole) (arg16 : Memref sig .tc .vmem S1x128x8x1024 .f32) (harg16 : arg16.IsWhole) (arg17 : Memref sig .tc .vmem S1x256x1024 .bf16) (harg17 : arg17.IsWhole) (arg18 : Memref sig .tc .vmem S1x256x1024 .bf16) (harg18 : arg18.IsWhole) (arg19 : Memref sig .tc .vmem S4x256x128 .f32) (harg19 : arg19.IsWhole) (arg20 : Memref sig .tc .vmem S256x1024 .f32) (harg20 : arg20.IsWhole) (hc0 : ¬Reset i) (hc1 : ¬Ctx i) (hc2 : Lat i)
    (x0 : Vec F S1x256x512 .f32) (x1 : Vec F S1x256x512 .f32) (x2 : Vec F S1x256x1024 .f32) (x3 : Vec F S1x256x256 .f32) (x4 : Vec F S1x128x8x512 .f32) (x5 : Vec F S1x128x8x512 .f32) (x6 : Vec F S1x128x8x1024 .f32) (x7 : Vec F S1x128x8x256 .f32) (x8 : Vec F S32x512 .f32) (x9 : Vec F S1x512 .f32) (x10 : Vec F S1x256x1024 .f32) (x11 : Vec F S1x256x1024 .f32) (x12 : Vec F S1x256 .f32) (x13 : Vec F S1x256x1024 .f32) (x14 : Vec F S1x128x8x1024 .f32) (xs : Vec F S4x256x128 .f32) :
    Σ' (L : List (View.Piece (Elt F) S1x256x1024 .bf16)), Σ' (LS : List (View.Piece (Elt F) S4x256x128 .f32)), { LT : List (View.Piece (Elt F) S256x1024 .f32) //
      ∀ (xi : Vec F S1x256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi ∗ (∃ d, owns (c : Thread nD τ) arg18 fullShare d) ∗ owns (c : Thread nD τ) arg19 fullShare xs ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi ∗ (∃ f, arg18.view.loc (c : Thread nD τ) ↦[arg18.view.set]{fullShare} arg18.view.writes (Elt F) f L) ∗ (∃ f, arg19.view.loc (c : Thread nD τ) ↦[arg19.view.set]{fullShare} arg19.view.writes (Elt F) f LS) ∗ (∃ f, arg20.view.loc (c : Thread nD τ) ↦[arg20.view.set]{fullShare} arg20.view.writes (Elt F) f LT)) -∗ K ⟨⟩))
          ⊢ wp frame (wpE (defs₀ (F := F)) Variants.none c none) E (cc0_gla_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun xi E K => ?run⟩
  case run =>
    simp only [cc0_gla_fwd_eq_skeleton]; unfold cc0_gla_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [HS0]; · iexists _; iexact HS0
    iexists _; iexact HS1

end Cert.KernelIdeal.Gla

end
-- ==== Proof.GlaFrame.lean ====
/- The attention call's frame: what each point leaves, the body at any point, and the run. The context's output is
   stored at the first point of a batch element and written back 32 points later, the body leaving it alone between. -/
module

public import proofs.«01_k».proof.Proof.GlaRunLat
public import Idealize.ShloMosaic.Lib.Claim

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's staging memref at a point. -/

abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x8x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x8x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128x8x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x1024 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256x1024 .bf16 := win0_16.stage (cfg0.slots t 16)
abbrev hs0_16 (t : Fin cfg0.N) : (ms0_16 t).IsWhole := hstage0_16 ((cfg0.slots t 16).cast nbuf0_16)

/-- The body's run at a point of the context. -/
def atCtx (c : Dev nD) (t : Fin cfg0.N) (h : t.val % 33 = 0) :=
  runCtx (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) stateM (Memref.isWhole_whole _) outM (Memref.isWhole_whole _) ((reset_iff t).mpr h) ((ctx_iff t).mpr h) (fun h' => (lat_iff t).mp h' h) (X0_0 m c t) (X0_1 m c t) (X0_2 m c t) (iblk m c 3 t) (X0_4 m c t) (X0_5 m c t) (X0_6 m c t) (iblk m c 7 t) (iblk m c 8 t) (iblk m c 9 t) (iblk m c 10 t) (iblk m c 11 t) (iblk m c 12 t) (X0_13 m c t) (X0_14 m c t)
/-- The body's run at a point of the latents, over the state `s`. -/
def atLat (c : Dev nD) (t : Fin cfg0.N) (h : ¬t.val % 33 = 0) (s : Vec F S4x256x128 .f32) :=
  runLat (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) stateM (Memref.isWhole_whole _) outM (Memref.isWhole_whole _) (fun h' => h ((reset_iff t).mp h')) (fun h' => h ((ctx_iff t).mp h')) ((lat_iff t).mpr h) (X0_0 m c t) (X0_1 m c t) (X0_2 m c t) (iblk m c 3 t) (X0_4 m c t) (X0_5 m c t) (X0_6 m c t) (iblk m c 7 t) (iblk m c 8 t) (iblk m c 9 t) (iblk m c 10 t) (iblk m c 11 t) (iblk m c 12 t) (X0_13 m c t) (X0_14 m c t) s

theorem out_cover_ctx (c : Dev nD) (t : Fin cfg0.N) (h : t.val % 33 = 0) (y : S1x256x1024.Idx) :
    ∃ pc ∈ (atCtx m c t h).1, y ∈ pc.1.set :=
  View.cover_of_tiledL (atCtx m c t h).1 S1x256x1024.size (by sl_kernel_rfl) y
theorem state_cover_ctx (c : Dev nD) (t : Fin cfg0.N) (h : t.val % 33 = 0) (y : S4x256x128.Idx) :
    ∃ pc ∈ (atCtx m c t h).2.1, y ∈ pc.1.set :=
  View.cover_of_wholeMem (atCtx m c t h).2.1 (by unfold atCtx; sl_whole_mem) y
theorem out_cover_lat (c : Dev nD) (t : Fin cfg0.N) (h : ¬t.val % 33 = 0) (s : Vec F S4x256x128 .f32) (y : S1x256x1024.Idx) :
    ∃ pc ∈ (atLat m c t h s).1, y ∈ pc.1.set :=
  View.cover_of_tiledL (atLat m c t h s).1 S1x256x1024.size (by sl_kernel_rfl) y
theorem state_cover_lat (c : Dev nD) (t : Fin cfg0.N) (h : ¬t.val % 33 = 0) (s : Vec F S4x256x128 .f32) (y : S4x256x128.Idx) :
    ∃ pc ∈ (atLat m c t h s).2.1, y ∈ pc.1.set :=
  View.cover_of_tiledL (atLat m c t h s).2.1 S1x256x128.size (by sl_kernel_rfl) y

/-- What a point of the context leaves in its output and in the state. -/
def ctxOut (c : Dev nD) (t : Fin cfg0.N) (h : t.val % 33 = 0) : Vec F S1x256x1024 .bf16 :=
  ctxV.read (Elt F) (ctxV.writes (Elt F) ctxV.junk (atCtx m c t h).1)
def ctxState (c : Dev nD) (t : Fin cfg0.N) (h : t.val % 33 = 0) : Vec F S4x256x128 .f32 :=
  stateV.read (Elt F) (stateV.writes (Elt F) stateV.junk (atCtx m c t h).2.1)
/-- What a point of the latents leaves in its output and in the state. -/
def latOut (c : Dev nD) (t : Fin cfg0.N) (h : ¬t.val % 33 = 0) (s : Vec F S4x256x128 .f32) : Vec F S1x256x1024 .bf16 :=
  latV.read (Elt F) (latV.writes (Elt F) latV.junk (atLat m c t h s).1)
def latState (c : Dev nD) (t : Fin cfg0.N) (h : ¬t.val % 33 = 0) (s : Vec F S4x256x128 .f32) : Vec F S4x256x128 .f32 :=
  stateV.read (Elt F) (stateV.writes (Elt F) stateV.junk (atLat m c t h s).2.1)

/-- What the context's output, the latents' output and the state hold after a point. -/
def left (c : Dev nD) : (n : ℕ) → n < cfg0.N → Vec F S1x256x1024 .bf16 × Vec F S1x256x1024 .bf16 × Vec F S4x256x128 .f32
  | 0, hn => (ctxOut m c ⟨0, hn⟩ rfl, latV.read (Elt F) latV.junk, ctxState m c ⟨0, hn⟩ rfl)
  | n + 1, hn =>
    if h : (n + 1) % 33 = 0 then
      (ctxOut m c ⟨n + 1, hn⟩ h, latV.read (Elt F) latV.junk, ctxState m c ⟨n + 1, hn⟩ h)
    else
      ((left c n (Nat.lt_of_succ_lt hn)).1, latOut m c ⟨n + 1, hn⟩ h (left c n (Nat.lt_of_succ_lt hn)).2.2,
        latState m c ⟨n + 1, hn⟩ h (left c n (Nat.lt_of_succ_lt hn)).2.2)

theorem left_ctx (c : Dev nD) (t : Fin cfg0.N) (h : t.val % 33 = 0) :
    left m c t.val t.isLt = (ctxOut m c t h, latV.read (Elt F) latV.junk, ctxState m c t h) := by
  obtain ⟨n, hn⟩ := t
  cases n with
  | zero => rfl
  | succ n => exact dif_pos h

theorem left_lat (c : Dev nD) (t : Fin cfg0.N) (h : ¬t.val % 33 = 0) :
    left m c t.val t.isLt = ((left m c (t.val - 1) (Nat.lt_of_le_of_lt (Nat.sub_le _ _) t.isLt)).1,
      latOut m c t h (left m c (t.val - 1) (Nat.lt_of_le_of_lt (Nat.sub_le _ _) t.isLt)).2.2,
      latState m c t h (left m c (t.val - 1) (Nat.lt_of_le_of_lt (Nat.sub_le _ _) t.isLt)).2.2) := by
  obtain ⟨n, hn⟩ := t
  cases n with
  | zero => exact absurd (Nat.zero_mod _) h
  | succ n => exact dif_neg h

/-- The invariant before a position: the state at what the point before left. -/
def Inv (c : Dev nD) : (n : ℕ) → n ≤ cfg0.N → sProp 𝕄
  | 0, _ => Pipeline.ΦA spec0 c
  | n + 1, hn => iprop(iprop(owns (c : Thread nD τ) stateM fullShare ((left m c n hn).2.2) ∗ (∃ d, owns (c : Thread nD τ) outM fullShare d)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) stateM fullShare ((left m c n hn).2.2) ∗ (∃ d, owns (c : Thread nD τ) outM fullShare d)) ∗ (∃ r, prngReg c r)) := rfl
theorem Inv_pos (c : Dev nD) (n : ℕ) (h : n ≤ cfg0.N) (hz : n ≠ 0) :
    Inv m c n h = iprop(iprop(owns (c : Thread nD τ) stateM fullShare ((left m c (n - 1) (by omega)).2.2) ∗ (∃ d, owns (c : Thread nD τ) outM fullShare d)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => X0_4 m c t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => X0_13 m c t
    | ⟨14, _⟩ => X0_14 m c t
    | ⟨15, _⟩ => (left m c t.val t.isLt).1
    | ⟨16, _⟩ => (left m c t.val t.isLt).2.1
    | ⟨_ + 17, h⟩ => absurd h (Nat.not_lt.2 (Nat.le_add_left _ _))
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = X0_13 m c t := by dsimp only [dats]
theorem after0_14 (c : Dev nD) (t : Fin cfg0.N) : (dats m 0 c).after 14 t = X0_14 m c t := by dsimp only [dats]
theorem after0_15 (c : Dev nD) (t : Fin cfg0.N) : (dats m 0 c).after 15 t = (left m c t.val t.isLt).1 := by dsimp only [dats]
theorem after0_16 (c : Dev nD) (t : Fin cfg0.N) : (dats m 0 c).after 16 t = (left m c t.val t.isLt).2.1 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = X0_13 m c t :=
  before0_13_of m (dats m 0 c) (A_eq m c 13) (after0_13 m c) t d
theorem before0_14 (c : Dev nD) (t : Fin cfg0.N) (d) : (dats m 0 c).before 14 t d = X0_14 m c t :=
  before0_14_of m (dats m 0 c) (A_eq m c 14) (after0_14 m c) t d

/-- The context's output carries through the points of the latents. -/
theorem carry_ctx (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ _ hf
  rw [fresh_ctx] at hf
  rw [after0_15, after0_15, left_lat m c t (of_decide_eq_false hf)]
/-- Before a point of the latents the context's output is what the point before left. -/
theorem before_ctx (c : Dev nD) (t : Fin cfg0.N) (h : ¬t.val % 33 = 0) (d) :
    (dats m 0 c).before 15 t d = (left m c (t.val - 1) (Nat.lt_of_le_of_lt (Nat.sub_le _ _) t.isLt)).1 := by
  rw [Dat.before_out_traj _ 15 rfl (fun _ _ => rfl) (carry_ctx m c) t.val t rfl d,
    if_neg (by rw [fresh_ctx, decide_eq_false h]; exact Bool.false_ne_true)]
  dsimp only [dats]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = Inv m c (t.val + 1) t.isLt from rfl, Inv_succ]
  rw [show (dats m 0 c).leavesExact 0 t = owns (c : Thread nD τ) (ms0_0 t) fullShare ((dats m 0 c).after 0 t) from by
    unfold Dat.leavesExact; rw [live_in 0 (by decide) t], after0_0]
  rw [show (dats m 0 c).leavesExact 1 t = owns (c : Thread nD τ) (ms0_1 t) fullShare ((dats m 0 c).after 1 t) from by
    unfold Dat.leavesExact; rw [live_in 1 (by decide) t], after0_1]
  rw [show (dats m 0 c).leavesExact 2 t = owns (c : Thread nD τ) (ms0_2 t) fullShare ((dats m 0 c).after 2 t) from by
    unfold Dat.leavesExact; rw [live_in 2 (by decide) t], after0_2]
  rw [show (dats m 0 c).leavesExact 3 t = owns (c : Thread nD τ) (ms0_3 t) fullShare ((dats m 0 c).after 3 t) from by
    unfold Dat.leavesExact; rw [live_in 3 (by decide) t], after0_3]
  rw [show (dats m 0 c).leavesExact 4 t = owns (c : Thread nD τ) (ms0_4 t) fullShare ((dats m 0 c).after 4 t) from by
    unfold Dat.leavesExact; rw [live_in 4 (by decide) t], after0_4]
  rw [show (dats m 0 c).leavesExact 5 t = owns (c : Thread nD τ) (ms0_5 t) fullShare ((dats m 0 c).after 5 t) from by
    unfold Dat.leavesExact; rw [live_in 5 (by decide) t], after0_5]
  rw [show (dats m 0 c).leavesExact 6 t = owns (c : Thread nD τ) (ms0_6 t) fullShare ((dats m 0 c).after 6 t) from by
    unfold Dat.leavesExact; rw [live_in 6 (by decide) t], after0_6]
  rw [show (dats m 0 c).leavesExact 7 t = owns (c : Thread nD τ) (ms0_7 t) fullShare ((dats m 0 c).after 7 t) from by
    unfold Dat.leavesExact; rw [live_in 7 (by decide) t], after0_7]
  rw [show (dats m 0 c).leavesExact 8 t = owns (c : Thread nD τ) (ms0_8 t) fullShare ((dats m 0 c).after 8 t) from by
    unfold Dat.leavesExact; rw [live_in 8 (by decide) t], after0_8]
  rw [show (dats m 0 c).leavesExact 9 t = owns (c : Thread nD τ) (ms0_9 t) fullShare ((dats m 0 c).after 9 t) from by
    unfold Dat.leavesExact; rw [live_in 9 (by decide) t], after0_9]
  rw [show (dats m 0 c).leavesExact 10 t = owns (c : Thread nD τ) (ms0_10 t) fullShare ((dats m 0 c).after 10 t) from by
    unfold Dat.leavesExact; rw [live_in 10 (by decide) t], after0_10]
  rw [show (dats m 0 c).leavesExact 11 t = owns (c : Thread nD τ) (ms0_11 t) fullShare ((dats m 0 c).after 11 t) from by
    unfold Dat.leavesExact; rw [live_in 11 (by decide) t], after0_11]
  rw [show (dats m 0 c).leavesExact 12 t = owns (c : Thread nD τ) (ms0_12 t) fullShare ((dats m 0 c).after 12 t) from by
    unfold Dat.leavesExact; rw [live_in 12 (by decide) t], after0_12]
  rw [show (dats m 0 c).leavesExact 13 t = owns (c : Thread nD τ) (ms0_13 t) fullShare ((dats m 0 c).after 13 t) from by
    unfold Dat.leavesExact; rw [live_in 13 (by decide) t], after0_13]
  rw [show (dats m 0 c).leavesExact 14 t = owns (c : Thread nD τ) (ms0_14 t) fullShare ((dats m 0 c).after 14 t) from by
    unfold Dat.leavesExact; rw [live_in 14 (by decide) t], after0_14]
  by_cases h : t.val % 33 = 0
  · rw [show (dats m 0 c).leavesExact 15 t = owns (c : Thread nD τ) (ms0_15 t) fullShare ((dats m 0 c).after 15 t) from by
      unfold Dat.leavesExact; rw [show cfg0.idle 15 (cfg0.grid.coords t) = false from by rw [idle_ctx, decide_eq_true h]; rfl], after0_15]
    rw [Dat.leavesExact_idle (dats m 0 c) 16 t (by rw [idle_lat, decide_eq_true h]) (by rw [flush_lat, decide_eq_true h]; rfl)]
    rw [left_ctx m c t h]
    unfold ctxOut ctxState; (try dsimp only)
    by_cases hz : t.val = 0
    · rw [Inv_castSucc m c t, Inv_zero m c _ _ hz, entered_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((atCtx m c t h).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexact H16
      isplitl [HS0]; · iexact HS0
      isplitl [HS1]; · iexact HS1
      iintro ⟨H0, H1, H2, H3, H4, H5, H6, H7, H8, H9, H10, H11, H12, H13, H14, ⟨%e15, H15⟩, H16, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (state_cover_ctx m c t h)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (out_cover_ctx m c t h)
      iexists _; iexact H16
    · rw [Inv_castSucc m c t, Inv_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((atCtx m c t h).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexact H16
      isplitl [HS0]; · iexists _; iexact HS0
      isplitl [HS1]; · iexact HS1
      iintro ⟨H0, H1, H2, H3, H4, H5, H6, H7, H8, H9, H10, H11, H12, H13, H14, ⟨%e15, H15⟩, H16, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (state_cover_ctx m c t h)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (out_cover_ctx m c t h)
      iexists _; iexact H16
  · have hz : t.val ≠ 0 := fun e => h (by rw [e])
    rw [show (dats m 0 c).leavesExact 16 t = owns (c : Thread nD τ) (ms0_16 t) fullShare ((dats m 0 c).after 16 t) from by
      unfold Dat.leavesExact; rw [show cfg0.idle 16 (cfg0.grid.coords t) = false from by rw [idle_lat, decide_eq_false h]], after0_16]
    by_cases hl : t.val % 33 = 32
    · rw [show (dats m 0 c).leavesExact 15 t = owns (c : Thread nD τ) (ms0_15 t) fullShare ((dats m 0 c).after 15 t) from by
        unfold Dat.leavesExact; rw [show cfg0.idle 15 (cfg0.grid.coords t) = true from by rw [idle_ctx, decide_eq_false h]; rfl, show (cfg0.win 15).flush t = true from by rw [flush_ctx, decide_eq_true hl]], after0_15]
      rw [left_lat m c t h, Inv_castSucc m c t, Inv_pos m c _ _ hz]
      simp only [before_ctx m c t h]
      unfold latOut latState; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((atLat m c t h _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [HS0]; · iexact HS0
      isplitl [HS1]; · iexact HS1
      iintro ⟨H0, H1, H2, H3, H4, H5, H6, H7, H8, H9, H10, H11, H12, H13, H14, H15, ⟨%e16, H16⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (state_cover_lat m c t h _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      unfold owns; iexists _; isplitr
      swap; · iexact H16
      ipureintro; exact View.read_writes_of_cover _ _ _ _ _ (out_cover_lat m c t h _)
    · rw [Dat.leavesExact_idle (dats m 0 c) 15 t (by rw [idle_ctx, decide_eq_false h]; rfl) (by rw [flush_ctx, decide_eq_false hl])]
      rw [left_lat m c t h, Inv_castSucc m c t, Inv_pos m c _ _ hz]
      unfold latOut latState; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((atLat m c t h _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [HS0]; · iexact HS0
      isplitl [HS1]; · iexact HS1
      iintro ⟨H0, H1, H2, H3, H4, H5, H6, H7, H8, H9, H10, H11, H12, H13, H14, H15, ⟨%e16, H16⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (state_cover_lat m c t h _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists d15; iexact H15
      unfold owns; iexists _; isplitr
      swap; · iexact H16
      ipureintro; exact View.read_writes_of_cover _ _ _ _ _ (out_cover_lat m c t h _)

/-- The body's row of the table. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem entering (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _
theorem leaving (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 66 := N_0; omega), entered_eq]
  iintro ⟨⟨HS0, HS1⟩, Hg⟩
  isplitl [HS0 HS1]
  · isplitl [HS0]
    · iexists _; iexact HS0
    iexact HS1
  iexact Hg

set_option backward.isDefEq.respectTransparency.types false in
/-- The launch, with every counter at zero at the end. -/
theorem run_counted : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := entering m) (hout := leaving m)

theorem run_main : θ_run defs (onTc (τ := τ) (main (F := F))) (s₀ m ρ) (Pipeline.FramePost cfgs (dats m) 0 (V m)) :=
  (θ_run defs _ _).mono (fun _ h => h.1) (run_counted m ρ)

/-- The frame: the arguments end as launched, the counters at zero. -/
theorem frame_gla : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_counted m ρ))

end Cert.KernelIdeal.Gla

end
-- ==== Proof.GlaHead.lean ====
/- The attention call: one head over one chunk of 64 tokens. Every store of the body into the state or into the step's
   output is one of two functions of a chunk's slices and of the head's state before the chunk. -/
module

public import proofs.«01_k».proof.Proof.Gen.KernelIdeal.Skeleton
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Gla

open Cert.KernelIdeal Cert.KernelIdeal.Gen

section

variable {F : FTy → Type} [FloatOps F]

/-- The head's state after a chunk: decayed by the whole chunk, with the chunk's keys and values added. -/
def newState (k : FVec F S64x128 .f32) (v : FVec F S64x256 .f32) (e : FVec F S1x128 .f32) (s : Vec F S1x256x128 .f32) :
    FVec F S1x256x128 .f32 :=
  shapeCast S1x256x128
    (addf (mulf (shapeCast S256x128 s shapeCasts_S1x256x128_S256x128) (broadcastTo S256x128 e broadcasts_S1x128_S256x128))
      (matmul dot_S64x256_S64x128_S256x128_0_0_1_1_n_n none (truncf .bf16 v bitsLt_bf16_f32) (truncf .bf16 k bitsLt_bf16_f32)
        (constant S256x128 .f32 0x00000000#32)))
    shapeCasts_S256x128_S1x256x128

/-- The head's sum over the chunk: the masked scores on the values, the queries on the state, and the other pass. -/
def headSum (q k : FVec F S64x128 .f32) (v p : FVec F S64x256 .f32) (s : Vec F S1x256x128 .f32) : FVec F S64x256 .f32 :=
  addf (addf
      (matmul dot_S64x64_S64x256_S64x256_1_0_0_1_n_n none
        (truncf .bf16 (select k0_pay6
          (matmul dot_S64x128_S64x128_S64x64_1_1_0_0_n_n none (truncf .bf16 q bitsLt_bf16_f32) (truncf .bf16 k bitsLt_bf16_f32)
            (constant S64x64 .f32 0x00000000#32))
          (broadcast S64x64 (Scalar.ofBits .f32 0x00000000#32))) bitsLt_bf16_f32)
        (truncf .bf16 v bitsLt_bf16_f32) (constant S64x256 .f32 0x00000000#32))
      (matmul dot_S64x128_S256x128_S64x256_1_1_0_0_n_n none (truncf .bf16 q bitsLt_bf16_f32)
        (truncf .bf16 (shapeCast S256x128 s shapeCasts_S1x256x128_S256x128) bitsLt_bf16_f32) (constant S64x256 .f32 0x00000000#32)))
    p

/-- A head's sum, normalised, scaled and gated. -/
def finish (o : FVec F S64x256 .f32) (ng : Vec F S1x256 .f32) (r : FVec F S64x256 .f32) : FVec F S64x256 .f32 :=
  shapeCast S64x256
    (mulf (mulf
      (mulf o (broadcastTo S64x256
        (rsqrt (addf (divf (shapeCast S64x1 (multiReduction .add [1] S64 (mulf o o) 0x00000000#32 reduces_S64x256_S64 (.inl rfl) rfl)
            shapeCasts_S64_S64x1) (broadcast S64x1 (Scalar.ofBits .f32 0x43800000#32)))
          (broadcast S64x1 (Scalar.ofBits .f32 0x358637BD#32)))) broadcasts_S64x1_S64x256))
      (broadcastTo S64x256 (shapeCast S1x256 ng shapeCasts_S1x256_S1x256) broadcasts_S1x256_S64x256)) r)
    shapeCasts_S64x256_S64x256

/-! A chunk's rows, and a head's columns of them. -/

theorem slices_qk : ∀ c h : Fin 4, S256x512.Slices ![64 * c.val, 128 * h.val] S64x128 := by decide
theorem slices_v : ∀ c h : Fin 4, S256x1024.Slices ![64 * c.val, 256 * h.val] S64x256 := by decide
theorem slices_rows : ∀ c : Fin 4, S256x512.Slices ![64 * c.val, 0] S64x512 := by decide
theorem slices_last : ∀ c : Fin 4, S256x512.Slices ![64 * c.val + 63, 0] S1x512 := by decide
theorem slices_kv : ∀ h : Fin 4, S64x512.Slices ![0, 128 * h.val] S64x128 := by decide
theorem slices_e : ∀ h : Fin 4, S1x512.Slices ![0, 128 * h.val] S1x128 := by decide

def partQ (c h : Fin 4) (x : FVec F S256x512 .f32) : FVec F S64x128 .f32 :=
  extractStridedSlice S64x128 ![64 * c.val, 128 * h.val] x (slices_qk c h)
def partV (c h : Fin 4) (x : FVec F S256x1024 .f32) : FVec F S64x256 .f32 :=
  extractStridedSlice S64x256 ![64 * c.val, 256 * h.val] x (slices_v c h)
/-- The decay over a whole chunk. -/
def decay (c : Fin 4) (b : FVec F S256x512 .f32) : FVec F S1x512 .f32 :=
  exp (extractStridedSlice S1x512 ![64 * c.val + 63, 0] b (slices_last c))
/-- A chunk's keys, decayed to the chunk's end. -/
def keysEnd (c : Fin 4) (b k : FVec F S256x512 .f32) : FVec F S64x512 .f32 :=
  mulf (extractStridedSlice S64x512 ![64 * c.val, 0] k (slices_rows c)) (broadcastTo S64x512 (decay c b) broadcasts_S1x512_S64x512)

/-- The state a head leaves behind a chunk. -/
def stateOf (c h : Fin 4) (b k : FVec F S256x512 .f32) (v : FVec F S256x1024 .f32) (s : Vec F S1x256x128 .f32) : FVec F S1x256x128 .f32 :=
  newState (extractStridedSlice S64x128 ![0, 128 * h.val] (keysEnd c b k) (slices_kv h)) (partV c h v)
    (extractStridedSlice S1x128 ![0, 128 * h.val] (decay c b) (slices_e h)) s
/-- What a head stores for a chunk. -/
def outOf (c h : Fin 4) (q k : FVec F S256x512 .f32) (v p r : FVec F S256x1024 .f32) (ng : Vec F S1x256 .f32) (s : Vec F S1x256x128 .f32) :
    FVec F S64x256 .f32 :=
  finish (headSum (partQ c h q) (partQ c h k) (partV c h v) (partV c h p) s) ng (partV c h r)

/-! A chunk's four stores into the state. -/

theorem inb_head : ∀ (h : Fin 4) (a : Fin 3), ![h.val, 0, 0] a + S1x256x128.size a ≤ S4x256x128.size a := by decide
def headRect (h : Fin 4) : Rect S4x256x128 := Rect.unit (s := S4x256x128) ![h.val, 0, 0] S1x256x128.size (inb_head h)

/-- The four heads' stores of a chunk, head 0's first, given each head's state before. -/
def stores (c : Fin 4) (b k : FVec F S256x512 .f32) (v : FVec F S256x1024 .f32) (l0 l1 l2 l3 : Vec F S1x256x128 .f32)
    (L : List (View.Piece (Elt F) S4x256x128 .f32)) : List (View.Piece (Elt F) S4x256x128 .f32) :=
  ⟨headRect 3, stateOf c 3 b k v l3⟩ :: ⟨headRect 2, stateOf c 2 b k v l2⟩ :: ⟨headRect 1, stateOf c 1 b k v l1⟩
    :: ⟨headRect 0, stateOf c 0 b k v l0⟩ :: L

/-- The states a chunk's heads read, when the stores `L` come before: each is read after the heads before it stored. -/
def loads {κ : Kind} {sp : Space} (w : View sig κ sp S4x256x128 .f32) (c : Fin 4) (b k : FVec F S256x512 .f32) (v : FVec F S256x1024 .f32)
    (L : List (View.Piece (Elt F) S4x256x128 .f32)) : Fin 4 → Vec F S1x256x128 .f32 :=
  let l0 : Vec F S1x256x128 .f32 := w.readCov L (headRect 0).toLoadRect
  let L0 : List (View.Piece (Elt F) S4x256x128 .f32) := ⟨headRect 0, stateOf c 0 b k v l0⟩ :: L
  let l1 : Vec F S1x256x128 .f32 := w.readCov L0 (headRect 1).toLoadRect
  let L1 : List (View.Piece (Elt F) S4x256x128 .f32) := ⟨headRect 1, stateOf c 1 b k v l1⟩ :: L0
  let l2 : Vec F S1x256x128 .f32 := w.readCov L1 (headRect 2).toLoadRect
  let L2 : List (View.Piece (Elt F) S4x256x128 .f32) := ⟨headRect 2, stateOf c 2 b k v l2⟩ :: L1
  let l3 : Vec F S1x256x128 .f32 := w.readCov L2 (headRect 3).toLoadRect
  ![l0, l1, l2, l3]

def storesOver {κ : Kind} {sp : Space} (w : View sig κ sp S4x256x128 .f32) (c : Fin 4) (b k : FVec F S256x512 .f32) (v : FVec F S256x1024 .f32)
    (L : List (View.Piece (Elt F) S4x256x128 .f32)) : List (View.Piece (Elt F) S4x256x128 .f32) :=
  stores c b k v (loads w c b k v L 0) (loads w c b k v L 1) (loads w c b k v L 2) (loads w c b k v L 3) L

/-- Head `h` of a state. -/
def headOf (S : Vec F S4x256x128 .f32) (h : Fin 4) : Vec F S1x256x128 .f32 := fun x => S (ix3 h (x 1) (x 2))

/-- The whole state after a chunk. -/
def after (c : Fin 4) (b k : FVec F S256x512 .f32) (v : FVec F S256x1024 .f32) (S : Vec F S4x256x128 .f32) : Vec F S4x256x128 .f32 :=
  fun j => stateOf c (j 0) b k v (headOf S (j 0)) (ix3 0 (j 1) (j 2))

/-! A step's sixteen stores into its output. -/

theorem inb_tile : ∀ (c h : Fin 4) (a : Fin 2), ![64 * c.val, 256 * h.val] a + S64x256.size a ≤ S256x1024.size a := by decide
def tileRect (c h : Fin 4) : Rect S256x1024 := Rect.unit (s := S256x1024) ![64 * c.val, 256 * h.val] S64x256.size (inb_tile c h)
def chunkOf (n : ℕ) : Fin 4 := ⟨n / 4 % 4, Nat.mod_lt _ (by decide)⟩
def hdOf (n : ℕ) : Fin 4 := ⟨n % 4, Nat.mod_lt _ (by decide)⟩

/-- The first `n` of a step's stores, chunk by chunk, each chunk's heads in order. -/
def tiles (f : (c h : Fin 4) → FVec F S64x256 .f32) : ℕ → List (View.Piece (Elt F) S256x1024 .f32)
  | 0 => []
  | n + 1 => ⟨tileRect (chunkOf n) (hdOf n), f (chunkOf n) (hdOf n)⟩ :: tiles f n

end

section

variable {Val : EltTy → Type} [∀ e, Nonempty (Val e)] {s : Shape} {e : EltTy}

/-- The last store's element, at an index that lies at `x` of its rectangle. -/
theorem last_store {off size : Fin s.rank → ℕ} (inb : ∀ a, off a + size a ≤ s.size a) (w : (Rect.unit off size inb).shape.Idx → Val e)
    (L : List (View.Piece Val s e)) (y : s.Idx) (x : (Rect.unit off size inb).shape.Idx) (hx : ∀ a, (y a).val = off a + (x a).val) :
    View.canon (⟨Rect.unit off size inb, w⟩ :: L) y = w x := by
  obtain rfl : (Rect.unit off size inb).emb x = y := funext fun a => Fin.ext
    ((congrArg (off a + ·) (Nat.one_mul _)).trans (hx a).symm)
  exact View.canon_cons_emb _ w L x

/-- Off the last store's rectangle on some axis, the stores before it. -/
theorem past_store {off size : Fin s.rank → ℕ} (inb : ∀ a, off a + size a ≤ s.size a) (w : (Rect.unit off size inb).shape.Idx → Val e)
    (L : List (View.Piece Val s e)) (y : s.Idx) (a : Fin s.rank) (ha : (y a).val < off a ∨ off a + size a ≤ (y a).val) :
    View.canon (⟨Rect.unit off size inb, w⟩ :: L) y = View.canon L y := by
  refine View.canon_cons_of_not_mem _ _ ?_
  show y ∉ (Rect.unit off size inb).set
  intro hy
  rw [Rect.mem_set_unit] at hy
  have := hy a
  omega

/-- A load after stores, at an index. -/
theorem load_after {sig : RefSig} {κ : Kind} {sp : Space} (v : View sig κ sp s e) {off size : Fin s.rank → ℕ}
    (inb : ∀ a, off a + size a ≤ s.size a) (L : List (View.Piece Val s e)) (y : s.Idx)
    (x : (Rect.unit off size inb).shape.Idx) (hx : ∀ a, (y a).val = off a + (x a).val) :
    v.readCov L (Rect.unit off size inb).toLoadRect x = View.canon L y := by
  rw [View.readCov_eq_canon']
  exact congrArg (View.canon L) (funext fun a => Fin.ext ((congrArg (off a + ·) (Nat.one_mul _)).trans (hx a).symm))

end

section

variable {F : FTy → Type} [FloatOps F]

theorem at_head (h : Fin 4) (d : FVec F S1x256x128 .f32) (L : List (View.Piece (Elt F) S4x256x128 .f32)) (y : S4x256x128.Idx) (hy : y 0 = h) :
    View.canon (Val := Elt F) (s := S4x256x128) (e := .f32) (⟨headRect h, d⟩ :: L) y = d (ix3 0 (y 1) (y 2)) := by
  subst hy
  refine last_store (Val := Elt F) (inb_head (y 0)) d L y (ix3 0 (y 1) (y 2)) ?_
  intro a; fin_cases a
  · rfl
  · exact (Nat.zero_add _).symm
  · exact (Nat.zero_add _).symm

theorem off_head (h : Fin 4) (d : FVec F S1x256x128 .f32) (L : List (View.Piece (Elt F) S4x256x128 .f32)) (y : S4x256x128.Idx) (hy : y 0 ≠ h) :
    View.canon (Val := Elt F) (s := S4x256x128) (e := .f32) (⟨headRect h, d⟩ :: L) y = View.canon L y := by
  refine past_store (Val := Elt F) (inb_head h) d L y (0 : Fin 3) ?_
  have : (y 0).val ≠ h.val := fun e => hy (Fin.ext e)
  show (y 0).val < h.val ∨ h.val + 1 ≤ (y 0).val
  omega

theorem load_head {κ : Kind} {sp : Space} (w : View sig κ sp S4x256x128 .f32) (h : Fin 4) (L : List (View.Piece (Elt F) S4x256x128 .f32)) :
    (w.readCov L (headRect h).toLoadRect : Vec F S1x256x128 .f32) = headOf (View.canon L) h := by
  funext x
  refine load_after (Val := Elt F) w (inb_head h) L (ix3 h (x 1) (x 2)) x ?_
  intro a; fin_cases a
  · show h.val = h.val + (x 0).val
    have : (x 0).val < 1 := (x 0).isLt
    omega
  · exact (Nat.zero_add _).symm
  · exact (Nat.zero_add _).symm

theorem headOf_off (h h' : Fin 4) (hne : h' ≠ h) (d : FVec F S1x256x128 .f32) (L : List (View.Piece (Elt F) S4x256x128 .f32)) :
    headOf (View.canon (Val := Elt F) (s := S4x256x128) (e := .f32) (⟨headRect h, d⟩ :: L)) h' = headOf (View.canon L) h' :=
  funext fun x => off_head h d L _ hne

/-- Each head of a chunk reads the state from before the chunk. -/
theorem loads_eq {κ : Kind} {sp : Space} (w : View sig κ sp S4x256x128 .f32) (c : Fin 4) (b k : FVec F S256x512 .f32) (v : FVec F S256x1024 .f32)
    (L : List (View.Piece (Elt F) S4x256x128 .f32)) (h : Fin 4) : loads w c b k v L h = headOf (View.canon L) h := by
  fin_cases h
  · exact load_head w 0 L
  · exact (load_head w 1 _).trans (headOf_off 0 1 (by decide) _ _)
  · exact (load_head w 2 _).trans ((headOf_off 1 2 (by decide) _ _).trans (headOf_off 0 2 (by decide) _ _))
  · exact (load_head w 3 _).trans ((headOf_off 2 3 (by decide) _ _).trans ((headOf_off 1 3 (by decide) _ _).trans (headOf_off 0 3 (by decide) _ _)))

theorem other {a : Fin 4} {h h' : Fin 4} (e : a = h) (hne : h ≠ h') : a ≠ h' := fun e' => hne (e.symm.trans e')

/-- A chunk's four stores leave the state after the chunk, when each head read the state `S`. -/
theorem stores_eq (c : Fin 4) (b k : FVec F S256x512 .f32) (v : FVec F S256x1024 .f32) (l0 l1 l2 l3 : Vec F S1x256x128 .f32)
    (L : List (View.Piece (Elt F) S4x256x128 .f32)) (S : Vec F S4x256x128 .f32) (h0 : l0 = headOf S 0) (h1 : l1 = headOf S 1)
    (h2 : l2 = headOf S 2) (h3 : l3 = headOf S 3) : View.canon (stores c b k v l0 l1 l2 l3 L) = after c b k v S := by
  subst h0 h1 h2 h3
  funext y
  unfold stores after
  rcases (by decide : ∀ x : Fin 4, x = 3 ∨ x = 2 ∨ x = 1 ∨ x = 0) (y 0) with e | e | e | e
  · rw [at_head 3 _ _ y e, e]
  · rw [off_head 3 _ _ y (other e (by decide)), at_head 2 _ _ y e, e]
  · rw [off_head 3 _ _ y (other e (by decide)), off_head 2 _ _ y (other e (by decide)), at_head 1 _ _ y e, e]
  · rw [off_head 3 _ _ y (other e (by decide)), off_head 2 _ _ y (other e (by decide)), off_head 1 _ _ y (other e (by decide)), at_head 0 _ _ y e, e]

theorem storesOver_eq {κ : Kind} {sp : Space} (w : View sig κ sp S4x256x128 .f32) (c : Fin 4) (b k : FVec F S256x512 .f32)
    (v : FVec F S256x1024 .f32) (L : List (View.Piece (Elt F) S4x256x128 .f32)) :
    View.canon (storesOver w c b k v L) = after c b k v (View.canon L) :=
  stores_eq c b k v _ _ _ _ L _ (loads_eq w c b k v L 0) (loads_eq w c b k v L 1) (loads_eq w c b k v L 2) (loads_eq w c b k v L 3)

/-- A step's stores leave, at each tile, what was stored for it. -/
theorem tiles_eq (f : (c h : Fin 4) → FVec F S64x256 .f32) (y : S256x1024.Idx) :
    ∀ n ≤ 16, 4 * ((y 0).val / 64) + (y 1).val / 256 < n →
      View.canon (tiles f n) y
        = f ⟨(y 0).val / 64, by have := (y 0).isLt; exact Nat.div_lt_of_lt_mul this⟩ ⟨(y 1).val / 256, by have := (y 1).isLt; exact Nat.div_lt_of_lt_mul this⟩
            (ix2 ⟨(y 0).val % 64, Nat.mod_lt _ (by decide)⟩ ⟨(y 1).val % 256, Nat.mod_lt _ (by decide)⟩)
  | 0, _, h => absurd h (Nat.not_lt_zero _)
  | n + 1, hn, h => by
    have b0 : (y 0).val < 256 := (y 0).isLt
    have b1 : (y 1).val < 1024 := (y 1).isLt
    by_cases hlt : 4 * ((y 0).val / 64) + (y 1).val / 256 < n
    · rw [← tiles_eq f y n (by omega) hlt]
      rw [show tiles f (n + 1) = ⟨tileRect (chunkOf n) (hdOf n), f (chunkOf n) (hdOf n)⟩ :: tiles f n from rfl]
      by_cases hc : (y 0).val / 64 = n / 4 % 4
      · refine past_store (Val := Elt F) (inb_tile _ _) _ _ y (1 : Fin 2) ?_
        show (y 1).val < 256 * (n % 4) ∨ 256 * (n % 4) + 256 ≤ (y 1).val
        omega
      · refine past_store (Val := Elt F) (inb_tile _ _) _ _ y (0 : Fin 2) ?_
        show (y 0).val < 64 * (n / 4 % 4) ∨ 64 * (n / 4 % 4) + 64 ≤ (y 0).val
        omega
    · have e0 : chunkOf n = ⟨(y 0).val / 64, by omega⟩ := Fin.ext (by show n / 4 % 4 = (y 0).val / 64; omega)
      have e1 : hdOf n = ⟨(y 1).val / 256, by omega⟩ := Fin.ext (by show n % 4 = (y 1).val / 256; omega)
      rw [show tiles f (n + 1) = ⟨tileRect (chunkOf n) (hdOf n), f (chunkOf n) (hdOf n)⟩ :: tiles f n from rfl, e0, e1]
      refine last_store (Val := Elt F) (inb_tile _ _) _ _ y _ ?_
      intro a; fin_cases a
      · show (y 0).val = 64 * ((y 0).val / 64) + (y 0).val % 64
        omega
      · show (y 1).val = 256 * ((y 1).val / 256) + (y 1).val % 256
        omega

end

end Cert.KernelIdeal.Gla

end
-- ==== Proof.GlaArrays.lean ====
/- The attention call: the arrays of a point's 256 tokens, as functions of the point's blocks. -/
module

public import proofs.«01_k».proof.Proof.GlaHead

@[expose] public section

set_option maxRecDepth 16384

noncomputable section

open Idealize.ShloMosaic Idealize.ShloMosaic.TcCoe Idealize.SL.Sem

namespace Cert.KernelIdeal.Gla

open Cert.KernelIdeal Cert.KernelIdeal.Gen

variable {F : FTy → Type} [FloatOps F]

/-- The point is one of the context (one) or of the latents (zero). -/
abbrev isCtx (i : grid0.Coords) : BitVec 1 := Scalar.cmpi .slt (BitVec.ofNat 32 (i 1).val) 1#32

/-! A window of the context whole, and one of a point's two columns out of a window of eight. -/

abbrev all256 (x : Vec F S1x256x256 .f32) : Vec F S1x256x256 .f32 :=
  View.ld x (Rect.unit (s := S1x256x256) ![0, 0, 0] S1x256x256.size inb_S1x256x256_S1x256x256_0_0_0)
abbrev all512 (x : Vec F S1x256x512 .f32) : Vec F S1x256x512 .f32 :=
  View.ld x (Rect.unit (s := S1x256x512) ![0, 0, 0] S1x256x512.size inb_S1x256x512_S1x256x512_0_0_0)
abbrev all1024 (x : Vec F S1x256x1024 .f32) : Vec F S1x256x1024 .f32 :=
  View.ld x (Rect.unit (s := S1x256x1024) ![0, 0, 0] S1x256x1024.size inb_S1x256x1024_S1x256x1024_0_0_0)
abbrev col256 (i : grid0.Coords) (r : Fin 2) (x : Vec F S1x128x8x256 .f32) : Vec F S1x128x1x256 .f32 :=
  View.ld x (Rect.unit (s := S1x128x8x256) (k0_off1 i (BitVec.ofNat 32 r.val)) S1x128x1x256.size (k0_off1_inb i r))
abbrev col512 (i : grid0.Coords) (r : Fin 2) (x : Vec F S1x128x8x512 .f32) : Vec F S1x128x1x512 .f32 :=
  View.ld x (Rect.unit (s := S1x128x8x512) (k0_off2 i (BitVec.ofNat 32 r.val)) S1x128x1x512.size (k0_off2_inb i r))
abbrev col1024 (i : grid0.Coords) (r : Fin 2) (x : Vec F S1x128x8x1024 .f32) : Vec F S1x128x1x1024 .f32 :=
  View.ld x (Rect.unit (s := S1x128x8x1024) (k0_off3 i (BitVec.ofNat 32 r.val)) S1x128x1x1024.size (k0_off3_inb i r))

/-- The gate's running sums within each chunk. -/
def bArr (i : grid0.Coords) (x3 : Vec F S1x256x256 .f32) (x7 : Vec F S1x128x8x256 .f32) (x8 : Vec F S32x512 .f32) (x9 : Vec F S1x512 .f32) :
    FVec F S256x512 .f32 :=
  k0_pay7 (k0_pay4 i (all256 x3) (col256 i 0 x7) (col256 i 1 x7))
    (k0_pay5 (View.ld x8 (Rect.unit (s := S32x512) ![0, 0] S32x512.size inb_S32x512_S32x512_0_0)))
    (View.ld x9 (Rect.unit (s := S1x512) ![0, 0] S1x512.size inb_S1x512_S1x512_0_0))
/-- The queries, scaled and decayed. -/
def qArr (i : grid0.Coords) (x1 : Vec F S1x256x512 .f32) (x5 : Vec F S1x128x8x512 .f32) (x3 : Vec F S1x256x256 .f32)
    (x7 : Vec F S1x128x8x256 .f32) (x8 : Vec F S32x512 .f32) (x9 : Vec F S1x512 .f32) : FVec F S256x512 .f32 :=
  k0_pay10 (isCtx i) (exp (bArr i x3 x7 x8 x9)) (all512 x1) (col512 i 0 x5) (col512 i 1 x5)
/-- The keys, with the decay taken off. -/
def kArr (i : grid0.Coords) (x0 : Vec F S1x256x512 .f32) (x4 : Vec F S1x128x8x512 .f32) (x3 : Vec F S1x256x256 .f32)
    (x7 : Vec F S1x128x8x256 .f32) (x8 : Vec F S32x512 .f32) (x9 : Vec F S1x512 .f32) : FVec F S256x512 .f32 :=
  k0_pay11 (isCtx i) (exp (subf (broadcast S256x512 (Scalar.ofBits .f32 0x00000000#32)) (bArr i x3 x7 x8 x9))) (all512 x0) (col512 i 0 x4) (col512 i 1 x4)
/-- The values. -/
def vArr (i : grid0.Coords) (x2 : Vec F S1x256x1024 .f32) (x6 : Vec F S1x128x8x1024 .f32) : FVec F S256x1024 .f32 :=
  k0_pay13 (isCtx i) (k0_pay12 (all1024 x2)) (col1024 i 0 x6) (col1024 i 1 x6)
/-- The other pass's sums. -/
def pArr (i : grid0.Coords) (x10 x11 : Vec F S1x256x1024 .f32) : FVec F S256x1024 .f32 :=
  k0_pay14 (isCtx i) (all1024 x10) (all1024 x11)
/-- The output's gate. -/
def gArr (i : grid0.Coords) (x13 : Vec F S1x256x1024 .f32) (x14 : Vec F S1x128x8x1024 .f32) : FVec F S256x1024 .f32 :=
  k0_pay15 (isCtx i) (all1024 x13) (col1024 i 0 x14) (col1024 i 1 x14)

end Cert.KernelIdeal.Gla

end
-- ==== Proof.GlaBlocks.lean ====
/- The attention call: the blocks of a point, of the arguments. -/
module

public import proofs.«01_k».proof.Proof.GlaFrame
public import proofs.«01_k».proof.Proof.GlaArrays
public import Idealize.ShloMosaic.Lib.Routing.OpsSet
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Gla

open Cert.KernelIdeal Cert.KernelIdeal.Gen

variable (m : (ℓ : Loc nD τ sig) → Buf (Elt Ideal) ℓ)

/-! The arrays made on the way in: the latents split in columns, the first pass's biases, the norm's weights, and the first
    pass's weights under rows of zeros. -/

theorem columns_at (y : FVec Ideal S2x8192x5376 .f32) (b : Fin 2) (r : Fin 128) (x : Fin 64) (f : Fin 5376) :
    shapeCast S2x128x64x5376 y shapeCasts_S2x8192x5376_S2x128x64x5376 (ix4 b r x f) = y (ix3 b ⟨r.val * 64 + x.val, by omega⟩ f) := by
  pointwise

theorem entry_lat (c : Dev nD) (b : Fin 2) (r : Fin 128) (x : Fin 64) (f : Fin 5376) :
    (V m c main_v0 : FVec Ideal S2x128x64x5376 .f32) (ix4 b r x f)
      = (m ((c : Thread nD τ).loc main_arg1) : FVec Ideal S2x8192x5376 .f32) (ix3 b ⟨r.val * 64 + x.val, by omega⟩ f) := by
  entry_read
  exact columns_at _ b r x f

theorem entry_bias (c : Dev nD) (f : Fin 512) :
    (V m c main_v13 : FVec Ideal S1x512 .f32) (ix2 0 f)
      = (m ((c : Thread nD τ).loc main_arg3) : FVec Ideal S2x512 .f32) (ix2 0 f) := by
  entry_read
  pointwise
theorem entry_norm (c : Dev nD) (f : Fin 256) :
    (V m c main_v14 : FVec Ideal S1x256 .f32) (ix2 0 f)
      = (m ((c : Thread nD τ).loc main_arg4) : FVec Ideal S256 .f32) (ix1 f) := by
  entry_read
  pointwise

/-- Where an update of the padding lands. -/
theorem place (k : S16x512.Idx) (idx : IVec S1 32) (h : ∀ y, idx y = 0#32) :
    scatter_S32x512_S1_S16x512_01_n_0_0.resultIdx? k idx = some (ix2 ⟨(k 0).val, Nat.lt_trans (k 0).isLt (by decide)⟩ (k 1)) := by
  have st : ∀ a, scatter_S32x512_S1_S16x512_01_n_0_0.start k idx a = 0 := by
    intro a
    unfold ScatterDims.start
    split
    · rw [h]; rfl
    · rfl
  have w0 : scatter_S32x512_S1_S16x512_01_n_0_0.window k 0 = (k 0).val := rfl
  have w1 : scatter_S32x512_S1_S16x512_01_n_0_0.window k 1 = (k 1).val := rfl
  have k0 := (k 0).isLt
  have k1 := (k 1).isLt
  have hin : ∀ a, 0 ≤ scatter_S32x512_S1_S16x512_01_n_0_0.start k idx a + scatter_S32x512_S1_S16x512_01_n_0_0.window k a
      ∧ scatter_S32x512_S1_S16x512_01_n_0_0.start k idx a + scatter_S32x512_S1_S16x512_01_n_0_0.window k a < S32x512.size a := by
    intro a
    rw [st]
    fin_cases a
    · show 0 ≤ (0 : ℤ) + ((k 0).val : ℤ) ∧ (0 : ℤ) + ((k 0).val : ℤ) < ((32 : ℕ) : ℤ)
      have : (k 0).val < 16 := k0
      omega
    · show 0 ≤ (0 : ℤ) + ((k 1).val : ℤ) ∧ (0 : ℤ) + ((k 1).val : ℤ) < ((512 : ℕ) : ℤ)
      have : (k 1).val < 512 := k1
      omega
  unfold ScatterDims.resultIdx?
  rw [dif_pos hin]
  refine congrArg some (funext fun a => Fin.ext ?_)
  show (scatter_S32x512_S1_S16x512_01_n_0_0.start k idx a + scatter_S32x512_S1_S16x512_01_n_0_0.window k a).toNat = _
  rw [st]
  fin_cases a
  · show ((0 : ℤ) + ((k 0).val : ℤ)).toNat = (k 0).val
    omega
  · show ((0 : ℤ) + ((k 1).val : ℤ)).toNat = (k 1).val
    omega

/-- The padded weights. -/
theorem padded_at (x0 : FVec Ideal S32x512 .f32) (hx : ∀ y, x0 y = 0) (idx : IVec S1 32) (h : ∀ y, idx y = 0#32) (u : FVec Ideal S16x512 .f32)
    (r : Fin 32) (d : Fin 512) :
    Host.scatter scatter_S32x512_S1_S16x512_01_n_0_0 (fun _ b => b) x0 idx u (ix2 r d) = if h : r.val < 16 then u (ix2 ⟨r.val, h⟩ d) else 0 := by
  by_cases hr : r.val < 16
  · rw [dif_pos hr]
    refine Routing.scatter_set_hit _ x0 idx u _ _ (fun k hk => ?_) (ix2 ⟨r.val, hr⟩ d) (place _ idx h)
    rw [place k idx h] at hk
    have e := Option.some.inj hk
    have e0 : (k 0).val = r.val := congrArg Fin.val (congrFun e 0)
    have e1 : k 1 = d := congrFun e 1
    exact congrArg u (funext fun a => by fin_cases a <;> [exact Fin.ext e0; exact e1])
  · rw [dif_neg hr]
    refine (Routing.scatter_set_miss _ x0 idx u _ fun k hk => hr ?_).trans (hx _)
    rw [place k idx h] at hk
    have e0 : (k 0).val = r.val := congrArg Fin.val (congrFun (Option.some.inj hk) 0)
    have : (k 0).val < 16 := (k 0).isLt
    omega

theorem entry_gate (c : Dev nD) (r : Fin 32) (d : Fin 512) :
    (V m c main_v5 : FVec Ideal S32x512 .f32) (ix2 r d)
      = if h : r.val < 16 then ((m ((c : Thread nD τ).loc main_arg2) : FVec Ideal S2x16x512 .f32) (ix3 0 ⟨r.val, h⟩ d) : EReal) else (0 : EReal) := by
  entry_read
  refine (padded_at _ (fun y => ?_) _ (fun y => ?_) _ r d).trans ?_
  · pointwise
  · rfl
  · refine dite_congr rfl (fun h => ?_) fun _ => rfl
    pointwise

/-! Where each block lies. -/

/-- The context's blocks lie at the batch element of the point. -/
theorem idxCtx : ∀ t : Fin cfg0.N, win0_0.index t = ![t.val / 33, 0, 6] ∧ win0_1.index t = ![t.val / 33, 0, 7]
    ∧ win0_2.index t = ![t.val / 33, 0, 4] ∧ win0_3.index t = ![t.val / 33, 0, 20] ∧ win0_10.index t = ![t.val / 33, 0, 0]
    ∧ win0_13.index t = ![t.val / 33, 0, 2] ∧ win0_15.index t = ![t.val / 33, 0, 0]
    ∧ win0_8.index t = ![0, 0] ∧ win0_9.index t = ![0, 0] ∧ win0_12.index t = ![0, 0] :=
  (by decide +kernel : ∀ t : Fin grid0.N, _)
/-- The latents' blocks: eight columns to a block of the inputs, two to a point. -/
theorem idxLat : ∀ t : Fin cfg0.N, ¬t.val % 33 = 0 → win0_4.index t = ![t.val / 33, 0, (t.val % 33 - 1) / 4, 6]
    ∧ win0_5.index t = ![t.val / 33, 0, (t.val % 33 - 1) / 4, 7] ∧ win0_6.index t = ![t.val / 33, 0, (t.val % 33 - 1) / 4, 4]
    ∧ win0_7.index t = ![t.val / 33, 0, (t.val % 33 - 1) / 4, 20] ∧ win0_11.index t = ![t.val / 33, t.val % 33 - 1, 0]
    ∧ win0_14.index t = ![t.val / 33, 0, (t.val % 33 - 1) / 4, 2] ∧ win0_16.index t = ![t.val / 33, t.val % 33 - 1, 0] :=
  (by decide +kernel : ∀ t : Fin grid0.N, _)
/-- Which column of its block a point reads first and second. -/
theorem offs : ∀ t : Fin cfg0.N, ¬t.val % 33 = 0 → ∀ r : Fin 2,
    k0_off1 (grid0.coords t) (BitVec.ofNat 32 r.val) = ![0, 0, 2 * ((t.val % 33 - 1) % 4) + r.val, 0]
    ∧ k0_off2 (grid0.coords t) (BitVec.ofNat 32 r.val) = ![0, 0, 2 * ((t.val % 33 - 1) % 4) + r.val, 0]
    ∧ k0_off3 (grid0.coords t) (BitVec.ofNat 32 r.val) = ![0, 0, 2 * ((t.val % 33 - 1) % 4) + r.val, 0] :=
  (by decide +kernel : ∀ t : Fin grid0.N, _)
theorem isCtx_ctx : ∀ t : Fin cfg0.N, t.val % 33 = 0 → isCtx (grid0.coords t) = 1#1 :=
  (by decide +kernel : ∀ t : Fin grid0.N, _)
theorem isCtx_lat : ∀ t : Fin cfg0.N, ¬t.val % 33 = 0 → isCtx (grid0.coords t) = 0#1 :=
  (by decide +kernel : ∀ t : Fin grid0.N, _)

/-! The context's blocks. -/

theorem blk0 (c : Dev nD) (t : Fin cfg0.N) (ht : t.val / 33 < 2) (x : Fin 256) (f : Fin 512) :
    (X0_0 m c t : FVec Ideal S1x256x512 .f32) (ix3 0 x f)
      = (m ((c : Thread nD τ).loc main_arg0) : FVec Ideal S2x256x5376 .f32) (ix3 ⟨t.val / 33, ht⟩ x ⟨3072 + f.val, by omega⟩) := by
  unfold X0_0 Pipeline.Window.fill
  rw [dif_pos (moved0_0 t _)]
  blk_ext [iblk, V_main_arg0, idxCtx t]
theorem blk1 (c : Dev nD) (t : Fin cfg0.N) (ht : t.val / 33 < 2) (x : Fin 256) (f : Fin 512) :
    (X0_1 m c t : FVec Ideal S1x256x512 .f32) (ix3 0 x f)
      = (m ((c : Thread nD τ).loc main_arg0) : FVec Ideal S2x256x5376 .f32) (ix3 ⟨t.val / 33, ht⟩ x ⟨3584 + f.val, by omega⟩) := by
  unfold X0_1 Pipeline.Window.fill
  rw [dif_pos (moved0_1 t _)]
  blk_ext [iblk, V_main_arg0, idxCtx t]
theorem blk2 (c : Dev nD) (t : Fin cfg0.N) (ht : t.val / 33 < 2) (x : Fin 256) (f : Fin 1024) :
    (X0_2 m c t : FVec Ideal S1x256x1024 .f32) (ix3 0 x f)
      = (m ((c : Thread nD τ).loc main_arg0) : FVec Ideal S2x256x5376 .f32) (ix3 ⟨t.val / 33, ht⟩ x ⟨4096 + f.val, by omega⟩) := by
  unfold X0_2 Pipeline.Window.fill
  rw [dif_pos (moved0_2 t _)]
  blk_ext [iblk, V_main_arg0, idxCtx t]
theorem blk3 (c : Dev nD) (t : Fin cfg0.N) (ht : t.val / 33 < 2) (x : Fin 256) (f : Fin 256) :
    (iblk m c 3 t : FVec Ideal S1x256x256 .f32) (ix3 0 x f)
      = (m ((c : Thread nD τ).loc main_arg0) : FVec Ideal S2x256x5376 .f32) (ix3 ⟨t.val / 33, ht⟩ x ⟨5120 + f.val, by omega⟩) := by
  blk_ext [iblk, V_main_arg0, idxCtx t]
theorem blk10 (c : Dev nD) (t : Fin cfg0.N) (ht : t.val / 33 < 2) (x : Fin 256) (f : Fin 1024) :
    (iblk m c 10 t : FVec Ideal S1x256x1024 .f32) (ix3 0 x f)
      = (m ((c : Thread nD τ).loc main_arg5) : FVec Ideal S2x256x1024 .f32) (ix3 ⟨t.val / 33, ht⟩ x f) := by
  blk_ext [iblk, V_main_arg5, idxCtx t]
theorem blk13 (c : Dev nD) (t : Fin cfg0.N) (ht : t.val / 33 < 2) (x : Fin 256) (f : Fin 1024) :
    (X0_13 m c t : FVec Ideal S1x256x1024 .f32) (ix3 0 x f)
      = (m ((c : Thread nD τ).loc main_arg0) : FVec Ideal S2x256x5376 .f32) (ix3 ⟨t.val / 33, ht⟩ x ⟨2048 + f.val, by omega⟩) := by
  unfold X0_13 Pipeline.Window.fill
  rw [dif_pos (moved0_13 t _)]
  blk_ext [iblk, V_main_arg0, idxCtx t]

/-! The gate's weights and biases and the norm's weights. -/

theorem blk8 (c : Dev nD) (t : Fin cfg0.N) (r : Fin 32) (d : Fin 512) :
    (iblk m c 8 t : FVec Ideal S32x512 .f32) (ix2 r d)
      = if h : r.val < 16 then ((m ((c : Thread nD τ).loc main_arg2) : FVec Ideal S2x16x512 .f32) (ix3 0 ⟨r.val, h⟩ d) : EReal) else (0 : EReal) := by
  refine Eq.trans ?_ (entry_gate m c r d)
  blk_ext [iblk, idxCtx t]
theorem blk9 (c : Dev nD) (t : Fin cfg0.N) (f : Fin 512) :
    (iblk m c 9 t : FVec Ideal S1x512 .f32) (ix2 0 f) = (m ((c : Thread nD τ).loc main_arg3) : FVec Ideal S2x512 .f32) (ix2 0 f) := by
  refine Eq.trans ?_ (entry_bias m c f)
  blk_ext [iblk, idxCtx t]
theorem blk12 (c : Dev nD) (t : Fin cfg0.N) (f : Fin 256) :
    (iblk m c 12 t : FVec Ideal S1x256 .f32) (ix2 0 f) = (m ((c : Thread nD τ).loc main_arg4) : FVec Ideal S256 .f32) (ix1 f) := by
  refine Eq.trans ?_ (entry_norm m c f)
  blk_ext [iblk, idxCtx t]

/-! The latents' blocks: column `2 * (q % 4) + s` of the block at point `q` of the latents is their column `2 * q + s`. -/

theorem blk4 (c : Dev nD) (t : Fin cfg0.N) (ht : t.val / 33 < 2) (h : ¬t.val % 33 = 0) (s : Fin 2) (r : Fin 128) (f : Fin 512) :
    (X0_4 m c t : FVec Ideal S1x128x8x512 .f32) (ix4 0 r ⟨2 * ((t.val % 33 - 1) % 4) + s.val, by omega⟩ f)
      = (m ((c : Thread nD τ).loc main_arg1) : FVec Ideal S2x8192x5376 .f32)
          (ix3 ⟨t.val / 33, ht⟩ ⟨r.val * 64 + (2 * (t.val % 33 - 1) + s.val), by omega⟩ ⟨3072 + f.val, by omega⟩) := by
  refine Eq.trans ?_ (entry_lat m c ⟨t.val / 33, ht⟩ r ⟨2 * (t.val % 33 - 1) + s.val, by omega⟩ ⟨3072 + f.val, by omega⟩)
  unfold X0_4 Pipeline.Window.fill
  rw [dif_pos (moved0_4 t _)]
  blk_ext [iblk, idxLat t h]
theorem blk5 (c : Dev nD) (t : Fin cfg0.N) (ht : t.val / 33 < 2) (h : ¬t.val % 33 = 0) (s : Fin 2) (r : Fin 128) (f : Fin 512) :
    (X0_5 m c t : FVec Ideal S1x128x8x512 .f32) (ix4 0 r ⟨2 * ((t.val % 33 - 1) % 4) + s.val, by omega⟩ f)
      = (m ((c : Thread nD τ).loc main_arg1) : FVec Ideal S2x8192x5376 .f32)
          (ix3 ⟨t.val / 33, ht⟩ ⟨r.val * 64 + (2 * (t.val % 33 - 1) + s.val), by omega⟩ ⟨3584 + f.val, by omega⟩) := by
  refine Eq.trans ?_ (entry_lat m c ⟨t.val / 33, ht⟩ r ⟨2 * (t.val % 33 - 1) + s.val, by omega⟩ ⟨3584 + f.val, by omega⟩)
  unfold X0_5 Pipeline.Window.fill
  rw [dif_pos (moved0_5 t _)]
  blk_ext [iblk, idxLat t h]
theorem blk6 (c : Dev nD) (t : Fin cfg0.N) (ht : t.val / 33 < 2) (h : ¬t.val % 33 = 0) (s : Fin 2) (r : Fin 128) (f : Fin 1024) :
    (X0_6 m c t : FVec Ideal S1x128x8x1024 .f32) (ix4 0 r ⟨2 * ((t.val % 33 - 1) % 4) + s.val, by omega⟩ f)
      = (m ((c : Thread nD τ).loc main_arg1) : FVec Ideal S2x8192x5376 .f32)
          (ix3 ⟨t.val / 33, ht⟩ ⟨r.val * 64 + (2 * (t.val % 33 - 1) + s.val), by omega⟩ ⟨4096 + f.val, by omega⟩) := by
  refine Eq.trans ?_ (entry_lat m c ⟨t.val / 33, ht⟩ r ⟨2 * (t.val % 33 - 1) + s.val, by omega⟩ ⟨4096 + f.val, by omega⟩)
  unfold X0_6 Pipeline.Window.fill
  rw [dif_pos (moved0_6 t _)]
  blk_ext [iblk, idxLat t h]
theorem blk7 (c : Dev nD) (t : Fin cfg0.N) (ht : t.val / 33 < 2) (h : ¬t.val % 33 = 0) (s : Fin 2) (r : Fin 128) (f : Fin 256) :
    (iblk m c 7 t : FVec Ideal S1x128x8x256 .f32) (ix4 0 r ⟨2 * ((t.val % 33 - 1) % 4) + s.val, by omega⟩ f)
      = (m ((c : Thread nD τ).loc main_arg1) : FVec Ideal S2x8192x5376 .f32)
          (ix3 ⟨t.val / 33, ht⟩ ⟨r.val * 64 + (2 * (t.val % 33 - 1) + s.val), by omega⟩ ⟨5120 + f.val, by omega⟩) := by
  refine Eq.trans ?_ (entry_lat m c ⟨t.val / 33, ht⟩ r ⟨2 * (t.val % 33 - 1) + s.val, by omega⟩ ⟨5120 + f.val, by omega⟩)
  blk_ext [iblk, idxLat t h]
theorem blk14 (c : Dev nD) (t : Fin cfg0.N) (ht : t.val / 33 < 2) (h : ¬t.val % 33 = 0) (s : Fin 2) (r : Fin 128) (f : Fin 1024) :
    (X0_14 m c t : FVec Ideal S1x128x8x1024 .f32) (ix4 0 r ⟨2 * ((t.val % 33 - 1) % 4) + s.val, by omega⟩ f)
      = (m ((c : Thread nD τ).loc main_arg1) : FVec Ideal S2x8192x5376 .f32)
          (ix3 ⟨t.val / 33, ht⟩ ⟨r.val * 64 + (2 * (t.val % 33 - 1) + s.val), by omega⟩ ⟨2048 + f.val, by omega⟩) := by
  refine Eq.trans ?_ (entry_lat m c ⟨t.val / 33, ht⟩ r ⟨2 * (t.val % 33 - 1) + s.val, by omega⟩ ⟨2048 + f.val, by omega⟩)
  unfold X0_14 Pipeline.Window.fill
  rw [dif_pos (moved0_14 t _)]
  blk_ext [iblk, idxLat t h]
theorem blk11 (c : Dev nD) (t : Fin cfg0.N) (ht : t.val / 33 < 2) (h : ¬t.val % 33 = 0) (x : Fin 256) (f : Fin 1024) :
    (iblk m c 11 t : FVec Ideal S1x256x1024 .f32) (ix3 0 x f)
      = (m ((c : Thread nD τ).loc main_arg6) : FVec Ideal S2x8192x1024 .f32) (ix3 ⟨t.val / 33, ht⟩ ⟨(t.val % 33 - 1) * 256 + x.val, by omega⟩ f) := by
  blk_ext [iblk, V_main_arg6, idxLat t h]

end Cert.KernelIdeal.Gla

end
-- ==== Proof.GlaHeadAt.lean ====
/- The attention call: the two functions of a head at an index, over the extended reals. -/
module

public import proofs.«01_k».proof.Proof.GlaHead

@[expose] public section

set_option maxRecDepth 16384

noncomputable section

open Idealize.ShloMosaic Idealize.ShloMosaic.TcCoe Idealize.SL.Sem

namespace Cert.KernelIdeal.Gla

open Cert.KernelIdeal Cert.KernelIdeal.Gen

/-- The state after a chunk at an index. -/
theorem newState_at (k : FVec Ideal S64x128 .f32) (v : FVec Ideal S64x256 .f32) (e : FVec Ideal S1x128 .f32) (s : Vec Ideal S1x256x128 .f32)
    (x : Fin 256) (d : Fin 128) :
    newState (F := Ideal) k v e s (ix3 0 x d) = s (ix3 0 x d) * e (ix2 0 d) + ∑ i : Fin 64, v (ix2 i x) * k (ix2 i d) := by
  pointwise [newState]

/-- The mask keeps the tokens up to one's own. -/
theorem keep_at (i j : Fin 64) : k0_pay6 (ix2 i j) = BitVec.ofBool (decide (j.val ≤ i.val)) := by
  pointwise [k0_pay6]
  revert i j
  decide +kernel

/-- A choice by a decided bit. -/
theorem select_of {α : Type} (P : Prop) [Decidable P] (a b : α) : Scalar.select (BitVec.ofBool (decide P)) a b = if P then a else b := by
  by_cases h : P <;> simp [h, Scalar.select]

theorem headSum_at (q k : FVec Ideal S64x128 .f32) (v p : FVec Ideal S64x256 .f32) (s : Vec Ideal S1x256x128 .f32) (i : Fin 64) (x : Fin 256) :
    headSum (F := Ideal) q k v p s (ix2 i x)
      = ∑ j : Fin 64, (if j.val ≤ i.val then ∑ d : Fin 128, q (ix2 i d) * k (ix2 j d) else 0) * v (ix2 j x)
        + ∑ d : Fin 128, q (ix2 i d) * s (ix3 0 x d) + p (ix2 i x) := by
  pointwise [headSum]
  simp only [keep_at, select_of]
  refine congrArg (fun z => z + _ + p (ix2 i x)) (Finset.sum_congr rfl fun j _ => ?_)
  split
  · rfl
  · exact (zero_mul _).symm

theorem finish_at (o : FVec Ideal S64x256 .f32) (ng : Vec Ideal S1x256 .f32) (r : FVec Ideal S64x256 .f32) (i : Fin 64) (x : Fin 256) :
    finish (F := Ideal) o ng r (ix2 i x)
      = o (ix2 i x) * Ideal.rsqrt (Ideal.div (∑ e : Fin 256, o (ix2 i e) * o (ix2 i e)) (Ideal.ofBits .f32 0x43800000#32)
          + Ideal.ofBits .f32 0x358637BD#32) * ng (ix2 0 x) * r (ix2 i x) := by
  pointwise [finish]

theorem partQ_at (c h : Fin 4) (x : FVec Ideal S256x512 .f32) (i : Fin 64) (d : Fin 128) :
    partQ (F := Ideal) c h x (ix2 i d) = x (ix2 ⟨64 * c.val + i.val, by omega⟩ ⟨128 * h.val + d.val, by omega⟩) :=
  congrArg x (funext fun a => by fin_cases a <;> rfl)
theorem partV_at (c h : Fin 4) (x : FVec Ideal S256x1024 .f32) (i : Fin 64) (d : Fin 256) :
    partV (F := Ideal) c h x (ix2 i d) = x (ix2 ⟨64 * c.val + i.val, by omega⟩ ⟨256 * h.val + d.val, by omega⟩) :=
  congrArg x (funext fun a => by fin_cases a <;> rfl)
theorem decay_at (c h : Fin 4) (b : FVec Ideal S256x512 .f32) (d : Fin 512) :
    decay (F := Ideal) c b (ix2 0 d) = Ideal.exp (b (ix2 ⟨64 * c.val + 63, by omega⟩ d)) :=
  congrArg Ideal.exp (congrArg b (funext fun a => by fin_cases a <;> [rfl; exact Fin.ext (Nat.zero_add _)]))
theorem keysEnd_at (c : Fin 4) (b k : FVec Ideal S256x512 .f32) (i : Fin 64) (d : Fin 512) :
    keysEnd (F := Ideal) c b k (ix2 i d)
      = k (ix2 ⟨64 * c.val + i.val, by omega⟩ d) * Ideal.exp (b (ix2 ⟨64 * c.val + 63, by omega⟩ d)) := by
  unfold keysEnd
  rw [← decay_at c 0 b d]
  refine congrArg₂ (· * ·) (congrArg k (funext fun a => by fin_cases a <;> [rfl; exact Fin.ext (Nat.zero_add _)])) ?_
  pointwise

end Cert.KernelIdeal.Gla

end
-- ==== Proof.GlaSpec.lean ====
/- The recurrence of the gated linear attention as plain functions over the extended reals: the decay of a row, the
   state of a head chunk by chunk, and what a head puts out for a row. The rows are those of the sequence the layer
   scans: the context's, then the latents' column by column. -/
module

public import Idealize.ShloMosaic.Lib.Pipeline.ValueKit
public import Idealize.ShloMosaic.Lib.Pointwise

@[expose] public section

noncomputable section

open Idealize.ShloMosaic

namespace Cert.Gla

/-! The arithmetic of one chunk of one head: 64 rows, 128 key features, 256 value features. -/

/-- The logarithm of the decay, from the gate's sum: `log_sigmoid z / 16`. -/
def logGate (z : EReal) : EReal :=
  Ideal.div (-(max (-z) 0 + Ideal.log1p (Ideal.exp (-(max (-z) (- -z)))))) (Ideal.ofBits .f32 1098907648#32)

/-- The running sum over the rows of a chunk. -/
def cum (g : Fin 64 → EReal) (i : Fin 64) : EReal := ∑ i' : Fin 64, if i'.val ≤ i.val then g i' else 0

/-- The decay of a row since the chunk's start, from the rows `x` of the gate's input, the gate's weights and bias. -/
def gateSum (x : Fin 64 → Fin 16 → EReal) (w : Fin 16 → EReal) (b : EReal) : Fin 64 → EReal :=
  cum fun i => logGate (∑ r, x i r * w r + b)

/-- The state after a chunk, at value feature `e` and key feature `d`. -/
def nextState (k b : Fin 64 → Fin 128 → EReal) (v : Fin 64 → Fin 256 → EReal) (S : Fin 256 → Fin 128 → EReal)
    (e : Fin 256) (d : Fin 128) : EReal :=
  S e d * Ideal.exp (b 63 d) + ∑ i : Fin 64, v i e * (k i d * Ideal.exp (-b i d) * Ideal.exp (b 63 d))

/-- What a row reads: the rows of its chunk up to it, the state before the chunk, and the reverse pass's share. -/
def headRow (q k b : Fin 64 → Fin 128 → EReal) (v p : Fin 64 → Fin 256 → EReal) (S : Fin 256 → Fin 128 → EReal)
    (i : Fin 64) (e : Fin 256) : EReal :=
  ∑ j : Fin 64, (if j.val ≤ i.val then ∑ d, q i d * Ideal.exp (b i d) * (k j d * Ideal.exp (-b j d)) else 0) * v j e
    + ∑ d, q i d * Ideal.exp (b i d) * S e d + p i e

/-- A row of a head, normalised, weighted and gated. -/
def normed (o : Fin 256 → EReal) (ng r : Fin 256 → EReal) (e : Fin 256) : EReal :=
  o e * Ideal.rsqrt (Ideal.div (∑ x, o x * o x) (Ideal.ofBits .f32 0x43800000#32) + Ideal.ofBits .f32 0x358637BD#32) * ng e
    * (r e * Ideal.logistic (r e))

/-! The columns of a projected row. -/

def colR (h : Fin 4) (e : Fin 256) : Fin 5376 := ⟨2048 + (h.val * 256 + e.val), by omega⟩
def colK (h : Fin 4) (d : Fin 128) : Fin 5376 := ⟨3072 + (h.val * 128 + d.val), by omega⟩
def colQ (h : Fin 4) (d : Fin 128) : Fin 5376 := ⟨3584 + (h.val * 128 + d.val), by omega⟩
def colV (h : Fin 4) (e : Fin 256) : Fin 5376 := ⟨4096 + (h.val * 256 + e.val), by omega⟩
def colG (r : Fin 16) : Fin 5376 := ⟨5120 + r.val, by omega⟩
def hd (h : Fin 4) (d : Fin 128) : Fin 512 := ⟨h.val * 128 + d.val, by omega⟩
def hv (h : Fin 4) (e : Fin 256) : Fin 1024 := ⟨h.val * 256 + e.val, by omega⟩

/-! The scan over the chunks, for rows `P j i` of chunk `j`, the reverse pass's rows `R j i`, the gate's weights `w` and
    bias `b`, and the norm's weights `n`. -/

section
variable (P : ℕ → Fin 64 → Fin 5376 → EReal) (R : ℕ → Fin 64 → Fin 1024 → EReal) (w : Fin 16 → Fin 512 → EReal)
  (b : Fin 512 → EReal) (n : Fin 256 → EReal) (h : Fin 4)

def decayAt (j : ℕ) (i : Fin 64) (d : Fin 128) : EReal :=
  gateSum (fun i' r => P j i' (colG r)) (fun r => w r (hd h d)) (b (hd h d)) i

/-- The state of head `h` after the first `j` chunks. -/
def scan : ℕ → Fin 256 → Fin 128 → EReal
  | 0 => fun _ _ => 0
  | j + 1 => nextState (fun i d => P j i (colK h d)) (decayAt P w b h j) (fun i e => P j i (colV h e)) (scan j)

/-- What head `h` puts out for row `i` of chunk `j`. -/
def outRow (j : ℕ) (i : Fin 64) (e : Fin 256) : EReal :=
  normed
    (fun e' => headRow (fun i' d => P j i' (colQ h d) * Ideal.ofBits .f32 1035273459#32) (fun i' d => P j i' (colK h d))
      (decayAt P w b h j) (fun i' e'' => P j i' (colV h e'')) (fun i' e'' => R j i' (hv h e'')) (scan P w b h j) i e')
    n (fun e' => P j i (colR h e')) e
end

/-! The rows: chunks 0 to 3 are the context's 256 rows; after them a latent's rows come column by column, its array
    holding 128 rows of 64 columns. -/

def latRow (j : ℕ) (i : Fin 64) : Fin 8192 :=
  ⟨(64 * (j - 4) + i.val) % 128 * 64 + (64 * (j - 4) + i.val) / 128 % 64, by omega⟩

def rows (a0 : (⟨3, ![2, 256, 5376]⟩ : Shape).Idx → EReal) (a1 : (⟨3, ![2, 8192, 5376]⟩ : Shape).Idx → EReal)
    (m : Fin 2) (j : ℕ) (i : Fin 64) (f : Fin 5376) : EReal :=
  if h : j < 4 then a0 (ix3 m ⟨64 * j + i.val, by omega⟩ f) else a1 (ValueIdx.ix3 m (latRow j i) f)

/-- The reverse pass's rows, already in the scanned order. -/
def rest (a5 : (⟨3, ![2, 256, 1024]⟩ : Shape).Idx → EReal) (a6 : (⟨3, ![2, 8192, 1024]⟩ : Shape).Idx → EReal)
    (m : Fin 2) (j : ℕ) (i : Fin 64) (f : Fin 1024) : EReal :=
  if h : j < 4 then a5 (ix3 m ⟨64 * j + i.val, by omega⟩ f)
  else a6 (ix3 m ⟨(64 * (j - 4) + i.val) % 8192, Nat.mod_lt _ (by decide)⟩ f)

/-! The two results, of the arguments: the context's projected rows, the latents', the gate's weights and biases (of two
    passes, the first one's), the norm's weights, and the reverse pass's rows. -/

section
variable (a0 : (⟨3, ![2, 256, 5376]⟩ : Shape).Idx → EReal) (a1 : (⟨3, ![2, 8192, 5376]⟩ : Shape).Idx → EReal)
  (a2 : (⟨3, ![2, 16, 512]⟩ : Shape).Idx → EReal) (a3 : (⟨2, ![2, 512]⟩ : Shape).Idx → EReal) (a4 : (⟨1, ![256]⟩ : Shape).Idx → EReal)
  (a5 : (⟨3, ![2, 256, 1024]⟩ : Shape).Idx → EReal) (a6 : (⟨3, ![2, 8192, 1024]⟩ : Shape).Idx → EReal)

def stateAfter (m : Fin 2) (h : Fin 4) (j : ℕ) (e : Fin 256) (d : Fin 128) : EReal :=
  scan (rows a0 a1 m) (fun r f => a2 (ix3 0 r f)) (fun f => a3 (ix2 0 f)) h j e d
def result (m : Fin 2) (h : Fin 4) (j : ℕ) (i : Fin 64) (e : Fin 256) : EReal :=
  outRow (rows a0 a1 m) (rest a5 a6 m) (fun r f => a2 (ix3 0 r f)) (fun f => a3 (ix2 0 f)) (fun e' => a4 (ix1 e')) h j i e

def specCtx : (⟨3, ![2, 256, 1024]⟩ : Shape).Idx → EReal := fun y =>
  result a0 a1 a2 a3 a4 a5 a6 (y 0) ⟨(y 2).val / 256, Nat.div_lt_of_lt_mul (y 2).isLt⟩ ((y 1).val / 64) ⟨(y 1).val % 64, Nat.mod_lt _ (by decide)⟩
    ⟨(y 2).val % 256, Nat.mod_lt _ (by decide)⟩
def specLat : (⟨3, ![2, 8192, 1024]⟩ : Shape).Idx → EReal := fun y =>
  result a0 a1 a2 a3 a4 a5 a6 (y 0) ⟨(y 2).val / 256, Nat.div_lt_of_lt_mul (y 2).isLt⟩ ((256 + (y 1).val) / 64)
    ⟨(256 + (y 1).val) % 64, Nat.mod_lt _ (by decide)⟩ ⟨(y 2).val % 256, Nat.mod_lt _ (by decide)⟩
end

/-! Laws used on both sides. -/

theorem log1p_nonneg {x : EReal} (hx : 0 ≤ x) : 0 ≤ Ideal.log1p x := by
  unfold Ideal.log1p
  induction x using EReal.rec with
  | bot => exact absurd hx (by simp)
  | top => exact le_top
  | coe r =>
    have hr : (0 : ℝ) ≤ r := by exact_mod_cast hx
    have h1 : (1 : EReal) + (r : EReal) = ((1 + r : ℝ) : EReal) := by push_cast; rfl
    rw [h1]
    show (0 : EReal) ≤ (if (1 + r) ≤ 0 then ⊥ else ((Real.log (1 + r) : ℝ) : EReal))
    rw [if_neg (by linarith)]
    exact_mod_cast Real.log_nonneg (by linarith)

theorem exp_nonneg (x : EReal) : 0 ≤ Ideal.exp x := by
  induction x using EReal.rec with
  | bot => exact le_refl _
  | top => exact le_top
  | coe r => exact EReal.coe_nonneg.mpr (Real.exp_pos r).le

theorem sixteen : Ideal.ofBits .f32 1098907648#32 = ((16 : ℝ) : EReal) := by
  simp [Ideal.ofBits, Ideal.ieee]
  rw [← EReal.coe_mul]
  norm_num
theorem sixteenth : Ideal.ofBits .f32 1031798784#32 = ((1 / 16 : ℝ) : EReal) := by
  simp [Ideal.ofBits, Ideal.ieee]
  rw [← EReal.coe_mul]
  norm_num

theorem div_sixteen (x : EReal) : Ideal.div x (Ideal.ofBits .f32 1098907648#32) = x * Ideal.ofBits .f32 1031798784#32 := by
  rw [sixteen, sixteenth]
  unfold Ideal.div
  rw [if_neg (by exact_mod_cast (by norm_num : (16 : ℝ) ≠ 0)), ← EReal.coe_inv]
  norm_num

theorem logGate_nonpos (z : EReal) : logGate z ≤ 0 := by
  unfold logGate
  rw [div_sixteen, sixteenth]
  refine mul_nonpos_of_nonpos_of_nonneg ?_ ?_
  · rw [EReal.neg_le, neg_zero]
    exact add_nonneg (le_max_right _ _) (log1p_nonneg (exp_nonneg _))
  · exact_mod_cast (by norm_num : (0 : ℝ) ≤ 1 / 16)

/-- The running sum falls along the rows. -/
theorem gateSum_last_le (x : Fin 64 → Fin 16 → EReal) (w : Fin 16 → EReal) (b : EReal) (i : Fin 64) :
    gateSum x w b 63 ≤ gateSum x w b i := by
  unfold gateSum cum
  refine Finset.sum_le_sum fun i' _ => ?_
  have h : i'.val ≤ (63 : Fin 64).val := Nat.le_of_lt_succ i'.isLt
  rw [if_pos h]
  split
  · exact le_refl _
  · exact logGate_nonpos _

theorem gateSum_nonpos (x : Fin 64 → Fin 16 → EReal) (w : Fin 16 → EReal) (b : EReal) (i : Fin 64) :
    gateSum x w b i ≤ 0 := by
  unfold gateSum cum
  refine Finset.sum_nonpos fun i' _ => ?_
  split
  · exact logGate_nonpos _
  · exact le_refl _

/-- The decay from a row to the chunk's end, as one exponential or as two. -/
theorem exp_split {s t : EReal} (hs : s ≤ t) (ht : t ≤ 0) : Ideal.exp (s - t) = Ideal.exp (-t) * Ideal.exp s := by
  induction t using EReal.rec with
  | top => exact absurd ht (by simp)
  | bot =>
    obtain rfl : s = ⊥ := le_bot_iff.mp hs
    show Ideal.exp (⊥ - ⊥) = Ideal.exp (-⊥) * Ideal.exp ⊥
    have : (⊥ : EReal) - ⊥ = ⊥ := by simp [sub_eq_add_neg]
    rw [this]
    show (0 : EReal) = _ * 0
    rw [mul_zero]
  | coe t =>
    induction s using EReal.rec with
    | top => exact absurd (hs.trans ht) (by simp)
    | bot =>
      have : (⊥ : EReal) - (t : EReal) = ⊥ := by simp [sub_eq_add_neg]
      rw [this]
      show (0 : EReal) = _ * 0
      rw [mul_zero]
    | coe s =>
      rw [← EReal.coe_sub, ← EReal.coe_neg]
      show ((Real.exp (s - t) : ℝ) : EReal) = ((Real.exp (-t) : ℝ) : EReal) * ((Real.exp s : ℝ) : EReal)
      rw [← EReal.coe_mul, ← Real.exp_add]
      congr 2; ring

end Cert.Gla

end
-- ==== Proof.GlaRows.lean ====
/- The attention call: the arrays of a point's 256 tokens at an index, over the extended reals. -/
module

public import proofs.«01_k».proof.Proof.GlaArrays
public import proofs.«01_k».proof.Proof.GlaHeadAt
public import proofs.«01_k».proof.Proof.GlaSpec

@[expose] public section

set_option maxRecDepth 16384

noncomputable section

namespace Cert.KernelIdeal.Gla

open Idealize.ShloMosaic Cert.KernelIdeal Cert.KernelIdeal.Gen

/-- The kernel's form of the gate's logarithm. -/
theorem logGate_kernel (z : EReal) :
    (0 - ((max (0 - z) 0) + Ideal.log1p (Ideal.exp (0 - max (0 - z) (-(0 - z)))))) * Ideal.ofBits .f32 1031798784#32 = Cert.Gla.logGate z := by
  unfold Cert.Gla.logGate
  rw [Cert.Gla.div_sixteen, zero_sub, zero_sub, zero_sub]

/-- A term of the running sum: the mask keeps the rows up to one's own. -/
theorem masked {i0 i : Fin 64} (h : i0 = i) (x : Fin 64) (g : EReal) :
    Scalar.select (k0_pay6 (ix2 i0 x)) g 0 = if x.val ≤ i.val then g else 0 := by
  subst h
  rw [keep_at, select_of]

/-! The running sums of each chunk. -/

theorem pay7_0 (x : FVec Ideal S256x32 .f32) (w : FVec Ideal S32x512 .f32) (b : FVec Ideal S1x512 .f32) (i : Fin 64) (d : Fin 512) :
    k0_pay7 (F := Ideal) x w b (ix2 ⟨64 * 0 + i.val, by omega⟩ d)
      = Cert.Gla.cum (fun i' => Cert.Gla.logGate (∑ f : Fin 32, x (ix2 ⟨64 * 0 + i'.val, by omega⟩ f) * w (ix2 f d) + b (ix2 0 d))) i := by
  pointwise [k0_pay7]
  refine Finset.sum_congr rfl fun y _ => ?_
  simp only [ne_eq, not_true_eq_false, if_false]
  exact (congrArg (Scalar.select _ · 0) (logGate_kernel _)).trans (masked rfl y _)
theorem pay7_1 (x : FVec Ideal S256x32 .f32) (w : FVec Ideal S32x512 .f32) (b : FVec Ideal S1x512 .f32) (i : Fin 64) (d : Fin 512) :
    k0_pay7 (F := Ideal) x w b (ix2 ⟨64 * 1 + i.val, by omega⟩ d)
      = Cert.Gla.cum (fun i' => Cert.Gla.logGate (∑ f : Fin 32, x (ix2 ⟨64 * 1 + i'.val, by omega⟩ f) * w (ix2 f d) + b (ix2 0 d))) i := by
  pointwise [k0_pay7]
  refine Finset.sum_congr rfl fun y _ => ?_
  simp only [ne_eq, not_true_eq_false, if_false]
  exact (congrArg (Scalar.select _ · 0) (logGate_kernel _)).trans (masked rfl y _)
theorem pay7_2 (x : FVec Ideal S256x32 .f32) (w : FVec Ideal S32x512 .f32) (b : FVec Ideal S1x512 .f32) (i : Fin 64) (d : Fin 512) :
    k0_pay7 (F := Ideal) x w b (ix2 ⟨64 * 2 + i.val, by omega⟩ d)
      = Cert.Gla.cum (fun i' => Cert.Gla.logGate (∑ f : Fin 32, x (ix2 ⟨64 * 2 + i'.val, by omega⟩ f) * w (ix2 f d) + b (ix2 0 d))) i := by
  pointwise [k0_pay7]
  rw [dif_neg (by omega), dif_neg (by omega), dif_pos (by omega)]
  refine Finset.sum_congr rfl fun y _ => ?_
  simp only [ne_eq, not_true_eq_false, if_false]
  exact (congrArg (Scalar.select _ · 0) (logGate_kernel _)).trans (masked (Fin.ext (by dsimp only; omega)) y _)
theorem pay7_3 (x : FVec Ideal S256x32 .f32) (w : FVec Ideal S32x512 .f32) (b : FVec Ideal S1x512 .f32) (i : Fin 64) (d : Fin 512) :
    k0_pay7 (F := Ideal) x w b (ix2 ⟨64 * 3 + i.val, by omega⟩ d)
      = Cert.Gla.cum (fun i' => Cert.Gla.logGate (∑ f : Fin 32, x (ix2 ⟨64 * 3 + i'.val, by omega⟩ f) * w (ix2 f d) + b (ix2 0 d))) i := by
  pointwise [k0_pay7]
  rw [dif_neg (by omega), dif_neg (by omega), dif_neg (by omega)]
  refine Finset.sum_congr rfl fun y _ => ?_
  simp only [ne_eq, not_true_eq_false, if_false]
  exact (congrArg (Scalar.select _ · 0) (logGate_kernel _)).trans (masked (Fin.ext (by dsimp only; omega)) y _)
theorem pay7_at (x : FVec Ideal S256x32 .f32) (w : FVec Ideal S32x512 .f32) (b : FVec Ideal S1x512 .f32) (i : Fin 64) (d : Fin 512) :
    ∀ c : Fin 4, k0_pay7 (F := Ideal) x w b (ix2 ⟨64 * c.val + i.val, by omega⟩ d)
      = Cert.Gla.cum (fun i' => Cert.Gla.logGate (∑ f : Fin 32, x (ix2 ⟨64 * c.val + i'.val, by omega⟩ f) * w (ix2 f d) + b (ix2 0 d))) i
  | 0 => pay7_0 x w b i d
  | 1 => pay7_1 x w b i d
  | 2 => pay7_2 x w b i d
  | 3 => pay7_3 x w b i d

/-! The arrays of the tokens: the context's, and the latents' two columns. -/

theorem pay4_ctx (i : grid0.Coords) (hi : isCtx i = 1#1) (x : Vec Ideal S1x256x256 .f32) (a b : Vec Ideal S1x128x1x256 .f32) (r : Fin 256) (f : Fin 32) :
    k0_pay4 i x a b (ix2 r f) = x (ix3 0 r ⟨f.val, by omega⟩) := by
  unfold k0_pay4
  pointwise
  rw [show Scalar.cmpi CmpIPredicate.slt (BitVec.ofNat 32 (i 1).val) 1#32 = 1#1 from hi]
  rfl
theorem pay4_lat (i : grid0.Coords) (hi : isCtx i = 0#1) (x : Vec Ideal S1x256x256 .f32) (a b : Vec Ideal S1x128x1x256 .f32) (r : Fin 256) (f : Fin 32) :
    k0_pay4 i x a b (ix2 r f) = if h : r.val < 128 then a (ix4 0 ⟨r.val, h⟩ 0 ⟨f.val, by omega⟩) else b (ix4 0 ⟨r.val - 128, by omega⟩ 0 ⟨f.val, by omega⟩) := by
  unfold k0_pay4
  pointwise
  rw [show Scalar.cmpi CmpIPredicate.slt (BitVec.ofNat 32 (i 1).val) 1#32 = 0#1 from hi]
  rfl
theorem pay11_ctx (p : FVec Ideal S256x512 .f32) (x : Vec Ideal S1x256x512 .f32) (a b : Vec Ideal S1x128x1x512 .f32) (r : Fin 256) (f : Fin 512) :
    k0_pay11 1#1 p x a b (ix2 r f) = x (ix3 0 r f) * p (ix2 r f) := by
  pointwise [k0_pay11]
theorem pay13_ctx (p : FVec Ideal S256x1024 .f32) (a b : Vec Ideal S1x128x1x1024 .f32) (r : Fin 256) (f : Fin 1024) :
    k0_pay13 1#1 p a b (ix2 r f) = p (ix2 r f)  := by
  pointwise [k0_pay13]
theorem pay12_ctx (x : Vec Ideal S1x256x1024 .f32) (r : Fin 256) (f : Fin 1024) :
    k0_pay12 x (ix2 r f) = x (ix3 0 r f)  := by
  pointwise [k0_pay12]
theorem pay14_ctx (x y: Vec Ideal S1x256x1024 .f32) (r : Fin 256) (f : Fin 1024) :
    k0_pay14 1#1 x y (ix2 r f) = x (ix3 0 r f)  := by
  pointwise [k0_pay14]
theorem pay14_lat (x y: Vec Ideal S1x256x1024 .f32) (r : Fin 256) (f : Fin 1024) :
    k0_pay14 0#1 x y (ix2 r f) = y (ix3 0 r f)  := by
  pointwise [k0_pay14]
theorem pay15_ctx (x : Vec Ideal S1x256x1024 .f32) (a b : Vec Ideal S1x128x1x1024 .f32) (r : Fin 256) (f : Fin 1024) :
    k0_pay15 1#1 x a b (ix2 r f) = x (ix3 0 r f) * Ideal.logistic (x (ix3 0 r f))  := by
  pointwise [k0_pay15]
theorem pay1_at (v : FVec Ideal S256x1024 .f32)  (r : Fin 256) (f : Fin 1024) :
    k0_pay1 (F := Ideal) v (ix3 0 r f) = v (ix2 r f)  := by
  pointwise [k0_pay1]
theorem pay2_at (v : FVec Ideal S256x1024 .f32)  (r : Fin 256) (f : Fin 1024) :
    k0_pay2 (F := Ideal) v (ix3 0 r f) = v (ix2 r f)  := by
  pointwise [k0_pay2]
theorem pay3_at (y : S4x256x128.Idx) :
    k0_pay3 (F := Ideal) y = 0 := by
  pointwise [k0_pay3]
theorem pay5_at (w : Vec Ideal S32x512 .f32) (y : S32x512.Idx) :
    k0_pay5 (F := Ideal) w y = w y := by
  pointwise [k0_pay5]
theorem pay11_lat (p : FVec Ideal S256x512 .f32) (x : Vec Ideal S1x256x512 .f32) (a b : Vec Ideal S1x128x1x512 .f32) (r : Fin 256) (f : Fin 512) :
    k0_pay11 0#1 p x a b (ix2 r f) = (if h : r.val < 128 then a (ix4 0 ⟨r.val, h⟩ 0 f) else b (ix4 0 ⟨r.val - 128, by omega⟩ 0 f)) * p (ix2 r f) := by
  pointwise [k0_pay11]
theorem pay10_lat (p : FVec Ideal S256x512 .f32) (x : Vec Ideal S1x256x512 .f32) (a b : Vec Ideal S1x128x1x512 .f32) (r : Fin 256) (f : Fin 512) :
    k0_pay10 0#1 p x a b (ix2 r f) = (if h : r.val < 128 then a (ix4 0 ⟨r.val, h⟩ 0 f) else b (ix4 0 ⟨r.val - 128, by omega⟩ 0 f)) * Ideal.ofBits .f32 1035273459#32 * p (ix2 r f) := by
  pointwise [k0_pay10]
theorem pay10_ctx (p : FVec Ideal S256x512 .f32) (x : Vec Ideal S1x256x512 .f32) (a b : Vec Ideal S1x128x1x512 .f32) (r : Fin 256) (f : Fin 512) :
    k0_pay10 1#1 p x a b (ix2 r f) = x (ix3 0 r f) * Ideal.ofBits .f32 1035273459#32 * p (ix2 r f) := by
  pointwise [k0_pay10]
theorem pay13_lat (p : FVec Ideal S256x1024 .f32) (a b : Vec Ideal S1x128x1x1024 .f32) (r : Fin 256) (f : Fin 1024) :
    k0_pay13 0#1 p a b (ix2 r f) = if h : r.val < 128 then a (ix4 0 ⟨r.val, h⟩ 0 f) else b (ix4 0 ⟨r.val - 128, by omega⟩ 0 f) := by
  pointwise [k0_pay13]
theorem pay15_lat (x : Vec Ideal S1x256x1024 .f32) (a b : Vec Ideal S1x128x1x1024 .f32) (r : Fin 256) (f : Fin 1024) :
    k0_pay15 0#1 x a b (ix2 r f) = (if h : r.val < 128 then a (ix4 0 ⟨r.val, h⟩ 0 f) else b (ix4 0 ⟨r.val - 128, by omega⟩ 0 f))
      * Ideal.logistic (if h : r.val < 128 then a (ix4 0 ⟨r.val, h⟩ 0 f) else b (ix4 0 ⟨r.val - 128, by omega⟩ 0 f)) := by
  pointwise [k0_pay15]

end Cert.KernelIdeal.Gla

end
-- ==== Proof.GlaArraysAt.lean ====
/- The attention call: the arrays of a point's 256 tokens, as functions of the tokens' projected rows. -/
module

public import proofs.«01_k».proof.Proof.GlaRows

@[expose] public section

set_option maxRecDepth 16384

noncomputable section

namespace Cert.KernelIdeal.Gla

open Idealize.ShloMosaic Cert.KernelIdeal Cert.KernelIdeal.Gen

/-- The arrays are those of tokens with the projected rows `T` and the other pass's rows `U`. -/
structure Arrays (T : Fin 256 → Fin 5376 → EReal) (U : Fin 256 → Fin 1024 → EReal) (w : Fin 16 → Fin 512 → EReal) (bi : Fin 512 → EReal)
    (b q k : FVec Ideal S256x512 .f32) (v p r : FVec Ideal S256x1024 .f32) : Prop where
  b_at : ∀ (c : Fin 4) (i : Fin 64) (d : Fin 512), b (ix2 ⟨64 * c.val + i.val, by omega⟩ d)
    = Cert.Gla.cum (fun i' => Cert.Gla.logGate (∑ f : Fin 16, T ⟨64 * c.val + i'.val, by omega⟩ (Cert.Gla.colG f) * w f d + bi d)) i
  q_at : ∀ (x : Fin 256) (f : Fin 512), q (ix2 x f) = T x ⟨3584 + f.val, by omega⟩ * Ideal.ofBits .f32 1035273459#32 * Ideal.exp (b (ix2 x f))
  k_at : ∀ (x : Fin 256) (f : Fin 512), k (ix2 x f) = T x ⟨3072 + f.val, by omega⟩ * Ideal.exp (-b (ix2 x f))
  v_at : ∀ (x : Fin 256) (f : Fin 1024), v (ix2 x f) = T x ⟨4096 + f.val, by omega⟩
  p_at : ∀ (x : Fin 256) (f : Fin 1024), p (ix2 x f) = U x f
  r_at : ∀ (x : Fin 256) (f : Fin 1024), r (ix2 x f) = T x ⟨2048 + f.val, by omega⟩ * Ideal.logistic (T x ⟨2048 + f.val, by omega⟩)

/-- The gate's weights padded with zero rows sum as without them. -/
theorem padded (x : Fin 32 → EReal) (w : Fin 16 → EReal) :
    ∑ f : Fin 32, x f * (if h : f.val < 16 then w ⟨f.val, h⟩ else 0) = ∑ f : Fin 16, x ⟨f.val, by omega⟩ * w f := by
  refine (Fin.sum_univ_add (a := 16) (b := 16) _).trans ?_
  have e : ∀ i : Fin 16, x (Fin.natAdd 16 i) * (if h : (Fin.natAdd 16 i : Fin 32).val < 16 then w ⟨(Fin.natAdd 16 i : Fin 32).val, h⟩ else 0) = 0 := fun i => by
    rw [dif_neg (by simp), mul_zero]
  rw [Finset.sum_congr rfl fun i _ => e i, Finset.sum_const_zero, add_zero]
  exact Finset.sum_congr rfl fun i _ => congrArg (_ * ·) (dif_pos i.isLt)

variable {T : Fin 256 → Fin 5376 → EReal} {U : Fin 256 → Fin 1024 → EReal} {w : Fin 16 → Fin 512 → EReal} {bi : Fin 512 → EReal}

/-- The running sums, of the gate's input. -/
theorem sums_at (g : FVec Ideal S256x32 .f32) (hg : ∀ x f, g (ix2 x f) = T x ⟨5120 + f.val, by omega⟩)
    (x8 : Vec Ideal S32x512 .f32) (h8 : ∀ (r : Fin 32) d, x8 (ix2 r d) = if h : r.val < 16 then w ⟨r.val, h⟩ d else 0)
    (x9 : Vec Ideal S1x512 .f32) (h9 : ∀ d, x9 (ix2 0 d) = bi d) (c : Fin 4) (i : Fin 64) (d : Fin 512) :
    k0_pay7 (F := Ideal) g (k0_pay5 x8) x9 (ix2 ⟨64 * c.val + i.val, by omega⟩ d)
    = Cert.Gla.cum (fun i' => Cert.Gla.logGate (∑ f : Fin 16, T ⟨64 * c.val + i'.val, by omega⟩ (Cert.Gla.colG f) * w f d + bi d)) i := by
  rw [pay7_at]
  refine congrArg (fun z => Cert.Gla.cum z i) (funext fun i' => congrArg Cert.Gla.logGate ?_)
  rw [h9]
  refine congrArg (· + bi d) (Eq.trans (Finset.sum_congr rfl fun f _ => ?_) (padded (fun f => T ⟨64 * c.val + i'.val, by omega⟩ ⟨5120 + f.val, by omega⟩) (fun f => w f d)))
  rw [hg, pay5_at, h8]

/-! A load of a whole window, and of one column of a window. -/

theorem all256_eq (x : Vec Ideal S1x256x256 .f32) : all256 x = x :=
  funext fun y => congrArg x (funext fun a => Fin.ext (by fin_cases a <;> exact (Nat.zero_add _).trans (Nat.one_mul _)))
theorem all512_eq (x : Vec Ideal S1x256x512 .f32) : all512 x = x :=
  funext fun y => congrArg x (funext fun a => Fin.ext (by fin_cases a <;> exact (Nat.zero_add _).trans (Nat.one_mul _)))
theorem all1024_eq (x : Vec Ideal S1x256x1024 .f32) : all1024 x = x :=
  funext fun y => congrArg x (funext fun a => Fin.ext (by fin_cases a <;> exact (Nat.zero_add _).trans (Nat.one_mul _)))
theorem weights_eq (x : Vec Ideal S32x512 .f32) : View.ld x (Rect.unit (s := S32x512) ![0, 0] S32x512.size inb_S32x512_S32x512_0_0) = x :=
  funext fun y => congrArg x (funext fun a => Fin.ext (by fin_cases a <;> exact (Nat.zero_add _).trans (Nat.one_mul _)))
theorem bias_eq (x : Vec Ideal S1x512 .f32) : View.ld x (Rect.unit (s := S1x512) ![0, 0] S1x512.size inb_S1x512_S1x512_0_0) = x :=
  funext fun y => congrArg x (funext fun a => Fin.ext (by fin_cases a <;> exact (Nat.zero_add _).trans (Nat.one_mul _)))

theorem col256_at (i : grid0.Coords) (s : Fin 2) (x : Vec Ideal S1x128x8x256 .f32) (o : Fin 8) (ho : k0_off1 i (BitVec.ofNat 32 s.val) = ![0, 0, o.val, 0])
    (r : Fin 128) (f : Fin 256) : col256 i s x (ix4 0 r 0 f) = x (ix4 0 r o f) :=
  congrArg x (funext fun a => Fin.ext (by
    show k0_off1 i (BitVec.ofNat 32 s.val) a + 1 * (ix4 (0 : Fin 1) r (0 : Fin 1) f a).val = _
    rw [ho]
    fin_cases a <;> [rfl; exact (Nat.zero_add _).trans (Nat.one_mul _); rfl; exact (Nat.zero_add _).trans (Nat.one_mul _)]))
theorem col512_at (i : grid0.Coords) (s : Fin 2) (x : Vec Ideal S1x128x8x512 .f32) (o : Fin 8) (ho : k0_off2 i (BitVec.ofNat 32 s.val) = ![0, 0, o.val, 0])
    (r : Fin 128) (f : Fin 512) : col512 i s x (ix4 0 r 0 f) = x (ix4 0 r o f) :=
  congrArg x (funext fun a => Fin.ext (by
    show k0_off2 i (BitVec.ofNat 32 s.val) a + 1 * (ix4 (0 : Fin 1) r (0 : Fin 1) f a).val = _
    rw [ho]
    fin_cases a <;> [rfl; exact (Nat.zero_add _).trans (Nat.one_mul _); rfl; exact (Nat.zero_add _).trans (Nat.one_mul _)]))
theorem col1024_at (i : grid0.Coords) (s : Fin 2) (x : Vec Ideal S1x128x8x1024 .f32) (o : Fin 8) (ho : k0_off3 i (BitVec.ofNat 32 s.val) = ![0, 0, o.val, 0])
    (r : Fin 128) (f : Fin 1024) : col1024 i s x (ix4 0 r 0 f) = x (ix4 0 r o f) :=
  congrArg x (funext fun a => Fin.ext (by
    show k0_off3 i (BitVec.ofNat 32 s.val) a + 1 * (ix4 (0 : Fin 1) r (0 : Fin 1) f a).val = _
    rw [ho]
    fin_cases a <;> [rfl; exact (Nat.zero_add _).trans (Nat.one_mul _); rfl; exact (Nat.zero_add _).trans (Nat.one_mul _)]))

/-- The arrays of the context. -/
theorem ctx_arrays (i : grid0.Coords) (hi : isCtx i = 1#1)
    (x0 x1 : Vec Ideal S1x256x512 .f32) (x2 : Vec Ideal S1x256x1024 .f32) (x3 : Vec Ideal S1x256x256 .f32) (x4 x5 : Vec Ideal S1x128x8x512 .f32)
    (x6 : Vec Ideal S1x128x8x1024 .f32) (x7 : Vec Ideal S1x128x8x256 .f32) (x8 : Vec Ideal S32x512 .f32) (x9 : Vec Ideal S1x512 .f32)
    (x10 x11 x13 : Vec Ideal S1x256x1024 .f32) (x14 : Vec Ideal S1x128x8x1024 .f32)
    (h0 : ∀ x f, x0 (ix3 0 x f) = T x ⟨3072 + f.val, by omega⟩) (h1 : ∀ x f, x1 (ix3 0 x f) = T x ⟨3584 + f.val, by omega⟩)
    (h2 : ∀ x f, x2 (ix3 0 x f) = T x ⟨4096 + f.val, by omega⟩) (h3 : ∀ x f, x3 (ix3 0 x f) = T x ⟨5120 + f.val, by omega⟩)
    (h8 : ∀ (r : Fin 32) d, x8 (ix2 r d) = if h : r.val < 16 then w ⟨r.val, h⟩ d else 0) (h9 : ∀ d, x9 (ix2 0 d) = bi d)
    (h10 : ∀ x f, x10 (ix3 0 x f) = U x f) (h13 : ∀ x f, x13 (ix3 0 x f) = T x ⟨2048 + f.val, by omega⟩) :
    Arrays T U w bi (bArr i x3 x7 x8 x9) (qArr i x1 x5 x3 x7 x8 x9) (kArr i x0 x4 x3 x7 x8 x9) (vArr i x2 x6) (pArr i x10 x11) (gArr i x13 x14) where
  b_at c j d := by
    unfold bArr
    rw [weights_eq, bias_eq]
    exact sums_at _ (fun x f => by rw [pay4_ctx i hi, all256_eq, h3]) x8 h8 x9 h9 c j d
  q_at x f := by unfold qArr; rw [hi, pay10_ctx, all512_eq, h1]; rfl
  k_at x f := by unfold kArr; rw [hi, pay11_ctx, all512_eq, h0]; refine congrArg (_ * Ideal.exp ·) ?_; pointwise; exact zero_sub _
  v_at x f := by unfold vArr; rw [hi, pay13_ctx, pay12_ctx, all1024_eq, h2]
  p_at x f := by unfold pArr; rw [hi, pay14_ctx, all1024_eq, h10]
  r_at x f := by unfold gArr; rw [hi, pay15_ctx, all1024_eq, h13]

/-- A choice between a point's two columns. -/
theorem two_cols (x : Fin 256) (a b z : EReal) (ha : x.val < 128 → a = z) (hb : ¬x.val < 128 → b = z) : (if x.val < 128 then a else b) = z := by
  by_cases h : x.val < 128
  · rw [if_pos h, ha h]
  · rw [if_neg h, hb h]

/-- The arrays of the latents, out of the columns `o` and `o'` of the windows. -/
theorem lat_arrays (i : grid0.Coords) (hi : isCtx i = 0#1) (o o' : Fin 8)
    (e1 : k0_off1 i (BitVec.ofNat 32 (0 : Fin 2).val) = ![0, 0, o.val, 0]) (e1' : k0_off1 i (BitVec.ofNat 32 (1 : Fin 2).val) = ![0, 0, o'.val, 0])
    (e2 : k0_off2 i (BitVec.ofNat 32 (0 : Fin 2).val) = ![0, 0, o.val, 0]) (e2' : k0_off2 i (BitVec.ofNat 32 (1 : Fin 2).val) = ![0, 0, o'.val, 0])
    (e3 : k0_off3 i (BitVec.ofNat 32 (0 : Fin 2).val) = ![0, 0, o.val, 0]) (e3' : k0_off3 i (BitVec.ofNat 32 (1 : Fin 2).val) = ![0, 0, o'.val, 0])
    (x0 x1 : Vec Ideal S1x256x512 .f32) (x2 : Vec Ideal S1x256x1024 .f32) (x3 : Vec Ideal S1x256x256 .f32) (x4 x5 : Vec Ideal S1x128x8x512 .f32)
    (x6 : Vec Ideal S1x128x8x1024 .f32) (x7 : Vec Ideal S1x128x8x256 .f32) (x8 : Vec Ideal S32x512 .f32) (x9 : Vec Ideal S1x512 .f32)
    (x10 x11 x13 : Vec Ideal S1x256x1024 .f32) (x14 : Vec Ideal S1x128x8x1024 .f32)
    (h4 : ∀ r f, x4 (ix4 0 r o f) = T ⟨r.val, by omega⟩ ⟨3072 + f.val, by omega⟩) (h4' : ∀ r f, x4 (ix4 0 r o' f) = T ⟨128 + r.val, by omega⟩ ⟨3072 + f.val, by omega⟩)
    (h5 : ∀ r f, x5 (ix4 0 r o f) = T ⟨r.val, by omega⟩ ⟨3584 + f.val, by omega⟩) (h5' : ∀ r f, x5 (ix4 0 r o' f) = T ⟨128 + r.val, by omega⟩ ⟨3584 + f.val, by omega⟩)
    (h6 : ∀ r f, x6 (ix4 0 r o f) = T ⟨r.val, by omega⟩ ⟨4096 + f.val, by omega⟩) (h6' : ∀ r f, x6 (ix4 0 r o' f) = T ⟨128 + r.val, by omega⟩ ⟨4096 + f.val, by omega⟩)
    (h7 : ∀ r f, x7 (ix4 0 r o f) = T ⟨r.val, by omega⟩ ⟨5120 + f.val, by omega⟩) (h7' : ∀ r f, x7 (ix4 0 r o' f) = T ⟨128 + r.val, by omega⟩ ⟨5120 + f.val, by omega⟩)
    (h8 : ∀ (r : Fin 32) d, x8 (ix2 r d) = if h : r.val < 16 then w ⟨r.val, h⟩ d else 0) (h9 : ∀ d, x9 (ix2 0 d) = bi d)
    (h11 : ∀ x f, x11 (ix3 0 x f) = U x f)
    (h14 : ∀ r f, x14 (ix4 0 r o f) = T ⟨r.val, by omega⟩ ⟨2048 + f.val, by omega⟩) (h14' : ∀ r f, x14 (ix4 0 r o' f) = T ⟨128 + r.val, by omega⟩ ⟨2048 + f.val, by omega⟩) :
    Arrays T U w bi (bArr i x3 x7 x8 x9) (qArr i x1 x5 x3 x7 x8 x9) (kArr i x0 x4 x3 x7 x8 x9) (vArr i x2 x6) (pArr i x10 x11) (gArr i x13 x14) := by
  have up : ∀ {x : Fin 256} (h : ¬x.val < 128) (g : Fin 5376), T ⟨128 + (x.val - 128), by omega⟩ g = T x g := fun {x} h g =>
    congrArg (T · g) (Fin.ext (Nat.add_sub_cancel' (Nat.le_of_not_lt h)))
  constructor
  · intro c j d
    unfold bArr
    rw [weights_eq, bias_eq]
    refine sums_at _ (fun x f => ?_) x8 h8 x9 h9 c j d
    rw [pay4_lat i hi]
    split
    · rw [col256_at i 0 x7 o e1, h7]
    · rename_i h
      rw [col256_at i 1 x7 o' e1', h7', up h]
  · intro x f
    unfold qArr
    rw [hi, pay10_lat]
    refine congrArg (· * _ * _) ?_
    split
    · rw [col512_at i 0 x5 o e2, h5]
    · rename_i h
      rw [col512_at i 1 x5 o' e2', h5', up h]
  · intro x f
    unfold kArr
    rw [hi, pay11_lat]
    refine congrArg₂ (· * ·) ?_ (congrArg Ideal.exp (by pointwise; exact zero_sub _))
    split
    · rw [col512_at i 0 x4 o e2, h4]
    · rename_i h
      rw [col512_at i 1 x4 o' e2', h4', up h]
  · intro x f
    unfold vArr
    rw [hi, pay13_lat]
    split
    · rw [col1024_at i 0 x6 o e3, h6]
    · rename_i h
      rw [col1024_at i 1 x6 o' e3', h6', up h]
  · intro x f
    unfold pArr
    rw [hi, pay14_lat, all1024_eq, h11]
  · intro x f
    unfold gArr
    rw [hi, pay15_lat]
    refine congrArg (fun z => z * Ideal.logistic z) ?_
    split
    · rw [col1024_at i 0 x14 o e3, h14]
    · rename_i h
      rw [col1024_at i 1 x14 o' e3', h14', up h]

theorem hd_eq (h : Fin 4) (d : Fin 128) : (⟨128 * h.val + d.val, by omega⟩ : Fin 512) = Cert.Gla.hd h d :=
  Fin.ext (congrArg (· + d.val) (Nat.mul_comm _ _))
theorem hv_eq (h : Fin 4) (e : Fin 256) : (⟨256 * h.val + e.val, by omega⟩ : Fin 1024) = Cert.Gla.hv h e :=
  Fin.ext (congrArg (· + e.val) (Nat.mul_comm _ _))

/-! One chunk of the arrays, against the specification's. -/

section
variable {b q k : FVec Ideal S256x512 .f32} {v p r : FVec Ideal S256x1024 .f32} (A : Arrays T U w bi b q k v p r)
  {P : ℕ → Fin 64 → Fin 5376 → EReal} {R : ℕ → Fin 64 → Fin 1024 → EReal} {n : Fin 256 → EReal} {j : ℕ} {c : Fin 4}
  (hP : ∀ (i : Fin 64) f, T ⟨64 * c.val + i.val, by omega⟩ f = P j i f) (hR : ∀ (i : Fin 64) f, U ⟨64 * c.val + i.val, by omega⟩ f = R j i f)
include A hP

theorem chunk_b (i : Fin 64) (h : Fin 4) (d : Fin 128) :
    b (ix2 ⟨64 * c.val + i.val, by omega⟩ (Cert.Gla.hd h d)) = Cert.Gla.decayAt P w bi h j i d := by
  rw [A.b_at]
  unfold Cert.Gla.decayAt Cert.Gla.gateSum
  simp only [hP]
theorem chunk_k (i : Fin 64) (h : Fin 4) (d : Fin 128) :
    k (ix2 ⟨64 * c.val + i.val, by omega⟩ (Cert.Gla.hd h d)) = P j i (Cert.Gla.colK h d) * Ideal.exp (-Cert.Gla.decayAt P w bi h j i d) := by
  rw [A.k_at, hP, chunk_b A hP]
  rfl
theorem chunk_q (i : Fin 64) (h : Fin 4) (d : Fin 128) :
    q (ix2 ⟨64 * c.val + i.val, by omega⟩ (Cert.Gla.hd h d))
      = P j i (Cert.Gla.colQ h d) * Ideal.ofBits .f32 1035273459#32 * Ideal.exp (Cert.Gla.decayAt P w bi h j i d) := by
  rw [A.q_at, hP, chunk_b A hP]
  rfl
theorem chunk_v (i : Fin 64) (h : Fin 4) (e : Fin 256) :
    v (ix2 ⟨64 * c.val + i.val, by omega⟩ (Cert.Gla.hv h e)) = P j i (Cert.Gla.colV h e) := by
  rw [A.v_at, hP]
  rfl
theorem chunk_r (i : Fin 64) (h : Fin 4) (e : Fin 256) :
    r (ix2 ⟨64 * c.val + i.val, by omega⟩ (Cert.Gla.hv h e)) = P j i (Cert.Gla.colR h e) * Ideal.logistic (P j i (Cert.Gla.colR h e)) := by
  rw [A.r_at, hP]
  rfl

/-- The state after the chunk. -/
theorem chunk_state (S : Vec Ideal S4x256x128 .f32) (hS : ∀ h e d, S (ix3 h e d) = Cert.Gla.scan P w bi h j e d) (h : Fin 4) (e : Fin 256) (d : Fin 128) :
    after c b k v S (ix3 h e d) = Cert.Gla.scan P w bi h (j + 1) e d := by
  show stateOf c h b k v (headOf S h) (ix3 0 e d) = _
  unfold stateOf
  rw [newState_at]
  have eb : ∀ d, b (ix2 ⟨64 * c.val + 63, by omega⟩ (Cert.Gla.hd h d)) = Cert.Gla.decayAt P w bi h j 63 d := fun d => chunk_b A hP 63 h d
  refine congrArg₂ (· + ·) (congrArg₂ (· * ·) (hS h e d) ?_) (Finset.sum_congr rfl fun i _ => congrArg₂ (· * ·) ?_ ?_)
  · refine Eq.trans (congrArg (decay c b) (a₂ := ix2 0 (Cert.Gla.hd h d)) (funext fun a => Fin.ext ?_)) ?_
    · fin_cases a <;> [rfl; exact congrArg (· + d.val) (Nat.mul_comm _ _)]
    · rw [decay_at c h, eb]
  · rw [partV_at, hv_eq, chunk_v A hP]
  · refine Eq.trans (congrArg (keysEnd c b k) (a₂ := ix2 i (Cert.Gla.hd h d)) (funext fun a => Fin.ext ?_)) ?_
    · fin_cases a <;> [exact Nat.zero_add _; exact congrArg (· + d.val) (Nat.mul_comm _ _)]
    · rw [keysEnd_at, eb, chunk_k A hP]

include hR
/-- What a head puts out for a row of the chunk. -/
theorem chunk_out (ng : Vec Ideal S1x256 .f32) (hn : ∀ e, ng (ix2 0 e) = n e) (h : Fin 4) (s : Vec Ideal S1x256x128 .f32)
    (hs : ∀ e d, s (ix3 0 e d) = Cert.Gla.scan P w bi h j e d) (i : Fin 64) (e : Fin 256) :
    outOf c h q k v p r ng s (ix2 i e) = Cert.Gla.outRow P R w bi n h j i e := by
  unfold outOf Cert.Gla.outRow
  have eo : ∀ e', headSum (partQ c h q) (partQ c h k) (partV c h v) (partV c h p) s (ix2 i e') = Cert.Gla.headRow
      (fun i' d => P j i' (Cert.Gla.colQ h d) * Ideal.ofBits .f32 1035273459#32) (fun i' d => P j i' (Cert.Gla.colK h d))
      (Cert.Gla.decayAt P w bi h j) (fun i' e'' => P j i' (Cert.Gla.colV h e'')) (fun i' e'' => R j i' (Cert.Gla.hv h e''))
      (Cert.Gla.scan P w bi h j) i e' := fun e' => by
    rw [headSum_at]
    unfold Cert.Gla.headRow
    refine congrArg₂ (· + ·) (congrArg₂ (· + ·) (Finset.sum_congr rfl fun y _ => congrArg₂ (· * ·) (if_congr Iff.rfl (Finset.sum_congr rfl fun d _ => ?_) rfl) ?_)
      (Finset.sum_congr rfl fun d _ => ?_)) ?_
    · rw [partQ_at, partQ_at, hd_eq, chunk_q A hP, chunk_k A hP]
    · rw [partV_at, hv_eq, chunk_v A hP]
    · rw [partQ_at, hd_eq, chunk_q A hP, hs]
    · rw [partV_at, hv_eq, A.p_at, hR]
  rw [finish_at, hn, partV_at, hv_eq, chunk_r A hP]
  simp only [eo]
  rfl
end

end Cert.KernelIdeal.Gla

end
-- ==== Proof.GlaChain.lean ====
/- The attention call: a point's four chunks one after the other, from the state before them. -/
module

public import proofs.«01_k».proof.Proof.GlaArraysAt

@[expose] public section

set_option maxRecDepth 16384

noncomputable section

namespace Cert.KernelIdeal.Gla

open Idealize.ShloMosaic Cert.KernelIdeal Cert.KernelIdeal.Gen

section
variable {F : FTy → Type} [FloatOps F]

/-- The state after the first `n` chunks of a point. -/
def chain (b k : FVec F S256x512 .f32) (v : FVec F S256x1024 .f32) (S : Vec F S4x256x128 .f32) : ℕ → Vec F S4x256x128 .f32
  | 0 => S
  | n + 1 => after ⟨n % 4, Nat.mod_lt _ (by decide)⟩ b k v (chain b k v S n)

/-- What a point puts out for its 256 tokens. -/
def outArr (b q k : FVec F S256x512 .f32) (v p r : FVec F S256x1024 .f32) (ng : Vec F S1x256 .f32) (S : Vec F S4x256x128 .f32) :
    FVec F S256x1024 .f32 := fun y =>
  outOf ⟨(y 0).val / 64, Nat.div_lt_of_lt_mul (y 0).isLt⟩ ⟨(y 1).val / 256, Nat.div_lt_of_lt_mul (y 1).isLt⟩ q k v p r ng
    (headOf (chain b k v S ((y 0).val / 64)) ⟨(y 1).val / 256, Nat.div_lt_of_lt_mul (y 1).isLt⟩)
    (ix2 ⟨(y 0).val % 64, Nat.mod_lt _ (by decide)⟩ ⟨(y 1).val % 256, Nat.mod_lt _ (by decide)⟩)
end

/-- Row `i` of chunk `c` among a point's rows. -/
def rowIn (c : Fin 4) (i : Fin 64) : Fin 256 := ⟨64 * c.val + i.val, by omega⟩

section
variable {T : Fin 256 → Fin 5376 → EReal} {U : Fin 256 → Fin 1024 → EReal} {w : Fin 16 → Fin 512 → EReal} {bi : Fin 512 → EReal}
  {b q k : FVec Ideal S256x512 .f32} {v p r : FVec Ideal S256x1024 .f32} (A : Arrays T U w bi b q k v p r)
  {P : ℕ → Fin 64 → Fin 5376 → EReal} {R : ℕ → Fin 64 → Fin 1024 → EReal} {n : Fin 256 → EReal} {j : ℕ}
  (hP : ∀ (c : Fin 4) (i : Fin 64) f, T (rowIn c i) f = P (j + c.val) i f)
  (hR : ∀ (c : Fin 4) (i : Fin 64) f, U (rowIn c i) f = R (j + c.val) i f)
  {S : Vec Ideal S4x256x128 .f32} (hS : ∀ h e d, S (ix3 h e d) = Cert.Gla.scan P w bi h j e d)
include A hP hS

theorem chain_at : ∀ m ≤ 4, ∀ h e d, chain b k v S m (ix3 h e d) = Cert.Gla.scan P w bi h (j + m) e d
  | 0, _ => hS
  | m + 1, hm => by
    intro h e d
    have hm4 : m % 4 = m := Nat.mod_eq_of_lt hm
    refine chunk_state (j := j + m) (c := ⟨m % 4, Nat.mod_lt _ (by decide)⟩) A (fun i f => ?_) (chain b k v S m) (chain_at m (Nat.le_of_succ_le hm)) h e d
    refine (hP ⟨m % 4, Nat.mod_lt _ (by decide)⟩ i f).trans ?_
    show P (j + m % 4) i f = P (j + m) i f
    rw [hm4]

include hR
theorem outArr_at (ng : Vec Ideal S1x256 .f32) (hn : ∀ e, ng (ix2 0 e) = n e) (x : Fin 256) (f : Fin 1024) :
    outArr b q k v p r ng S (ix2 x f) = Cert.Gla.outRow P R w bi n ⟨f.val / 256, by omega⟩ (j + x.val / 64) ⟨x.val % 64, by omega⟩ ⟨f.val % 256, by omega⟩ :=
  chunk_out (j := j + x.val / 64) (c := ⟨x.val / 64, by omega⟩) A (hP ⟨x.val / 64, by omega⟩) (hR ⟨x.val / 64, by omega⟩) ng hn ⟨f.val / 256, by omega⟩ _
    (fun e d => chain_at A hP hS (x.val / 64) (by omega) ⟨f.val / 256, by omega⟩ e d) ⟨x.val % 64, by omega⟩ ⟨f.val % 256, by omega⟩
end

end Cert.KernelIdeal.Gla

end
-- ==== Proof.GlaContext.lean ====
/- The attention call: the stores of a point of the context, read as four chunks of four heads. -/
module

public import proofs.«01_k».proof.Proof.GlaRunCtx
public import proofs.«01_k».proof.Proof.GlaArrays

@[expose] public section

set_option maxRecDepth 16384
set_option maxHeartbeats 4000000

noncomputable section

open Idealize.ShloMosaic Idealize.ShloMosaic.TcCoe Idealize.SL.Sem

namespace Cert.KernelIdeal.Gla

open Cert.KernelIdeal Cert.KernelIdeal.Gen

variable {F : FTy → Type} [FloatOps F]

variable (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x1024 .f32) (harg4 : arg4.IsWhole) (arg5 : Memref sig .tc .vmem S1x256x256 .f32) (harg5 : arg5.IsWhole) (arg6 : Memref sig .tc .vmem S1x128x8x512 .f32) (harg6 : arg6.IsWhole) (arg7 : Memref sig .tc .vmem S1x128x8x512 .f32) (harg7 : arg7.IsWhole) (arg8 : Memref sig .tc .vmem S1x128x8x1024 .f32) (harg8 : arg8.IsWhole) (arg9 : Memref sig .tc .vmem S1x128x8x256 .f32) (harg9 : arg9.IsWhole) (arg10 : Memref sig .tc .vmem S32x512 .f32) (harg10 : arg10.IsWhole) (arg11 : Memref sig .tc .vmem S1x512 .f32) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256 .f32) (harg14 : arg14.IsWhole) (arg15 : Memref sig .tc .vmem S1x256x1024 .f32) (harg15 : arg15.IsWhole) (arg16 : Memref sig .tc .vmem S1x128x8x1024 .f32) (harg16 : arg16.IsWhole) (arg17 : Memref sig .tc .vmem S1x256x1024 .bf16) (harg17 : arg17.IsWhole) (arg18 : Memref sig .tc .vmem S1x256x1024 .bf16) (harg18 : arg18.IsWhole) (arg19 : Memref sig .tc .vmem S4x256x128 .f32) (harg19 : arg19.IsWhole) (arg20 : Memref sig .tc .vmem S256x1024 .f32) (harg20 : arg20.IsWhole) (hc0 : Reset i) (hc1 : Ctx i) (hc2 : ¬Lat i) (x0 : Vec F S1x256x512 .f32) (x1 : Vec F S1x256x512 .f32) (x2 : Vec F S1x256x1024 .f32) (x3 : Vec F S1x256x256 .f32) (x4 : Vec F S1x128x8x512 .f32) (x5 : Vec F S1x128x8x512 .f32) (x6 : Vec F S1x128x8x1024 .f32) (x7 : Vec F S1x128x8x256 .f32) (x8 : Vec F S32x512 .f32) (x9 : Vec F S1x512 .f32) (x10 : Vec F S1x256x1024 .f32) (x11 : Vec F S1x256x1024 .f32) (x12 : Vec F S1x256 .f32) (x13 : Vec F S1x256x1024 .f32) (x14 : Vec F S1x128x8x1024 .f32)

/-- The stores of the first chunk. -/
theorem ctx_chunk0 : (runCtx.sl.HS0_5 c i arg2 harg2 arg4 harg4 arg5 harg5 arg6 harg6 arg8 harg8 arg9 harg9 arg10 harg10 arg11 harg11 arg19 x0 x2 x3 x4 x6 x7 x8 x9) = storesOver arg19.view 0 (runCtx.sl.r_2 c i arg5 harg5 arg9 harg9 arg10 harg10 arg11 harg11 x3 x7 x8 x9) (runCtx.sl.r_6 c i arg2 harg2 arg5 harg5 arg6 harg6 arg9 harg9 arg10 harg10 arg11 harg11 x0 x3 x4 x7 x8 x9) (runCtx.sl.r_8 c i arg4 harg4 arg8 harg8 x2 x6) (runCtx.sl.HS0_1 (F := F)) := rfl
theorem ctx_chunk1 : (runCtx.sl.HS0_9 c i arg2 harg2 arg4 harg4 arg5 harg5 arg6 harg6 arg8 harg8 arg9 harg9 arg10 harg10 arg11 harg11 arg19 x0 x2 x3 x4 x6 x7 x8 x9) = storesOver arg19.view 1 (runCtx.sl.r_2 c i arg5 harg5 arg9 harg9 arg10 harg10 arg11 harg11 x3 x7 x8 x9) (runCtx.sl.r_6 c i arg2 harg2 arg5 harg5 arg6 harg6 arg9 harg9 arg10 harg10 arg11 harg11 x0 x3 x4 x7 x8 x9) (runCtx.sl.r_8 c i arg4 harg4 arg8 harg8 x2 x6) (runCtx.sl.HS0_5 c i arg2 harg2 arg4 harg4 arg5 harg5 arg6 harg6 arg8 harg8 arg9 harg9 arg10 harg10 arg11 harg11 arg19 x0 x2 x3 x4 x6 x7 x8 x9) := rfl
theorem ctx_chunk2 : (runCtx.sl.HS0_13 c i arg2 harg2 arg4 harg4 arg5 harg5 arg6 harg6 arg8 harg8 arg9 harg9 arg10 harg10 arg11 harg11 arg19 x0 x2 x3 x4 x6 x7 x8 x9) = storesOver arg19.view 2 (runCtx.sl.r_2 c i arg5 harg5 arg9 harg9 arg10 harg10 arg11 harg11 x3 x7 x8 x9) (runCtx.sl.r_6 c i arg2 harg2 arg5 harg5 arg6 harg6 arg9 harg9 arg10 harg10 arg11 harg11 x0 x3 x4 x7 x8 x9) (runCtx.sl.r_8 c i arg4 harg4 arg8 harg8 x2 x6) (runCtx.sl.HS0_9 c i arg2 harg2 arg4 harg4 arg5 harg5 arg6 harg6 arg8 harg8 arg9 harg9 arg10 harg10 arg11 harg11 arg19 x0 x2 x3 x4 x6 x7 x8 x9) := rfl
/-- The state a point leaves. -/
theorem ctx_chunk3 : (runCtx (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 x14).2.1 = storesOver arg19.view 3 (runCtx.sl.r_2 c i arg5 harg5 arg9 harg9 arg10 harg10 arg11 harg11 x3 x7 x8 x9) (runCtx.sl.r_6 c i arg2 harg2 arg5 harg5 arg6 harg6 arg9 harg9 arg10 harg10 arg11 harg11 x0 x3 x4 x7 x8 x9) (runCtx.sl.r_8 c i arg4 harg4 arg8 harg8 x2 x6) (runCtx.sl.HS0_13 c i arg2 harg2 arg4 harg4 arg5 harg5 arg6 harg6 arg8 harg8 arg9 harg9 arg10 harg10 arg11 harg11 arg19 x0 x2 x3 x4 x6 x7 x8 x9) := rfl
/-- What each head reads for each chunk. -/
def ctxLoads : Fin 4 → Fin 4 → Vec F S1x256x128 .f32 :=
  ![(loads arg19.view 0 (runCtx.sl.r_2 c i arg5 harg5 arg9 harg9 arg10 harg10 arg11 harg11 x3 x7 x8 x9) (runCtx.sl.r_6 c i arg2 harg2 arg5 harg5 arg6 harg6 arg9 harg9 arg10 harg10 arg11 harg11 x0 x3 x4 x7 x8 x9) (runCtx.sl.r_8 c i arg4 harg4 arg8 harg8 x2 x6) (runCtx.sl.HS0_1 (F := F))), (loads arg19.view 1 (runCtx.sl.r_2 c i arg5 harg5 arg9 harg9 arg10 harg10 arg11 harg11 x3 x7 x8 x9) (runCtx.sl.r_6 c i arg2 harg2 arg5 harg5 arg6 harg6 arg9 harg9 arg10 harg10 arg11 harg11 x0 x3 x4 x7 x8 x9) (runCtx.sl.r_8 c i arg4 harg4 arg8 harg8 x2 x6) (runCtx.sl.HS0_5 c i arg2 harg2 arg4 harg4 arg5 harg5 arg6 harg6 arg8 harg8 arg9 harg9 arg10 harg10 arg11 harg11 arg19 x0 x2 x3 x4 x6 x7 x8 x9)), (loads arg19.view 2 (runCtx.sl.r_2 c i arg5 harg5 arg9 harg9 arg10 harg10 arg11 harg11 x3 x7 x8 x9) (runCtx.sl.r_6 c i arg2 harg2 arg5 harg5 arg6 harg6 arg9 harg9 arg10 harg10 arg11 harg11 x0 x3 x4 x7 x8 x9) (runCtx.sl.r_8 c i arg4 harg4 arg8 harg8 x2 x6) (runCtx.sl.HS0_9 c i arg2 harg2 arg4 harg4 arg5 harg5 arg6 harg6 arg8 harg8 arg9 harg9 arg10 harg10 arg11 harg11 arg19 x0 x2 x3 x4 x6 x7 x8 x9)), (loads arg19.view 3 (runCtx.sl.r_2 c i arg5 harg5 arg9 harg9 arg10 harg10 arg11 harg11 x3 x7 x8 x9) (runCtx.sl.r_6 c i arg2 harg2 arg5 harg5 arg6 harg6 arg9 harg9 arg10 harg10 arg11 harg11 x0 x3 x4 x7 x8 x9) (runCtx.sl.r_8 c i arg4 harg4 arg8 harg8 x2 x6) (runCtx.sl.HS0_13 c i arg2 harg2 arg4 harg4 arg5 harg5 arg6 harg6 arg8 harg8 arg9 harg9 arg10 harg10 arg11 harg11 arg19 x0 x2 x3 x4 x6 x7 x8 x9))]
theorem ctx_tiles : (runCtx.sl.HS1_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg19 x0 x1 x2 x3 x4 x5 x6 x7 x8 x9 x10 x11 x12 x13 x14) = tiles (fun a h => outOf a h (runCtx.sl.r_5 c i arg3 harg3 arg5 harg5 arg7 harg7 arg9 harg9 arg10 harg10 arg11 harg11 x1 x3 x5 x7 x8 x9) (runCtx.sl.r_6 c i arg2 harg2 arg5 harg5 arg6 harg6 arg9 harg9 arg10 harg10 arg11 harg11 x0 x3 x4 x7 x8 x9) (runCtx.sl.r_8 c i arg4 harg4 arg8 harg8 x2 x6) (runCtx.sl.r_9 c i arg12 harg12 arg13 harg13 x10 x11) (runCtx.sl.r_10 c i arg15 harg15 arg16 harg16 x13 x14) (View.readAt (Elt F) arg14.view (Rect.unit ![0, 0] S1x256.size inb_S1x256_S1x256_0_0).toLoadRect (harg14.unread x12)) ((ctxLoads (F := F) c i arg2 harg2 arg4 harg4 arg5 harg5 arg6 harg6 arg8 harg8 arg9 harg9 arg10 harg10 arg11 harg11 arg19 x0 x2 x3 x4 x6 x7 x8 x9) a h)) 16 := rfl
theorem ctx_out : (runCtx (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 x14).1 = [⟨Rect.unit ![0, 0, 0] S1x256x1024.size inb_S1x256x1024_S1x256x1024_0_0_0, k0_pay1 (runCtx.sl.v912 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg19 arg20 x0 x1 x2 x3 x4 x5 x6 x7 x8 x9 x10 x11 x12 x13 x14)⟩] := rfl
/-! The point's arrays, of its blocks. -/

theorem ctx_b : (runCtx.sl.r_2 c i arg5 harg5 arg9 harg9 arg10 harg10 arg11 harg11 x3 x7 x8 x9) = bArr i x3 x7 x8 x9 := by
  unfold runCtx.sl.r_2 runCtx.sl.r runCtx.sl.r_1
  simp only [View.readAt_eq_ld, harg5.read_unread, harg9.read_unread, harg10.read_unread, harg11.read_unread]
  rfl
theorem ctx_q : (runCtx.sl.r_5 c i arg3 harg3 arg5 harg5 arg7 harg7 arg9 harg9 arg10 harg10 arg11 harg11 x1 x3 x5 x7 x8 x9) = qArr i x1 x5 x3 x7 x8 x9 := by
  unfold runCtx.sl.r_5 runCtx.sl.r_3 runCtx.sl.r runCtx.sl.r_1
  simp only [View.readAt_eq_ld, harg3.read_unread, harg7.read_unread, harg5.read_unread, harg9.read_unread, harg10.read_unread, harg11.read_unread]
  rfl
theorem ctx_k : (runCtx.sl.r_6 c i arg2 harg2 arg5 harg5 arg6 harg6 arg9 harg9 arg10 harg10 arg11 harg11 x0 x3 x4 x7 x8 x9) = kArr i x0 x4 x3 x7 x8 x9 := by
  unfold runCtx.sl.r_6 runCtx.sl.r_4 runCtx.sl.r runCtx.sl.r_1
  simp only [View.readAt_eq_ld, harg2.read_unread, harg6.read_unread, harg5.read_unread, harg9.read_unread, harg10.read_unread, harg11.read_unread]
  rfl
theorem ctx_v : (runCtx.sl.r_8 c i arg4 harg4 arg8 harg8 x2 x6) = vArr i x2 x6 := by
  unfold runCtx.sl.r_8 runCtx.sl.r_7
  simp only [View.readAt_eq_ld, harg4.read_unread, harg8.read_unread]
  rfl
theorem ctx_p : (runCtx.sl.r_9 c i arg12 harg12 arg13 harg13 x10 x11) = pArr i x10 x11 := by
  unfold runCtx.sl.r_9
  simp only [View.readAt_eq_ld, harg12.read_unread, harg13.read_unread]
  rfl
theorem ctx_g : (runCtx.sl.r_10 c i arg15 harg15 arg16 harg16 x13 x14) = gArr i x13 x14 := by
  unfold runCtx.sl.r_10
  simp only [View.readAt_eq_ld, harg15.read_unread, harg16.read_unread]
  rfl

end Cert.KernelIdeal.Gla

end
-- ==== Proof.GlaContextAt.lean ====
/- The attention call: what a point of the context leaves in its output and in the state, of its blocks. -/
module

public import proofs.«01_k».proof.Proof.GlaContext
public import proofs.«01_k».proof.Proof.GlaChain

@[expose] public section

set_option maxRecDepth 16384
set_option maxHeartbeats 4000000

noncomputable section

open Idealize.ShloMosaic Idealize.ShloMosaic.TcCoe Idealize.SL.Sem

namespace Cert.KernelIdeal.Gla

open Cert.KernelIdeal Cert.KernelIdeal.Gen

variable {F : FTy → Type} [FloatOps F]

variable (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x1024 .f32) (harg4 : arg4.IsWhole) (arg5 : Memref sig .tc .vmem S1x256x256 .f32) (harg5 : arg5.IsWhole) (arg6 : Memref sig .tc .vmem S1x128x8x512 .f32) (harg6 : arg6.IsWhole) (arg7 : Memref sig .tc .vmem S1x128x8x512 .f32) (harg7 : arg7.IsWhole) (arg8 : Memref sig .tc .vmem S1x128x8x1024 .f32) (harg8 : arg8.IsWhole) (arg9 : Memref sig .tc .vmem S1x128x8x256 .f32) (harg9 : arg9.IsWhole) (arg10 : Memref sig .tc .vmem S32x512 .f32) (harg10 : arg10.IsWhole) (arg11 : Memref sig .tc .vmem S1x512 .f32) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256 .f32) (harg14 : arg14.IsWhole) (arg15 : Memref sig .tc .vmem S1x256x1024 .f32) (harg15 : arg15.IsWhole) (arg16 : Memref sig .tc .vmem S1x128x8x1024 .f32) (harg16 : arg16.IsWhole) (arg17 : Memref sig .tc .vmem S1x256x1024 .bf16) (harg17 : arg17.IsWhole) (arg18 : Memref sig .tc .vmem S1x256x1024 .bf16) (harg18 : arg18.IsWhole) (arg19 : Memref sig .tc .vmem S4x256x128 .f32) (harg19 : arg19.IsWhole) (arg20 : Memref sig .tc .vmem S256x1024 .f32) (harg20 : arg20.IsWhole) (hc0 : Reset i) (hc1 : Ctx i) (hc2 : ¬Lat i) (x0 : Vec F S1x256x512 .f32) (x1 : Vec F S1x256x512 .f32) (x2 : Vec F S1x256x1024 .f32) (x3 : Vec F S1x256x256 .f32) (x4 : Vec F S1x128x8x512 .f32) (x5 : Vec F S1x128x8x512 .f32) (x6 : Vec F S1x128x8x1024 .f32) (x7 : Vec F S1x128x8x256 .f32) (x8 : Vec F S32x512 .f32) (x9 : Vec F S1x512 .f32) (x10 : Vec F S1x256x1024 .f32) (x11 : Vec F S1x256x1024 .f32) (x12 : Vec F S1x256 .f32) (x13 : Vec F S1x256x1024 .f32) (x14 : Vec F S1x128x8x1024 .f32)

/-- The reset leaves the zero state. -/
theorem ctx_init : View.canon (runCtx.sl.HS0_1 (F := F)) = k0_pay3 := by
  funext y
  exact last_store (Val := Elt F) (s := S4x256x128) (e := .f32) inb_S4x256x128_S4x256x128_0_0_0 _ _ y y (fun a => by fin_cases a <;> exact (Nat.zero_add _).symm)
theorem ctx_state1 : View.canon (runCtx.sl.HS0_5 c i arg2 harg2 arg4 harg4 arg5 harg5 arg6 harg6 arg8 harg8 arg9 harg9 arg10 harg10 arg11 harg11 arg19 x0 x2 x3 x4 x6 x7 x8 x9) = chain (bArr i x3 x7 x8 x9) (kArr i x0 x4 x3 x7 x8 x9) (vArr i x2 x6) k0_pay3 1 := by
  rw [ctx_chunk0, storesOver_eq, ctx_init, ctx_b, ctx_k, ctx_v]
  rfl
theorem ctx_state2 : View.canon (runCtx.sl.HS0_9 c i arg2 harg2 arg4 harg4 arg5 harg5 arg6 harg6 arg8 harg8 arg9 harg9 arg10 harg10 arg11 harg11 arg19 x0 x2 x3 x4 x6 x7 x8 x9) = chain (bArr i x3 x7 x8 x9) (kArr i x0 x4 x3 x7 x8 x9) (vArr i x2 x6) k0_pay3 2 := by
  rw [ctx_chunk1, storesOver_eq, ctx_state1, ctx_b, ctx_k, ctx_v]
  rfl
theorem ctx_state3 : View.canon (runCtx.sl.HS0_13 c i arg2 harg2 arg4 harg4 arg5 harg5 arg6 harg6 arg8 harg8 arg9 harg9 arg10 harg10 arg11 harg11 arg19 x0 x2 x3 x4 x6 x7 x8 x9) = chain (bArr i x3 x7 x8 x9) (kArr i x0 x4 x3 x7 x8 x9) (vArr i x2 x6) k0_pay3 3 := by
  rw [ctx_chunk2, storesOver_eq, ctx_state2, ctx_b, ctx_k, ctx_v]
  rfl
/-- The state the point leaves. -/
theorem ctx_state4 : View.canon (runCtx (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 x14).2.1 = chain (bArr i x3 x7 x8 x9) (kArr i x0 x4 x3 x7 x8 x9) (vArr i x2 x6) k0_pay3 4 := by
  rw [ctx_chunk3, storesOver_eq, ctx_state3, ctx_b, ctx_k, ctx_v]
  rfl
/-- What each head reads for each chunk. -/
theorem ctx_loads : ∀ a h : Fin 4, (ctxLoads (F := F) c i arg2 harg2 arg4 harg4 arg5 harg5 arg6 harg6 arg8 harg8 arg9 harg9 arg10 harg10 arg11 harg11 arg19 x0 x2 x3 x4 x6 x7 x8 x9) a h = headOf (chain (bArr i x3 x7 x8 x9) (kArr i x0 x4 x3 x7 x8 x9) (vArr i x2 x6) k0_pay3 a.val) h
  | 0, h => by
    refine (loads_eq _ 0 _ _ _ _ h).trans ?_
    rw [ctx_init]
    rfl
  | 1, h => by
    refine (loads_eq _ 1 _ _ _ _ h).trans ?_
    rw [ctx_state1]
    rfl
  | 2, h => by
    refine (loads_eq _ 2 _ _ _ _ h).trans ?_
    rw [ctx_state2]
    rfl
  | 3, h => by
    refine (loads_eq _ 3 _ _ _ _ h).trans ?_
    rw [ctx_state3]
    rfl
/-- The step's output as it lies in the scratch. -/
theorem ctx_tokens : (runCtx.sl.v912 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg19 arg20 x0 x1 x2 x3 x4 x5 x6 x7 x8 x9 x10 x11 x12 x13 x14) = outArr (bArr i x3 x7 x8 x9) (qArr i x1 x5 x3 x7 x8 x9) (kArr i x0 x4 x3 x7 x8 x9) (vArr i x2 x6) (pArr i x10 x11) (gArr i x13 x14) x12 k0_pay3 := by
  funext y
  refine (load_after (Val := Elt F) (s := S256x1024) (e := .f32) arg20.view inb_S256x1024_S256x1024_0_0 (runCtx.sl.HS1_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg19 x0 x1 x2 x3 x4 x5 x6 x7 x8 x9 x10 x11 x12 x13 x14) y y (fun a => by fin_cases a <;> exact (Nat.zero_add _).symm)).trans ?_
  rw [ctx_tiles, tiles_eq _ y 16 (le_refl _) (by have h0 : (y 0).val < 256 := (y 0).isLt; have h1 : (y 1).val < 1024 := (y 1).isLt; omega)]
  unfold outArr
  rw [ctx_loads, ctx_q, ctx_k, ctx_v, ctx_p, ctx_g]
  refine congrFun (congrArg (fun z => outOf _ _ _ _ _ _ _ z _) ?_) _
  rw [View.readAt_eq_ld, harg14.read_unread]
  exact funext fun z => congrArg x12 (funext fun a => Fin.ext (by fin_cases a <;> exact (Nat.zero_add _).trans (Nat.one_mul _)))
/-- The output the point stores. -/
theorem ctx_result : View.canon (runCtx (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 x14).1 = k0_pay1 (outArr (bArr i x3 x7 x8 x9) (qArr i x1 x5 x3 x7 x8 x9) (kArr i x0 x4 x3 x7 x8 x9) (vArr i x2 x6) (pArr i x10 x11) (gArr i x13 x14) x12 k0_pay3) := by
  rw [ctx_out, ctx_tokens]
  funext y
  exact last_store (Val := Elt F) (s := S1x256x1024) (e := .bf16) inb_S1x256x1024_S1x256x1024_0_0_0 _ _ y y (fun a => by fin_cases a <;> exact (Nat.zero_add _).symm)

end Cert.KernelIdeal.Gla

end
-- ==== Proof.GlaLatents.lean ====
/- The attention call: the stores of a point of the latents, read as four chunks of four heads. -/
module

public import proofs.«01_k».proof.Proof.GlaRunLat
public import proofs.«01_k».proof.Proof.GlaArrays

@[expose] public section

set_option maxRecDepth 16384
set_option maxHeartbeats 4000000

noncomputable section

open Idealize.ShloMosaic Idealize.ShloMosaic.TcCoe Idealize.SL.Sem

namespace Cert.KernelIdeal.Gla

open Cert.KernelIdeal Cert.KernelIdeal.Gen

variable {F : FTy → Type} [FloatOps F]

variable (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x1024 .f32) (harg4 : arg4.IsWhole) (arg5 : Memref sig .tc .vmem S1x256x256 .f32) (harg5 : arg5.IsWhole) (arg6 : Memref sig .tc .vmem S1x128x8x512 .f32) (harg6 : arg6.IsWhole) (arg7 : Memref sig .tc .vmem S1x128x8x512 .f32) (harg7 : arg7.IsWhole) (arg8 : Memref sig .tc .vmem S1x128x8x1024 .f32) (harg8 : arg8.IsWhole) (arg9 : Memref sig .tc .vmem S1x128x8x256 .f32) (harg9 : arg9.IsWhole) (arg10 : Memref sig .tc .vmem S32x512 .f32) (harg10 : arg10.IsWhole) (arg11 : Memref sig .tc .vmem S1x512 .f32) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256 .f32) (harg14 : arg14.IsWhole) (arg15 : Memref sig .tc .vmem S1x256x1024 .f32) (harg15 : arg15.IsWhole) (arg16 : Memref sig .tc .vmem S1x128x8x1024 .f32) (harg16 : arg16.IsWhole) (arg17 : Memref sig .tc .vmem S1x256x1024 .bf16) (harg17 : arg17.IsWhole) (arg18 : Memref sig .tc .vmem S1x256x1024 .bf16) (harg18 : arg18.IsWhole) (arg19 : Memref sig .tc .vmem S4x256x128 .f32) (harg19 : arg19.IsWhole) (arg20 : Memref sig .tc .vmem S256x1024 .f32) (harg20 : arg20.IsWhole) (hc0 : ¬Reset i) (hc1 : ¬Ctx i) (hc2 : Lat i) (x0 : Vec F S1x256x512 .f32) (x1 : Vec F S1x256x512 .f32) (x2 : Vec F S1x256x1024 .f32) (x3 : Vec F S1x256x256 .f32) (x4 : Vec F S1x128x8x512 .f32) (x5 : Vec F S1x128x8x512 .f32) (x6 : Vec F S1x128x8x1024 .f32) (x7 : Vec F S1x128x8x256 .f32) (x8 : Vec F S32x512 .f32) (x9 : Vec F S1x512 .f32) (x10 : Vec F S1x256x1024 .f32) (x11 : Vec F S1x256x1024 .f32) (x12 : Vec F S1x256 .f32) (x13 : Vec F S1x256x1024 .f32) (x14 : Vec F S1x128x8x1024 .f32) (xs : Vec F S4x256x128 .f32)

/-- The stores of the first chunk. -/
theorem lat_chunk0 : (runLat.sl.HS0_4 c i arg2 harg2 arg4 harg4 arg5 harg5 arg6 harg6 arg8 harg8 arg9 harg9 arg10 harg10 arg11 harg11 arg19 harg19 x0 x2 x3 x4 x6 x7 x8 x9 xs) = stores 0 (runLat.sl.r_2 c i arg5 harg5 arg9 harg9 arg10 harg10 arg11 harg11 x3 x7 x8 x9) (runLat.sl.r_6 c i arg2 harg2 arg5 harg5 arg6 harg6 arg9 harg9 arg10 harg10 arg11 harg11 x0 x3 x4 x7 x8 x9) (runLat.sl.r_8 c i arg4 harg4 arg8 harg8 x2 x6) (View.readAt (Elt F) arg19.view (headRect 0).toLoadRect (harg19.unread xs)) (View.readAt (Elt F) arg19.view (headRect 1).toLoadRect (harg19.unread xs)) (View.readAt (Elt F) arg19.view (headRect 2).toLoadRect (harg19.unread xs)) (View.readAt (Elt F) arg19.view (headRect 3).toLoadRect (harg19.unread xs)) [] := rfl
theorem lat_chunk1 : (runLat.sl.HS0_8 c i arg2 harg2 arg4 harg4 arg5 harg5 arg6 harg6 arg8 harg8 arg9 harg9 arg10 harg10 arg11 harg11 arg19 harg19 x0 x2 x3 x4 x6 x7 x8 x9 xs) = storesOver arg19.view 1 (runLat.sl.r_2 c i arg5 harg5 arg9 harg9 arg10 harg10 arg11 harg11 x3 x7 x8 x9) (runLat.sl.r_6 c i arg2 harg2 arg5 harg5 arg6 harg6 arg9 harg9 arg10 harg10 arg11 harg11 x0 x3 x4 x7 x8 x9) (runLat.sl.r_8 c i arg4 harg4 arg8 harg8 x2 x6) (runLat.sl.HS0_4 c i arg2 harg2 arg4 harg4 arg5 harg5 arg6 harg6 arg8 harg8 arg9 harg9 arg10 harg10 arg11 harg11 arg19 harg19 x0 x2 x3 x4 x6 x7 x8 x9 xs) := rfl
theorem lat_chunk2 : (runLat.sl.HS0_12 c i arg2 harg2 arg4 harg4 arg5 harg5 arg6 harg6 arg8 harg8 arg9 harg9 arg10 harg10 arg11 harg11 arg19 harg19 x0 x2 x3 x4 x6 x7 x8 x9 xs) = storesOver arg19.view 2 (runLat.sl.r_2 c i arg5 harg5 arg9 harg9 arg10 harg10 arg11 harg11 x3 x7 x8 x9) (runLat.sl.r_6 c i arg2 harg2 arg5 harg5 arg6 harg6 arg9 harg9 arg10 harg10 arg11 harg11 x0 x3 x4 x7 x8 x9) (runLat.sl.r_8 c i arg4 harg4 arg8 harg8 x2 x6) (runLat.sl.HS0_8 c i arg2 harg2 arg4 harg4 arg5 harg5 arg6 harg6 arg8 harg8 arg9 harg9 arg10 harg10 arg11 harg11 arg19 harg19 x0 x2 x3 x4 x6 x7 x8 x9 xs) := rfl
/-- The state a point leaves. -/
theorem lat_chunk3 : (runLat (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 x14 xs).2.1 = storesOver arg19.view 3 (runLat.sl.r_2 c i arg5 harg5 arg9 harg9 arg10 harg10 arg11 harg11 x3 x7 x8 x9) (runLat.sl.r_6 c i arg2 harg2 arg5 harg5 arg6 harg6 arg9 harg9 arg10 harg10 arg11 harg11 x0 x3 x4 x7 x8 x9) (runLat.sl.r_8 c i arg4 harg4 arg8 harg8 x2 x6) (runLat.sl.HS0_12 c i arg2 harg2 arg4 harg4 arg5 harg5 arg6 harg6 arg8 harg8 arg9 harg9 arg10 harg10 arg11 harg11 arg19 harg19 x0 x2 x3 x4 x6 x7 x8 x9 xs) := rfl
/-- What each head reads for each chunk. -/
def latLoads : Fin 4 → Fin 4 → Vec F S1x256x128 .f32 :=
  ![(![(View.readAt (Elt F) arg19.view (headRect 0).toLoadRect (harg19.unread xs)), (View.readAt (Elt F) arg19.view (headRect 1).toLoadRect (harg19.unread xs)), (View.readAt (Elt F) arg19.view (headRect 2).toLoadRect (harg19.unread xs)), (View.readAt (Elt F) arg19.view (headRect 3).toLoadRect (harg19.unread xs))] : Fin 4 → Vec F S1x256x128 .f32), (loads arg19.view 1 (runLat.sl.r_2 c i arg5 harg5 arg9 harg9 arg10 harg10 arg11 harg11 x3 x7 x8 x9) (runLat.sl.r_6 c i arg2 harg2 arg5 harg5 arg6 harg6 arg9 harg9 arg10 harg10 arg11 harg11 x0 x3 x4 x7 x8 x9) (runLat.sl.r_8 c i arg4 harg4 arg8 harg8 x2 x6) (runLat.sl.HS0_4 c i arg2 harg2 arg4 harg4 arg5 harg5 arg6 harg6 arg8 harg8 arg9 harg9 arg10 harg10 arg11 harg11 arg19 harg19 x0 x2 x3 x4 x6 x7 x8 x9 xs)), (loads arg19.view 2 (runLat.sl.r_2 c i arg5 harg5 arg9 harg9 arg10 harg10 arg11 harg11 x3 x7 x8 x9) (runLat.sl.r_6 c i arg2 harg2 arg5 harg5 arg6 harg6 arg9 harg9 arg10 harg10 arg11 harg11 x0 x3 x4 x7 x8 x9) (runLat.sl.r_8 c i arg4 harg4 arg8 harg8 x2 x6) (runLat.sl.HS0_8 c i arg2 harg2 arg4 harg4 arg5 harg5 arg6 harg6 arg8 harg8 arg9 harg9 arg10 harg10 arg11 harg11 arg19 harg19 x0 x2 x3 x4 x6 x7 x8 x9 xs)), (loads arg19.view 3 (runLat.sl.r_2 c i arg5 harg5 arg9 harg9 arg10 harg10 arg11 harg11 x3 x7 x8 x9) (runLat.sl.r_6 c i arg2 harg2 arg5 harg5 arg6 harg6 arg9 harg9 arg10 harg10 arg11 harg11 x0 x3 x4 x7 x8 x9) (runLat.sl.r_8 c i arg4 harg4 arg8 harg8 x2 x6) (runLat.sl.HS0_12 c i arg2 harg2 arg4 harg4 arg5 harg5 arg6 harg6 arg8 harg8 arg9 harg9 arg10 harg10 arg11 harg11 arg19 harg19 x0 x2 x3 x4 x6 x7 x8 x9 xs))]
theorem lat_tiles : (runLat.sl.HS1_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 x0 x1 x2 x3 x4 x5 x6 x7 x8 x9 x10 x11 x12 x13 x14 xs) = tiles (fun a h => outOf a h (runLat.sl.r_5 c i arg3 harg3 arg5 harg5 arg7 harg7 arg9 harg9 arg10 harg10 arg11 harg11 x1 x3 x5 x7 x8 x9) (runLat.sl.r_6 c i arg2 harg2 arg5 harg5 arg6 harg6 arg9 harg9 arg10 harg10 arg11 harg11 x0 x3 x4 x7 x8 x9) (runLat.sl.r_8 c i arg4 harg4 arg8 harg8 x2 x6) (runLat.sl.r_9 c i arg12 harg12 arg13 harg13 x10 x11) (runLat.sl.r_10 c i arg15 harg15 arg16 harg16 x13 x14) (View.readAt (Elt F) arg14.view (Rect.unit ![0, 0] S1x256.size inb_S1x256_S1x256_0_0).toLoadRect (harg14.unread x12)) ((latLoads (F := F) c i arg2 harg2 arg4 harg4 arg5 harg5 arg6 harg6 arg8 harg8 arg9 harg9 arg10 harg10 arg11 harg11 arg19 harg19 x0 x2 x3 x4 x6 x7 x8 x9 xs) a h)) 16 := rfl
theorem lat_out : (runLat (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 x14 xs).1 = [⟨Rect.unit ![0, 0, 0] S1x256x1024.size inb_S1x256x1024_S1x256x1024_0_0_0, k0_pay2 (runLat.sl.v912 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 x0 x1 x2 x3 x4 x5 x6 x7 x8 x9 x10 x11 x12 x13 x14 xs)⟩] := rfl
/-! The point's arrays, of its blocks. -/

theorem lat_b : (runLat.sl.r_2 c i arg5 harg5 arg9 harg9 arg10 harg10 arg11 harg11 x3 x7 x8 x9) = bArr i x3 x7 x8 x9 := by
  unfold runLat.sl.r_2 runLat.sl.r runLat.sl.r_1
  simp only [View.readAt_eq_ld, harg5.read_unread, harg9.read_unread, harg10.read_unread, harg11.read_unread]
  rfl
theorem lat_q : (runLat.sl.r_5 c i arg3 harg3 arg5 harg5 arg7 harg7 arg9 harg9 arg10 harg10 arg11 harg11 x1 x3 x5 x7 x8 x9) = qArr i x1 x5 x3 x7 x8 x9 := by
  unfold runLat.sl.r_5 runLat.sl.r_3 runLat.sl.r runLat.sl.r_1
  simp only [View.readAt_eq_ld, harg3.read_unread, harg7.read_unread, harg5.read_unread, harg9.read_unread, harg10.read_unread, harg11.read_unread]
  rfl
theorem lat_k : (runLat.sl.r_6 c i arg2 harg2 arg5 harg5 arg6 harg6 arg9 harg9 arg10 harg10 arg11 harg11 x0 x3 x4 x7 x8 x9) = kArr i x0 x4 x3 x7 x8 x9 := by
  unfold runLat.sl.r_6 runLat.sl.r_4 runLat.sl.r runLat.sl.r_1
  simp only [View.readAt_eq_ld, harg2.read_unread, harg6.read_unread, harg5.read_unread, harg9.read_unread, harg10.read_unread, harg11.read_unread]
  rfl
theorem lat_v : (runLat.sl.r_8 c i arg4 harg4 arg8 harg8 x2 x6) = vArr i x2 x6 := by
  unfold runLat.sl.r_8 runLat.sl.r_7
  simp only [View.readAt_eq_ld, harg4.read_unread, harg8.read_unread]
  rfl
theorem lat_p : (runLat.sl.r_9 c i arg12 harg12 arg13 harg13 x10 x11) = pArr i x10 x11 := by
  unfold runLat.sl.r_9
  simp only [View.readAt_eq_ld, harg12.read_unread, harg13.read_unread]
  rfl
theorem lat_g : (runLat.sl.r_10 c i arg15 harg15 arg16 harg16 x13 x14) = gArr i x13 x14 := by
  unfold runLat.sl.r_10
  simp only [View.readAt_eq_ld, harg15.read_unread, harg16.read_unread]
  rfl

end Cert.KernelIdeal.Gla

end
-- ==== Proof.GlaLatentsAt.lean ====
/- The attention call: what a point of the latents leaves in its output and in the state, of its blocks and the state before it. -/
module

public import proofs.«01_k».proof.Proof.GlaLatents
public import proofs.«01_k».proof.Proof.GlaChain

@[expose] public section

set_option maxRecDepth 16384
set_option maxHeartbeats 4000000

noncomputable section

open Idealize.ShloMosaic Idealize.ShloMosaic.TcCoe Idealize.SL.Sem

namespace Cert.KernelIdeal.Gla

open Cert.KernelIdeal Cert.KernelIdeal.Gen

variable {F : FTy → Type} [FloatOps F]

variable (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x1024 .f32) (harg4 : arg4.IsWhole) (arg5 : Memref sig .tc .vmem S1x256x256 .f32) (harg5 : arg5.IsWhole) (arg6 : Memref sig .tc .vmem S1x128x8x512 .f32) (harg6 : arg6.IsWhole) (arg7 : Memref sig .tc .vmem S1x128x8x512 .f32) (harg7 : arg7.IsWhole) (arg8 : Memref sig .tc .vmem S1x128x8x1024 .f32) (harg8 : arg8.IsWhole) (arg9 : Memref sig .tc .vmem S1x128x8x256 .f32) (harg9 : arg9.IsWhole) (arg10 : Memref sig .tc .vmem S32x512 .f32) (harg10 : arg10.IsWhole) (arg11 : Memref sig .tc .vmem S1x512 .f32) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256 .f32) (harg14 : arg14.IsWhole) (arg15 : Memref sig .tc .vmem S1x256x1024 .f32) (harg15 : arg15.IsWhole) (arg16 : Memref sig .tc .vmem S1x128x8x1024 .f32) (harg16 : arg16.IsWhole) (arg17 : Memref sig .tc .vmem S1x256x1024 .bf16) (harg17 : arg17.IsWhole) (arg18 : Memref sig .tc .vmem S1x256x1024 .bf16) (harg18 : arg18.IsWhole) (arg19 : Memref sig .tc .vmem S4x256x128 .f32) (harg19 : arg19.IsWhole) (arg20 : Memref sig .tc .vmem S256x1024 .f32) (harg20 : arg20.IsWhole) (hc0 : ¬Reset i) (hc1 : ¬Ctx i) (hc2 : Lat i) (x0 : Vec F S1x256x512 .f32) (x1 : Vec F S1x256x512 .f32) (x2 : Vec F S1x256x1024 .f32) (x3 : Vec F S1x256x256 .f32) (x4 : Vec F S1x128x8x512 .f32) (x5 : Vec F S1x128x8x512 .f32) (x6 : Vec F S1x128x8x1024 .f32) (x7 : Vec F S1x128x8x256 .f32) (x8 : Vec F S32x512 .f32) (x9 : Vec F S1x512 .f32) (x10 : Vec F S1x256x1024 .f32) (x11 : Vec F S1x256x1024 .f32) (x12 : Vec F S1x256 .f32) (x13 : Vec F S1x256x1024 .f32) (x14 : Vec F S1x128x8x1024 .f32) (xs : Vec F S4x256x128 .f32)

/-- A head's state as the point finds it. -/
theorem lat_load (h : Fin 4) : (View.readAt (Elt F) arg19.view (headRect h).toLoadRect (harg19.unread xs) : Vec F S1x256x128 .f32) = headOf xs h := by
  rw [View.readAt_eq_ld, harg19.read_unread]
  refine funext fun x => congrArg xs (funext fun a => Fin.ext ?_)
  have : (x 0).val < 1 := (x 0).isLt
  fin_cases a
  · show h.val + 1 * (x 0).val = h.val
    omega
  · exact (Nat.zero_add _).trans (Nat.one_mul _)
  · exact (Nat.zero_add _).trans (Nat.one_mul _)
theorem lat_state1 : View.canon (runLat.sl.HS0_4 c i arg2 harg2 arg4 harg4 arg5 harg5 arg6 harg6 arg8 harg8 arg9 harg9 arg10 harg10 arg11 harg11 arg19 harg19 x0 x2 x3 x4 x6 x7 x8 x9 xs) = chain (bArr i x3 x7 x8 x9) (kArr i x0 x4 x3 x7 x8 x9) (vArr i x2 x6) xs 1 := by
  rw [lat_chunk0, stores_eq 0 _ _ _ _ _ _ _ _ xs (lat_load _ _ _ 0) (lat_load _ _ _ 1) (lat_load _ _ _ 2) (lat_load _ _ _ 3), lat_b, lat_k, lat_v]
  rfl
theorem lat_state2 : View.canon (runLat.sl.HS0_8 c i arg2 harg2 arg4 harg4 arg5 harg5 arg6 harg6 arg8 harg8 arg9 harg9 arg10 harg10 arg11 harg11 arg19 harg19 x0 x2 x3 x4 x6 x7 x8 x9 xs) = chain (bArr i x3 x7 x8 x9) (kArr i x0 x4 x3 x7 x8 x9) (vArr i x2 x6) xs 2 := by
  rw [lat_chunk1, storesOver_eq, lat_state1, lat_b, lat_k, lat_v]
  rfl
theorem lat_state3 : View.canon (runLat.sl.HS0_12 c i arg2 harg2 arg4 harg4 arg5 harg5 arg6 harg6 arg8 harg8 arg9 harg9 arg10 harg10 arg11 harg11 arg19 harg19 x0 x2 x3 x4 x6 x7 x8 x9 xs) = chain (bArr i x3 x7 x8 x9) (kArr i x0 x4 x3 x7 x8 x9) (vArr i x2 x6) xs 3 := by
  rw [lat_chunk2, storesOver_eq, lat_state2, lat_b, lat_k, lat_v]
  rfl
/-- The state the point leaves. -/
theorem lat_state4 : View.canon (runLat (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 x14 xs).2.1 = chain (bArr i x3 x7 x8 x9) (kArr i x0 x4 x3 x7 x8 x9) (vArr i x2 x6) xs 4 := by
  rw [lat_chunk3, storesOver_eq, lat_state3, lat_b, lat_k, lat_v]
  rfl
/-- What each head reads for each chunk. -/
theorem lat_loads : ∀ a h : Fin 4, (latLoads (F := F) c i arg2 harg2 arg4 harg4 arg5 harg5 arg6 harg6 arg8 harg8 arg9 harg9 arg10 harg10 arg11 harg11 arg19 harg19 x0 x2 x3 x4 x6 x7 x8 x9 xs) a h = headOf (chain (bArr i x3 x7 x8 x9) (kArr i x0 x4 x3 x7 x8 x9) (vArr i x2 x6) xs a.val) h
  | 0, 0 => lat_load _ _ _ 0
  | 0, 1 => lat_load _ _ _ 1
  | 0, 2 => lat_load _ _ _ 2
  | 0, 3 => lat_load _ _ _ 3
  | 1, h => by
    refine (loads_eq _ 1 _ _ _ _ h).trans ?_
    rw [lat_state1]
    rfl
  | 2, h => by
    refine (loads_eq _ 2 _ _ _ _ h).trans ?_
    rw [lat_state2]
    rfl
  | 3, h => by
    refine (loads_eq _ 3 _ _ _ _ h).trans ?_
    rw [lat_state3]
    rfl
/-- The step's output as it lies in the scratch. -/
theorem lat_tokens : (runLat.sl.v912 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 x0 x1 x2 x3 x4 x5 x6 x7 x8 x9 x10 x11 x12 x13 x14 xs) = outArr (bArr i x3 x7 x8 x9) (qArr i x1 x5 x3 x7 x8 x9) (kArr i x0 x4 x3 x7 x8 x9) (vArr i x2 x6) (pArr i x10 x11) (gArr i x13 x14) x12 xs := by
  funext y
  refine (load_after (Val := Elt F) (s := S256x1024) (e := .f32) arg20.view inb_S256x1024_S256x1024_0_0 (runLat.sl.HS1_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 x0 x1 x2 x3 x4 x5 x6 x7 x8 x9 x10 x11 x12 x13 x14 xs) y y (fun a => by fin_cases a <;> exact (Nat.zero_add _).symm)).trans ?_
  rw [lat_tiles, tiles_eq _ y 16 (le_refl _) (by have h0 : (y 0).val < 256 := (y 0).isLt; have h1 : (y 1).val < 1024 := (y 1).isLt; omega)]
  unfold outArr
  rw [lat_loads, lat_q, lat_k, lat_v, lat_p, lat_g]
  refine congrFun (congrArg (fun z => outOf _ _ _ _ _ _ _ z _) ?_) _
  rw [View.readAt_eq_ld, harg14.read_unread]
  exact funext fun z => congrArg x12 (funext fun a => Fin.ext (by fin_cases a <;> exact (Nat.zero_add _).trans (Nat.one_mul _)))
/-- The output the point stores. -/
theorem lat_result : View.canon (runLat (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 x0 x1 x2 x3 x4 x5 x6 x7 x8 x9 x10 x11 x12 x13 x14 xs).1 = k0_pay2 (outArr (bArr i x3 x7 x8 x9) (qArr i x1 x5 x3 x7 x8 x9) (kArr i x0 x4 x3 x7 x8 x9) (vArr i x2 x6) (pArr i x10 x11) (gArr i x13 x14) x12 xs) := by
  rw [lat_out, lat_tokens]
  funext y
  exact last_store (Val := Elt F) (s := S1x256x1024) (e := .bf16) inb_S1x256x1024_S1x256x1024_0_0_0 _ _ y y (fun a => by fin_cases a <;> exact (Nat.zero_add _).symm)

end Cert.KernelIdeal.Gla

end
-- ==== Proof.GlaValue.lean ====
/- The attention call: what its results hold after the run, of its arguments. A point of a batch scans four chunks, so point `s`
   of the batch begins at chunk `4 s`; by induction over the points the state is the scan's, and each point's output follows. -/
module

public import proofs.«01_k».proof.Proof.GlaBlocks
public import proofs.«01_k».proof.Proof.GlaArraysAt
public import proofs.«01_k».proof.Proof.GlaChain
public import proofs.«01_k».proof.Proof.GlaContextAt
public import proofs.«01_k».proof.Proof.GlaLatentsAt
public import proofs.«01_k».proof.Proof.GlaSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Gla

open Cert.KernelIdeal Cert.KernelIdeal.Gen
open Idealize.ShloMosaic.Pipeline (Dat)

variable (m : (ℓ : Loc nD τ sig) → Buf (Elt Ideal) ℓ)

/-! The arguments. -/

abbrev a0 (c : Dev nD) : S2x256x5376.Idx → EReal := m ((c : Thread nD τ).loc main_arg0)
abbrev a1 (c : Dev nD) : S2x8192x5376.Idx → EReal := m ((c : Thread nD τ).loc main_arg1)
abbrev a2 (c : Dev nD) : S2x16x512.Idx → EReal := m ((c : Thread nD τ).loc main_arg2)
abbrev a3 (c : Dev nD) : S2x512.Idx → EReal := m ((c : Thread nD τ).loc main_arg3)
abbrev a4 (c : Dev nD) : S256.Idx → EReal := m ((c : Thread nD τ).loc main_arg4)
abbrev a5 (c : Dev nD) : S2x256x1024.Idx → EReal := m ((c : Thread nD τ).loc main_arg5)
abbrev a6 (c : Dev nD) : S2x8192x1024.Idx → EReal := m ((c : Thread nD τ).loc main_arg6)

/-! The 256 rows a point scans, and the reverse pass's. -/

def ctxT (c : Dev nD) (b : Fin 2) (x : Fin 256) (f : Fin 5376) : EReal := a0 m c (ix3 b x f)
def ctxU (c : Dev nD) (b : Fin 2) (x : Fin 256) (f : Fin 1024) : EReal := a5 m c (ix3 b x f)
def latT (c : Dev nD) (b : Fin 2) (s : Fin 32) (x : Fin 256) (f : Fin 5376) : EReal :=
  a1 m c (ix3 b ⟨x.val % 128 * 64 + (2 * s.val + x.val / 128), by omega⟩ f)
def latU (c : Dev nD) (b : Fin 2) (s : Fin 32) (x : Fin 256) (f : Fin 1024) : EReal :=
  a6 m c (ix3 b ⟨s.val * 256 + x.val, by omega⟩ f)

theorem ctx_rows (c : Dev nD) (b : Fin 2) (k : Fin 4) (i : Fin 64) (f : Fin 5376) :
    ctxT m c b (rowIn k i) f = Cert.Gla.rows (a0 m c) (a1 m c) b (0 + k.val) i f := by
  unfold Cert.Gla.rows ctxT
  rw [dif_pos (by omega)]
  exact congrArg (fun r => a0 m c (ix3 b r f)) (Fin.ext (by show 64 * k.val + i.val = 64 * (0 + k.val) + i.val; omega))
theorem ctx_rest (c : Dev nD) (b : Fin 2) (k : Fin 4) (i : Fin 64) (f : Fin 1024) :
    ctxU m c b (rowIn k i) f = Cert.Gla.rest (a5 m c) (a6 m c) b (0 + k.val) i f := by
  unfold Cert.Gla.rest ctxU
  rw [dif_pos (by omega)]
  exact congrArg (fun r => a5 m c (ix3 b r f)) (Fin.ext (by show 64 * k.val + i.val = 64 * (0 + k.val) + i.val; omega))
theorem lat_rows (c : Dev nD) (b : Fin 2) (s : Fin 32) (k : Fin 4) (i : Fin 64) (f : Fin 5376) :
    latT m c b s (rowIn k i) f = Cert.Gla.rows (a0 m c) (a1 m c) b (4 * (s.val + 1) + k.val) i f := by
  unfold Cert.Gla.rows latT
  rw [dif_neg (by omega)]
  refine congrArg (fun r => a1 m c (ix3 b r f)) (Fin.ext ?_)
  show (64 * k.val + i.val) % 128 * 64 + (2 * s.val + (64 * k.val + i.val) / 128)
    = (64 * (4 * (s.val + 1) + k.val - 4) + i.val) % 128 * 64 + (64 * (4 * (s.val + 1) + k.val - 4) + i.val) / 128 % 64
  omega
theorem lat_rest (c : Dev nD) (b : Fin 2) (s : Fin 32) (k : Fin 4) (i : Fin 64) (f : Fin 1024) :
    latU m c b s (rowIn k i) f = Cert.Gla.rest (a5 m c) (a6 m c) b (4 * (s.val + 1) + k.val) i f := by
  unfold Cert.Gla.rest latU
  rw [dif_neg (by omega)]
  refine congrArg (fun r => a6 m c (ix3 b r f)) (Fin.ext ?_)
  show s.val * 256 + (64 * k.val + i.val) = (64 * (4 * (s.val + 1) + k.val - 4) + i.val) % 8192
  omega

/-! A point's arrays are those of its rows. -/

theorem arrays_ctx (c : Dev nD) (t : Fin cfg0.N) (ht : t.val / 33 < 2) (h : t.val % 33 = 0) :
    Arrays (ctxT m c ⟨t.val / 33, ht⟩) (ctxU m c ⟨t.val / 33, ht⟩) (fun r d => a2 m c (ix3 0 r d)) (fun d => a3 m c (ix2 0 d))
      (bArr (grid0.coords t) (iblk m c 3 t) (iblk m c 7 t) (iblk m c 8 t) (iblk m c 9 t))
      (qArr (grid0.coords t) (X0_1 m c t) (X0_5 m c t) (iblk m c 3 t) (iblk m c 7 t) (iblk m c 8 t) (iblk m c 9 t))
      (kArr (grid0.coords t) (X0_0 m c t) (X0_4 m c t) (iblk m c 3 t) (iblk m c 7 t) (iblk m c 8 t) (iblk m c 9 t))
      (vArr (grid0.coords t) (X0_2 m c t) (X0_6 m c t)) (pArr (grid0.coords t) (iblk m c 10 t) (iblk m c 11 t))
      (gArr (grid0.coords t) (X0_13 m c t) (X0_14 m c t)) :=
  ctx_arrays (grid0.coords t) (isCtx_ctx t h) (X0_0 m c t) (X0_1 m c t) (X0_2 m c t) (iblk m c 3 t) (X0_4 m c t) (X0_5 m c t) (X0_6 m c t)
    (iblk m c 7 t) (iblk m c 8 t) (iblk m c 9 t) (iblk m c 10 t) (iblk m c 11 t) (X0_13 m c t) (X0_14 m c t)
    (blk0 m c t ht) (blk1 m c t ht) (blk2 m c t ht) (blk3 m c t ht) (blk8 m c t) (blk9 m c t) (blk10 m c t ht) (blk13 m c t ht)

/-- A row of one of a point's two columns. -/
theorem col_eq (c : Dev nD) (b : Fin 2) (s : Fin 32) (o : Fin 2) (r : Fin 128) (x : Fin 256) (hx : x.val = o.val * 128 + r.val)
    (hr : r.val * 64 + (2 * s.val + o.val) < 8192) (f : Fin 5376) :
    a1 m c (ix3 b ⟨r.val * 64 + (2 * s.val + o.val), hr⟩ f) = latT m c b s x f := by
  unfold latT
  refine congrArg (fun r => a1 m c (ix3 b r f)) (Fin.ext ?_)
  show r.val * 64 + (2 * s.val + o.val) = x.val % 128 * 64 + (2 * s.val + x.val / 128)
  omega

theorem arrays_lat (c : Dev nD) (t : Fin cfg0.N) (ht : t.val / 33 < 2) (h : ¬t.val % 33 = 0) :
    Arrays (latT m c ⟨t.val / 33, ht⟩ ⟨t.val % 33 - 1, by omega⟩) (latU m c ⟨t.val / 33, ht⟩ ⟨t.val % 33 - 1, by omega⟩)
      (fun r d => a2 m c (ix3 0 r d)) (fun d => a3 m c (ix2 0 d))
      (bArr (grid0.coords t) (iblk m c 3 t) (iblk m c 7 t) (iblk m c 8 t) (iblk m c 9 t))
      (qArr (grid0.coords t) (X0_1 m c t) (X0_5 m c t) (iblk m c 3 t) (iblk m c 7 t) (iblk m c 8 t) (iblk m c 9 t))
      (kArr (grid0.coords t) (X0_0 m c t) (X0_4 m c t) (iblk m c 3 t) (iblk m c 7 t) (iblk m c 8 t) (iblk m c 9 t))
      (vArr (grid0.coords t) (X0_2 m c t) (X0_6 m c t)) (pArr (grid0.coords t) (iblk m c 10 t) (iblk m c 11 t))
      (gArr (grid0.coords t) (X0_13 m c t) (X0_14 m c t)) :=
  lat_arrays (grid0.coords t) (isCtx_lat t h)
    ⟨2 * ((t.val % 33 - 1) % 4) + (0 : Fin 2).val, by show _ + 0 < 8; omega⟩ ⟨2 * ((t.val % 33 - 1) % 4) + (1 : Fin 2).val, by show _ + 1 < 8; omega⟩
    (offs t h 0).1 (offs t h 1).1 (offs t h 0).2.1 (offs t h 1).2.1 (offs t h 0).2.2 (offs t h 1).2.2
    (X0_0 m c t) (X0_1 m c t) (X0_2 m c t) (iblk m c 3 t) (X0_4 m c t) (X0_5 m c t) (X0_6 m c t)
    (iblk m c 7 t) (iblk m c 8 t) (iblk m c 9 t) (iblk m c 10 t) (iblk m c 11 t) (X0_13 m c t) (X0_14 m c t)
    (fun r f => (blk4 m c t ht h 0 r f).trans (col_eq m c _ ⟨t.val % 33 - 1, by omega⟩ 0 r _ (by show r.val = 0 * 128 + r.val; omega) _ _))
    (fun r f => (blk4 m c t ht h 1 r f).trans (col_eq m c _ ⟨t.val % 33 - 1, by omega⟩ 1 r _ (by show 128 + r.val = 1 * 128 + r.val; omega) _ _))
    (fun r f => (blk5 m c t ht h 0 r f).trans (col_eq m c _ ⟨t.val % 33 - 1, by omega⟩ 0 r _ (by show r.val = 0 * 128 + r.val; omega) _ _))
    (fun r f => (blk5 m c t ht h 1 r f).trans (col_eq m c _ ⟨t.val % 33 - 1, by omega⟩ 1 r _ (by show 128 + r.val = 1 * 128 + r.val; omega) _ _))
    (fun r f => (blk6 m c t ht h 0 r f).trans (col_eq m c _ ⟨t.val % 33 - 1, by omega⟩ 0 r _ (by show r.val = 0 * 128 + r.val; omega) _ _))
    (fun r f => (blk6 m c t ht h 1 r f).trans (col_eq m c _ ⟨t.val % 33 - 1, by omega⟩ 1 r _ (by show 128 + r.val = 1 * 128 + r.val; omega) _ _))
    (fun r f => (blk7 m c t ht h 0 r f).trans (col_eq m c _ ⟨t.val % 33 - 1, by omega⟩ 0 r _ (by show r.val = 0 * 128 + r.val; omega) _ _))
    (fun r f => (blk7 m c t ht h 1 r f).trans (col_eq m c _ ⟨t.val % 33 - 1, by omega⟩ 1 r _ (by show 128 + r.val = 1 * 128 + r.val; omega) _ _))
    (blk8 m c t) (blk9 m c t) (blk11 m c t ht h)
    (fun r f => (blk14 m c t ht h 0 r f).trans (col_eq m c _ ⟨t.val % 33 - 1, by omega⟩ 0 r _ (by show r.val = 0 * 128 + r.val; omega) _ _))
    (fun r f => (blk14 m c t ht h 1 r f).trans (col_eq m c _ ⟨t.val % 33 - 1, by omega⟩ 1 r _ (by show 128 + r.val = 1 * 128 + r.val; omega) _ _))

/-! What a point leaves, of the arrays. -/

theorem ctxState_eq (c : Dev nD) (t : Fin cfg0.N) (h : t.val % 33 = 0) :
    ctxState m c t h = chain (bArr (grid0.coords t) (iblk m c 3 t) (iblk m c 7 t) (iblk m c 8 t) (iblk m c 9 t))
      (kArr (grid0.coords t) (X0_0 m c t) (X0_4 m c t) (iblk m c 3 t) (iblk m c 7 t) (iblk m c 8 t) (iblk m c 9 t))
      (vArr (grid0.coords t) (X0_2 m c t) (X0_6 m c t)) (k0_pay3 (F := Ideal)) 4 := by
  unfold ctxState
  rw [View.read_writes_junk_eq_canon]
  unfold atCtx
  rw [ctx_state4]
theorem ctxOut_eq (c : Dev nD) (t : Fin cfg0.N) (h : t.val % 33 = 0) :
    ctxOut m c t h = k0_pay1 (outArr (bArr (grid0.coords t) (iblk m c 3 t) (iblk m c 7 t) (iblk m c 8 t) (iblk m c 9 t))
      (qArr (grid0.coords t) (X0_1 m c t) (X0_5 m c t) (iblk m c 3 t) (iblk m c 7 t) (iblk m c 8 t) (iblk m c 9 t))
      (kArr (grid0.coords t) (X0_0 m c t) (X0_4 m c t) (iblk m c 3 t) (iblk m c 7 t) (iblk m c 8 t) (iblk m c 9 t))
      (vArr (grid0.coords t) (X0_2 m c t) (X0_6 m c t)) (pArr (grid0.coords t) (iblk m c 10 t) (iblk m c 11 t))
      (gArr (grid0.coords t) (X0_13 m c t) (X0_14 m c t)) (iblk m c 12 t) (k0_pay3 (F := Ideal))) := by
  unfold ctxOut
  rw [View.read_writes_junk_eq_canon]
  unfold atCtx
  rw [ctx_result]
theorem latState_eq (c : Dev nD) (t : Fin cfg0.N) (h : ¬t.val % 33 = 0) (s : Vec Ideal S4x256x128 .f32) :
    latState m c t h s = chain (bArr (grid0.coords t) (iblk m c 3 t) (iblk m c 7 t) (iblk m c 8 t) (iblk m c 9 t))
      (kArr (grid0.coords t) (X0_0 m c t) (X0_4 m c t) (iblk m c 3 t) (iblk m c 7 t) (iblk m c 8 t) (iblk m c 9 t))
      (vArr (grid0.coords t) (X0_2 m c t) (X0_6 m c t)) s 4 := by
  unfold latState
  rw [View.read_writes_junk_eq_canon]
  unfold atLat
  rw [lat_state4]
theorem latOut_eq (c : Dev nD) (t : Fin cfg0.N) (h : ¬t.val % 33 = 0) (s : Vec Ideal S4x256x128 .f32) :
    latOut m c t h s = k0_pay2 (outArr (bArr (grid0.coords t) (iblk m c 3 t) (iblk m c 7 t) (iblk m c 8 t) (iblk m c 9 t))
      (qArr (grid0.coords t) (X0_1 m c t) (X0_5 m c t) (iblk m c 3 t) (iblk m c 7 t) (iblk m c 8 t) (iblk m c 9 t))
      (kArr (grid0.coords t) (X0_0 m c t) (X0_4 m c t) (iblk m c 3 t) (iblk m c 7 t) (iblk m c 8 t) (iblk m c 9 t))
      (vArr (grid0.coords t) (X0_2 m c t) (X0_6 m c t)) (pArr (grid0.coords t) (iblk m c 10 t) (iblk m c 11 t))
      (gArr (grid0.coords t) (X0_13 m c t) (X0_14 m c t)) (iblk m c 12 t) s) := by
  unfold latOut
  rw [View.read_writes_junk_eq_canon]
  unfold atLat
  rw [lat_result]

/-! The scan, by the points. -/

/-- The scan's state of batch `b` after `j` chunks, and a row of the result. -/
abbrev stateIn (c : Dev nD) (b : Fin 2) (j : ℕ) (h : Fin 4) (e : Fin 256) (d : Fin 128) : EReal :=
  Cert.Gla.stateAfter (a0 m c) (a1 m c) (a2 m c) (a3 m c) b h j e d
abbrev rowOf (c : Dev nD) (b : Fin 2) (j : ℕ) (x : Fin 256) (f : Fin 1024) : EReal :=
  Cert.Gla.result (a0 m c) (a1 m c) (a2 m c) (a3 m c) (a4 m c) (a5 m c) (a6 m c) b ⟨f.val / 256, by omega⟩ (j + x.val / 64)
    ⟨x.val % 64, by omega⟩ ⟨f.val % 256, by omega⟩

theorem batch (n : ℕ) (hn : n < cfg0.N) : n / 33 < 2 := by
  have := lt_of_lt_of_eq hn N_0
  omega

theorem ctx_state_at (c : Dev nD) (t : Fin cfg0.N) (h : t.val % 33 = 0) (hd : Fin 4) (e : Fin 256) (d : Fin 128) :
    ctxState m c t h (ix3 hd e d) = stateIn m c ⟨t.val / 33, batch t.val t.isLt⟩ (0 + 4) hd e d := by
  rw [ctxState_eq]
  exact chain_at (arrays_ctx m c t (batch t.val t.isLt) h) (ctx_rows m c _) (fun _ _ _ => pay3_at _) 4 (le_refl 4) hd e d
theorem ctx_out_at (c : Dev nD) (t : Fin cfg0.N) (h : t.val % 33 = 0) (x : Fin 256) (f : Fin 1024) :
    ctxOut m c t h (ix3 0 x f) = rowOf m c ⟨t.val / 33, batch t.val t.isLt⟩ 0 x f := by
  rw [ctxOut_eq]
  refine (pay1_at _ x f).trans ?_
  exact outArr_at (arrays_ctx m c t (batch t.val t.isLt) h) (ctx_rows m c _) (ctx_rest m c _) (fun _ _ _ => pay3_at _) (iblk m c 12 t) (blk12 m c t) x f
theorem lat_state_at (c : Dev nD) (t : Fin cfg0.N) (h : ¬t.val % 33 = 0) (s : Vec Ideal S4x256x128 .f32)
    (hs : ∀ hd e d, s (ix3 hd e d) = stateIn m c ⟨t.val / 33, batch t.val t.isLt⟩ (4 * (t.val % 33 - 1 + 1)) hd e d)
    (hd : Fin 4) (e : Fin 256) (d : Fin 128) :
    latState m c t h s (ix3 hd e d) = stateIn m c ⟨t.val / 33, batch t.val t.isLt⟩ (4 * (t.val % 33 - 1 + 1) + 4) hd e d := by
  rw [latState_eq]
  exact chain_at (arrays_lat m c t (batch t.val t.isLt) h) (lat_rows m c _ _) hs 4 (le_refl 4) hd e d
theorem lat_out_at (c : Dev nD) (t : Fin cfg0.N) (h : ¬t.val % 33 = 0) (s : Vec Ideal S4x256x128 .f32)
    (hs : ∀ hd e d, s (ix3 hd e d) = stateIn m c ⟨t.val / 33, batch t.val t.isLt⟩ (4 * (t.val % 33 - 1 + 1)) hd e d)
    (x : Fin 256) (f : Fin 1024) :
    latOut m c t h s (ix3 0 x f) = rowOf m c ⟨t.val / 33, batch t.val t.isLt⟩ (4 * (t.val % 33 - 1 + 1)) x f := by
  rw [latOut_eq]
  refine (pay2_at _ x f).trans ?_
  exact outArr_at (arrays_lat m c t (batch t.val t.isLt) h) (lat_rows m c _ _) (lat_rest m c _ _) hs (iblk m c 12 t) (blk12 m c t) x f

attribute [local irreducible] ctxOut ctxState latOut latState Cert.Gla.stateAfter Cert.Gla.result

/-- After point `n`, the state is the scan's after the point's chunks, and the context's output is the context's rows. -/
theorem left_at (c : Dev nD) : ∀ (n : ℕ) (hn : n < cfg0.N),
    (∀ hd e d, (left m c n hn).2.2 (ix3 hd e d) = stateIn m c ⟨n / 33, batch n hn⟩ (4 * (n % 33) + 4) hd e d)
    ∧ ∀ x f, (left m c n hn).1 (ix3 0 x f) = rowOf m c ⟨n / 33, batch n hn⟩ 0 x f := by
  intro n
  induction n with
  | zero =>
    intro hn
    have e0 := left_ctx m c ⟨0, hn⟩ (Nat.zero_mod 33)
    change left m c 0 hn = _ at e0
    rw [e0, show 4 * (0 % 33) + 4 = 0 + 4 by omega]
    exact ⟨fun hd e d => ctx_state_at m c ⟨0, hn⟩ (Nat.zero_mod 33) hd e d, fun x f => ctx_out_at m c ⟨0, hn⟩ (Nat.zero_mod 33) x f⟩
  | succ n ih =>
    intro hn
    by_cases h : (n + 1) % 33 = 0
    · have e0 := left_ctx m c ⟨n + 1, hn⟩ h
      change left m c (n + 1) hn = _ at e0
      rw [e0, show 4 * ((n + 1) % 33) + 4 = 0 + 4 by omega]
      exact ⟨fun hd e d => ctx_state_at m c ⟨n + 1, hn⟩ h hd e d, fun x f => ctx_out_at m c ⟨n + 1, hn⟩ h x f⟩
    · have e0 := left_lat m c ⟨n + 1, hn⟩ h
      change left m c (n + 1) hn = ((left m c n (Nat.lt_of_succ_lt hn)).1, latOut m c ⟨n + 1, hn⟩ h (left m c n (Nat.lt_of_succ_lt hn)).2.2,
        latState m c ⟨n + 1, hn⟩ h (left m c n (Nat.lt_of_succ_lt hn)).2.2) at e0
      obtain ⟨hS, hO⟩ := ih (Nat.lt_of_succ_lt hn)
      have hb : (⟨n / 33, batch n (Nat.lt_of_succ_lt hn)⟩ : Fin 2) = ⟨(n + 1) / 33, batch (n + 1) hn⟩ := Fin.ext (by show n / 33 = (n + 1) / 33; omega)
      rw [hb] at hS hO
      rw [show 4 * (n % 33) + 4 = 4 * ((n + 1) % 33 - 1 + 1) by omega] at hS
      rw [e0, show 4 * ((n + 1) % 33) + 4 = 4 * ((n + 1) % 33 - 1 + 1) + 4 by omega]
      exact ⟨fun hd e d => lat_state_at m c ⟨n + 1, hn⟩ h _ hS hd e d, hO⟩

/-- What a point of the latents puts out. -/
theorem left_lat_at (c : Dev nD) (t : Fin cfg0.N) (h : ¬t.val % 33 = 0) (x : Fin 256) (f : Fin 1024) :
    (left m c t.val t.isLt).2.1 (ix3 0 x f) = rowOf m c ⟨t.val / 33, batch t.val t.isLt⟩ (4 * (t.val % 33 - 1 + 1)) x f := by
  rw [left_lat m c t h]
  dsimp only
  refine lat_out_at m c t h _ (fun hd e d => ?_) x f
  have hS := (left_at m c (t.val - 1) (Nat.lt_of_le_of_lt (Nat.sub_le _ _) t.isLt)).1 hd e d
  rw [hS]
  have hb : (⟨(t.val - 1) / 33, batch (t.val - 1) (Nat.lt_of_le_of_lt (Nat.sub_le _ _) t.isLt)⟩ : Fin 2) = ⟨t.val / 33, batch t.val t.isLt⟩ :=
    Fin.ext (by show (t.val - 1) / 33 = t.val / 33; omega)
  rw [hb, show 4 * ((t.val - 1) % 33) + 4 = 4 * (t.val % 33 - 1 + 1) by omega]

/-! The two results. -/

theorem point_ctx (c : Dev nD) (t : Fin cfg0.N) (y : S1x256x1024.Idx) :
    (left m c t.val t.isLt).1 y
      = Cert.Gla.specCtx (a0 m c) (a1 m c) (a2 m c) (a3 m c) (a4 m c) (a5 m c) (a6 m c) (((cfg0.win 15).blk t).view.emb y) := by
  have ht := batch t.val t.isLt
  idx_vars y
  obtain rfl : y0 = 0 := Fin.ext (by omega)
  have he : ((cfg0.win 15).blk t).view.emb (ix3 0 y1 y2) = (ix3 ⟨t.val / 33, ht⟩ y1 y2 : S2x256x1024.Idx) := by
    blk_ext [idxCtx t]
  rw [he, (left_at m c t.val t.isLt).2 y1 y2]
  show rowOf m c _ (0) y1 y2 = Cert.Gla.result _ _ _ _ _ _ _ _ _ (y1.val / 64) _ _
  unfold rowOf
  rw [Nat.zero_add]
  rfl

theorem point_lat (c : Dev nD) (t : Fin cfg0.N) (h : ¬t.val % 33 = 0) (y : S1x256x1024.Idx) :
    (left m c t.val t.isLt).2.1 y
      = Cert.Gla.specLat (a0 m c) (a1 m c) (a2 m c) (a3 m c) (a4 m c) (a5 m c) (a6 m c) (((cfg0.win 16).blk t).view.emb y) := by
  have ht := batch t.val t.isLt
  idx_vars y
  obtain rfl : y0 = 0 := Fin.ext (by omega)
  have he : ((cfg0.win 16).blk t).view.emb (ix3 0 y1 y2) = (ix3 ⟨t.val / 33, ht⟩ ⟨(t.val % 33 - 1) * 256 + y1.val, by omega⟩ y2 : S2x8192x1024.Idx) := by
    blk_ext [idxLat t h]
  rw [he, left_lat_at m c t h y1 y2]
  show rowOf m c _ _ y1 y2 = Cert.Gla.result _ _ _ _ _ _ _ _ ⟨y2.val / 256, _⟩ ((256 + ((t.val % 33 - 1) * 256 + y1.val)) / 64)
    ⟨(256 + ((t.val % 33 - 1) * 256 + y1.val)) % 64, _⟩ ⟨y2.val % 256, _⟩
  unfold rowOf
  have e1 : 4 * (t.val % 33 - 1 + 1) + y1.val / 64 = (256 + ((t.val % 33 - 1) * 256 + y1.val)) / 64 := by omega
  have e2 : (⟨y1.val % 64, Nat.mod_lt _ (by decide)⟩ : Fin 64) = ⟨(256 + ((t.val % 33 - 1) * 256 + y1.val)) % 64, Nat.mod_lt _ (by decide)⟩ := Fin.ext (by show y1.val % 64 = _ % 64; omega)
  rw [e1, e2]
  rfl

theorem final_ctx (c : Dev nD) : (dats m 0 c).arrAt 15 (cfgs 0).N
    = Cert.Gla.specCtx (a0 m c) (a1 m c) (a2 m c) (a3 m c) (a4 m c) (a5 m c) (a6 m c) := by
  refine (dats m 0 c).arrAt_eq_of_covers 15 _ (by decide +kernel) fun t _ y => ?_
  blk_simp; rw [after0_15]
  exact point_ctx m c t y

theorem final_lat (c : Dev nD) : (dats m 0 c).arrAt 16 (cfgs 0).N
    = Cert.Gla.specLat (a0 m c) (a1 m c) (a2 m c) (a3 m c) (a4 m c) (a5 m c) (a6 m c) := by
  refine (dats m 0 c).arrAt_eq_of_covers 16 _ (by decide +kernel) fun t hf y => ?_
  have h : ¬t.val % 33 = 0 := fun h => by
    rw [flush_lat t, h] at hf
    exact absurd hf (by decide)
  blk_simp; rw [after0_16]
  exact point_lat m c t h y

end Cert.KernelIdeal.Gla

end
-- ==== Proof.GlaRefRun.lean ====
/- The attention call's reference: its run, stated over one step of its scan. Each value of a step is a function of the
   carried state and of the step's number, so the results are read off the state after the 132 steps. -/
module

public import proofs.«01_k».proof.Proof.Gen.ReferenceIdeal.Run
public import proofs.«01_k».proof.Proof.Gen.ReferenceIdeal.Step

@[expose] public section

set_option maxRecDepth 16384

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The buffers `V` hold the state `s` before the step numbered `j`. -/
structure At (V : Valuation τ sig (Elt F)) (s : State F) (j : ℕ) : Prop where
  state : V (Proc.devRef .tc main_v11_6) = s.main_v11_6
  outs : V (Proc.devRef .tc main_v11_7) = s.main_v11_7
  proj : V (Proc.devRef .tc main_v11_0) = s.main_v11_0
  rest : V (Proc.devRef .tc main_v11_1) = s.main_v11_1
  gateW : V (Proc.devRef .tc main_v11_2) = s.main_v11_2
  gateB : V (Proc.devRef .tc main_v11_3) = s.main_v11_3
  normG : V (Proc.devRef .tc main_v11_4) = s.main_v11_4
  count : V (Proc.devRef .tc main_v11_5) = constantI S_ 32 (BitVec.ofNat 32 j)

variable {V : Valuation τ sig (Elt F)} {s : State F} {j : ℕ}

theorem chunk_eq (h : At V s j) : res_main_while0b_v18 V = Step.b4 j s := by
  unfold res_main_while0b_v18 Step.b4 Step.b3
  rw [h.proj, h.count]; rfl
theorem pre_eq (h : At V s j) : res_main_while0b_v29 V = Step.b19 j s := by
  unfold res_main_while0b_v29
  rw [chunk_eq h, h.gateW, h.gateB]; rfl
theorem zero_eq (h : At V s j) : res_main_while0b_call2_cst V = Step.b20 j s := by
  unfold res_main_while0b_call2_cst; rfl
theorem diff_eq (h : At V s j) : res_main_while0b_call2_v3 V = Step.b24 j s := by
  unfold res_main_while0b_call2_v3
  rw [pre_eq h, zero_eq h]; rfl
theorem keys_eq (h : At V s j) : res_main_while0b_v40 V = Step.b45 j s := by
  unfold res_main_while0b_v40
  rw [chunk_eq h]; rfl
theorem vals_eq (h : At V s j) : res_main_while0b_v42 V = Step.b47 j s := by
  unfold res_main_while0b_v42
  rw [chunk_eq h]; rfl
theorem cum_eq (h : At V s j) : res_main_while0b_v43 V = Step.b50 j s := by
  unfold res_main_while0b_v43
  rw [diff_eq h, pre_eq h, zero_eq h]; rfl
theorem last_eq (h : At V s j) : res_main_while0b_v45 V = Step.b52 j s := by
  unfold res_main_while0b_v45
  rw [cum_eq h]; rfl
theorem qin_eq (h : At V s j) : res_main_while0b_v53 V = Step.b60 j s := by
  unfold res_main_while0b_v53
  rw [cum_eq h, chunk_eq h]; rfl
theorem sum_eq (h : At V s j) : res_main_while0b_v72 V = Step.b92 j s := by
  unfold res_main_while0b_v72
  rw [vals_eq h, qin_eq h, keys_eq h, cum_eq h, h.state, h.rest, h.count]; rfl
theorem gate_eq (h : At V s j) : res_main_while0b_v87 V = Step.b110 j s := by
  unfold res_main_while0b_v87
  rw [chunk_eq h]; rfl

theorem state_step (h : At V s j) : step_main_v11_6 V = Step.b90 j s := by
  unfold step_main_v11_6
  rw [last_eq h, keys_eq h, cum_eq h, vals_eq h, h.state]; rfl
theorem outs_step (h : At V s j) : step_main_v11_7 V = Step.b125 j s := by
  unfold step_main_v11_7
  rw [sum_eq h, gate_eq h, h.outs, h.normG, h.count]; rfl
theorem count_step (h : At V s j) : step_main_v11_5 V = constantI S_ 32 (BitVec.ofNat 32 (j + 1)) := by
  unfold step_main_v11_5
  rw [h.count]
  funext i
  show BitVec.ofNat 32 j + 1#32 = BitVec.ofNat 32 (j + 1)
  simp only [BitVec.ofNat_add]

/-- One trip of the loop is one step of the state. -/
theorem next (h : At V s j) : At (STEP V) (step j s) (j + 1) where
  state := (STEP_main_v11_6 V).trans (state_step h)
  outs := (STEP_main_v11_7 V).trans (outs_step h)
  count := (STEP_main_v11_5 V).trans (count_step h)
  proj := (STEP_main_v11_0 V).trans h.proj
  rest := (STEP_main_v11_1 V).trans h.rest
  gateW := (STEP_main_v11_2 V).trans h.gateW
  gateB := (STEP_main_v11_3 V).trans h.gateB
  normG := (STEP_main_v11_4 V).trans h.normG

theorem result_ctx (h : At V s j) : out_main_v15 V = Step.R_main_v15 s := by
  unfold out_main_v15 Step.R_main_v15
  rw [h.outs]
theorem result_lat (h : At V s j) : out_main_v17 V = Step.R_main_v17 s := by
  unfold out_main_v17 Step.R_main_v17
  rw [h.outs]

variable (m : (ℓ : Loc nD τ sig) → Buf (Elt F) ℓ) (c : Dev nD)

/-- The state the scan begins with. -/
def start : State F :=
  init (m ((c.tc : Thread nD τ).loc main_arg2)) (m ((c.tc : Thread nD τ).loc main_arg3)) (m ((c.tc : Thread nD τ).loc main_arg4))
    (m ((c.tc : Thread nD τ).loc main_arg0)) (m ((c.tc : Thread nD τ).loc main_arg1)) (m ((c.tc : Thread nD τ).loc main_arg5)) (m ((c.tc : Thread nD τ).loc main_arg6))

set_option maxRecDepth 65536 in
theorem entered : At (entryContents preI m c) (start m c) 0 := by
  constructor <;> (simp only [entryContents, afterL_cons, afterL_nil]; after_reads_simp) <;> rfl

/-- The state before step `k`. -/
def stateAt : ℕ → State F
  | 0 => start m c
  | k + 1 => step k (stateAt k)

theorem reached : ∀ k, At (STEP^[k] (entryContents preI m c)) (stateAt m c k) k
  | 0 => entered m c
  | k + 1 => by
    rw [Function.iterate_succ_apply']
    exact next (reached k)

/-- The reference ends with its results read off the state after 132 steps, its arguments unchanged. -/
theorem run_scan (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v15) = Step.R_main_v15 (stateAt m c 132)
      ∧ r.2.mem ((c.tc : Thread nD τ).loc main_v17) = Step.R_main_v17 (stateAt m c 132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (result_ctx (reached m c 132)), (h c).2.1.trans (result_lat (reached m c 132)), (h c).2.2⟩) (Value.run m ρ)

end Cert.ReferenceIdeal.Scan

end
-- ==== Proof.GlaRefGate.lean ====
/- The reference's decay of a chunk's rows, at an index: the gate's logarithm, and its running sum over the rows. -/
module

public import proofs.«01_k».proof.Proof.Gen.ReferenceIdeal.Step
public import proofs.«01_k».proof.Proof.GlaSpec

@[expose] public section

set_option maxRecDepth 16384

noncomputable section

namespace Cert.ReferenceIdeal.Scan

open Idealize.ShloMosaic Cert.ReferenceIdeal
open Cert.ReferenceIdeal.Step Cert.ReferenceIdeal.Gen

variable (j : ℕ) (s : State Ideal)

theorem gate_at (b : Fin 2) (i : Fin 64) (d : Fin 512) :
    b37 j s (ix3 b i d) = Cert.Gla.logGate (∑ r : Fin 16, b4 j s (ix3 b i (Cert.Gla.colG r)) * s.main_v11_2 (ix3 0 r d) + s.main_v11_3 (ix2 0 d)) := by
  pointwise [b37, b36, b35, b34, b33, b32, b31, b30, b29, b28, b27, b26, b25, b24, b23, b22, b21, b20, b19, b18, b17, b16, b15, b14, b13, b12, b11, b10]
  simp only [ne_eq, not_true_eq_false, if_false]
  rfl

theorem foldl_add {ι : Type} (f : ι → EReal) : ∀ (l : List ι) (v : EReal), l.foldl (fun r n => r + f n) v = v + (l.map f).sum
  | [], v => (add_zero v).symm
  | n :: l, v => by
    rw [List.foldl_cons, foldl_add f l, List.map_cons, List.sum_cons, add_assoc]

/-- A window's position against the padded operand: its entry there, or the padding. -/
def term {s t : Shape} (window strides lo hi : Fin s.rank → ℕ) (x : s.Idx → EReal) (v : EReal) (h : s.ReduceWindows window strides lo hi t)
    (j : t.Idx) (w : (⟨s.rank, window⟩ : Shape).Idx) : EReal :=
  let p : Fin s.rank → ℕ := fun a => (j (a.cast h.1.symm)).val * strides a + (w a).val
  if hin : ∀ a, lo a ≤ p a ∧ p a - lo a < s.size a then x (fun a => ⟨p a - lo a, (hin a).2⟩) else v

theorem window_sum {s t u : Shape} (window strides lo hi : Fin s.rank → ℕ) (x : s.Idx → EReal) (init : u.Idx → EReal)
    (h : s.ReduceWindows window strides lo hi t) (hu : 0 < u.numel) (j : t.Idx) :
    Host.reduceWindow (· + ·) window strides lo hi x init h hu j
      = init (Shape.Idx.first hu) + ∑ w : (⟨s.rank, window⟩ : Shape).Idx, term window strides lo hi x (init (Shape.Idx.first hu)) h j w := by
  have e : Host.reduceWindow (· + ·) window strides lo hi x init h hu j
      = (List.finRange (⟨s.rank, window⟩ : Shape).numel).foldl
          (fun r n => r + term window strides lo hi x (init (Shape.Idx.first hu)) h j ((⟨s.rank, window⟩ : Shape).rowMajor.symm n)) (init (Shape.Idx.first hu)) := by
    unfold Host.reduceWindow term
    dsimp only
    refine congrArg (fun g => List.foldl g _ _) (funext fun r => funext fun n => congrArg (r + ·) ?_)
    by_cases hin : ∀ a, lo a ≤ (j (a.cast h.1.symm)).val * strides a + ((⟨s.rank, window⟩ : Shape).rowMajor.symm n a).val
        ∧ (j (a.cast h.1.symm)).val * strides a + ((⟨s.rank, window⟩ : Shape).rowMajor.symm n a).val - lo a < s.size a
    · rw [dif_pos hin, dif_pos hin]
    · rw [dif_neg hin, dif_neg hin]
  rw [e, foldl_add, ← Fin.sum_univ_def,
    Equiv.sum_comp (⟨s.rank, window⟩ : Shape).rowMajor.symm (term window strides lo hi x (init (Shape.Idx.first hu)) h j)]

abbrev look : S2x64x4x128.ReduceWindows (![1, 64, 1, 1] : Fin 4 → ℕ) ![1, 1, 1, 1] ![0, 63, 0, 0] ![0, 0, 0, 0] S2x64x4x128 :=
  reduceWindows_S2x64x4x128_S2x64x4x128_w1s1p0_0_w64s1p63_0_w1s1p0_0_w1s1p0_0

theorem term_at (x : FVec Ideal S2x64x4x128 .f32) (b : Fin 2) (i : Fin 64) (h : Fin 4) (d : Fin 128) (n : Fin 64) :
    term (s := S2x64x4x128) (t := S2x64x4x128) ![1, 64, 1, 1] ![1, 1, 1, 1] ![0, 63, 0, 0] ![0, 0, 0, 0] x 0 look (ix4 b i h d) (ix4 0 n 0 0) = if 63 ≤ i.val + n.val then x (ix4 b ⟨i.val + n.val - 63, by omega⟩ h d) else 0 := by
  unfold term
  by_cases hn : 63 ≤ i.val + n.val
  · rw [if_pos hn]
    have hin : ∀ a : Fin 4, (![0, 63, 0, 0] : Fin 4 → ℕ) a ≤ (ix4 b i h d a).val * (![1, 1, 1, 1] : Fin 4 → ℕ) a + (ix4 (n0 := 1) (n2 := 1) (n3 := 1) 0 n 0 0 a).val
        ∧ (ix4 b i h d a).val * (![1, 1, 1, 1] : Fin 4 → ℕ) a + (ix4 (n0 := 1) (n2 := 1) (n3 := 1) 0 n 0 0 a).val - (![0, 63, 0, 0] : Fin 4 → ℕ) a < S2x64x4x128.size a := by
      intro a; fin_cases a
      · show 0 ≤ b.val * 1 + 0 ∧ b.val * 1 + 0 - 0 < 2; omega
      · show 63 ≤ i.val * 1 + n.val ∧ i.val * 1 + n.val - 63 < 64; omega
      · show 0 ≤ h.val * 1 + 0 ∧ h.val * 1 + 0 - 0 < 4; omega
      · show 0 ≤ d.val * 1 + 0 ∧ d.val * 1 + 0 - 0 < 128; omega
    refine (dif_pos hin).trans (congrArg x (funext fun a => Fin.ext ?_))
    fin_cases a
    · show b.val * 1 + 0 - 0 = b.val; omega
    · show i.val * 1 + n.val - 63 = i.val + n.val - 63; omega
    · show h.val * 1 + 0 - 0 = h.val; omega
    · show d.val * 1 + 0 - 0 = d.val; omega
  · rw [if_neg hn]
    refine dif_neg fun hin => hn ?_
    have h1 : 63 ≤ i.val * 1 + n.val := (hin 1).1
    omega

/-- The window's rows, counted from its end. -/
theorem sum_back (f : Fin 64 → EReal) (i : Fin 64) :
    (∑ n : Fin 64, if 63 ≤ i.val + n.val then f ⟨i.val + n.val - 63, by omega⟩ else 0) = Cert.Gla.cum f i := by
  unfold Cert.Gla.cum
  rw [← Finset.sum_filter, ← Finset.sum_filter]
  refine Finset.sum_bij (fun n _ => ⟨i.val + n.val - 63, by omega⟩) ?_ ?_ ?_ ?_
  · intro n hn
    have hn := (Finset.mem_filter.mp hn).2
    exact Finset.mem_filter.mpr ⟨Finset.mem_univ _, by show i.val + n.val - 63 ≤ i.val; omega⟩
  · intro n hn n' hn' e
    have hn := (Finset.mem_filter.mp hn).2
    have hn' := (Finset.mem_filter.mp hn').2
    have e : i.val + n.val - 63 = i.val + n'.val - 63 := congrArg Fin.val e
    exact Fin.ext (by omega)
  · intro r hr
    have hr := (Finset.mem_filter.mp hr).2
    exact ⟨⟨r.val + 63 - i.val, by omega⟩, Finset.mem_filter.mpr ⟨Finset.mem_univ _, by show 63 ≤ i.val + (r.val + 63 - i.val); omega⟩,
      Fin.ext (by show i.val + (r.val + 63 - i.val) - 63 = r.val; omega)⟩
  · intro n _; rfl

/-- A windowed sum that looks 63 rows back, the rows before the chunk's first counting zero, is a running sum. -/
theorem running (x : FVec Ideal S2x64x4x128 .f32) (z : FVec Ideal S_ .f32) (hz : ∀ i, z i = 0) (b : Fin 2) (i : Fin 64) (h : Fin 4) (d : Fin 128) :
    Host.reduceWindowAdd ![1, 64, 1, 1] ![1, 1, 1, 1] ![0, 63, 0, 0] ![0, 0, 0, 0] x z reduceWindows_S2x64x4x128_S2x64x4x128_w1s1p0_0_w64s1p63_0_w1s1p0_0_w1s1p0_0 h_S_ (ix4 b i h d)
      = Cert.Gla.cum (fun i' => x (ix4 b i' h d)) i := by
  have e : Host.reduceWindowAdd ![1, 64, 1, 1] ![1, 1, 1, 1] ![0, 63, 0, 0] ![0, 0, 0, 0] x z look h_S_
      = Host.reduceWindow (s := S2x64x4x128) (t := S2x64x4x128) (u := S_) (· + ·) ![1, 64, 1, 1] ![1, 1, 1, 1] ![0, 63, 0, 0] ![0, 0, 0, 0] x (fun _ => z (Shape.Idx.first h_S_)) look h_S_ := by
    unfold Host.reduceWindowAdd
    rw [Ideal.hostReduceWindowAdd_def]
    unfold Ideal.hostReduceWindowAdd
    rfl
  refine (congrFun e _).trans ?_
  refine (window_sum _ _ _ _ _ _ _ _ _).trans ?_
  rw [hz, zero_add, ← sum_back]
  refine (sum_idx4 (n0 := 1) (n1 := 64) (n2 := 1) (n3 := 1) _).trans ?_
  rw [Fin.sum_univ_one]
  refine Finset.sum_congr rfl fun n _ => ?_
  rw [Fin.sum_univ_one, Fin.sum_univ_one]
  exact term_at x b i h d n

theorem split_at (b : Fin 2) (i : Fin 64) (h : Fin 4) (d : Fin 128) : b38 j s (ix4 b i h d) = b37 j s (ix3 b i (Cert.Gla.hd h d)) := by
  pointwise [b38]
  rfl
theorem init_at (i : S_.Idx) : b49 j s i = 0 := by
  pointwise [b49, b48]

theorem cum_at (b : Fin 2) (i : Fin 64) (h : Fin 4) (d : Fin 128) :
    b50 j s (ix4 b i h d) = Cert.Gla.cum (fun i' => b37 j s (ix3 b i' (Cert.Gla.hd h d))) i :=
  (running (b38 j s) (b49 j s) (init_at j s) b i h d).trans (congrArg (fun g => Cert.Gla.cum g i) (funext fun i' => split_at j s b i' h d))

end Cert.ReferenceIdeal.Scan

end
-- ==== Proof.GlaRefChunk.lean ====
/- The reference's chunk, at an index: the queries and the keys with their decay, the state it leaves, and its output. -/
module

public import proofs.«01_k».proof.Proof.Gen.ReferenceIdeal.Step
public import proofs.«01_k».proof.Proof.GlaSpec

@[expose] public section

set_option maxRecDepth 16384

noncomputable section

namespace Cert.ReferenceIdeal.Scan

open Idealize.ShloMosaic Cert.ReferenceIdeal
open Cert.ReferenceIdeal.Step

variable (j : ℕ) (s : State Ideal)

theorem qdec_at (b : Fin 2) (i : Fin 64) (h : Fin 4) (d : Fin 128) :
    b60 j s (ix4 b i h d) = b4 j s (ix3 b i (Cert.Gla.colQ h d)) * Ideal.ofBits .f32 1035273459#32 * Ideal.exp (b50 j s (ix4 b i h d)) := by
  pointwise [b60, b59, b43, b42, b41, b40, b39]
  rfl
theorem key_at (b : Fin 2) (i : Fin 64) (h : Fin 4) (d : Fin 128) :
    b45 j s (ix4 b i h d) = b4 j s (ix3 b i (Cert.Gla.colK h d)) := by
  pointwise [b45, b44]
  rfl
theorem val_at (b : Fin 2) (i : Fin 64) (h : Fin 4) (e : Fin 256) :
    b47 j s (ix4 b i h e) = b4 j s (ix3 b i (Cert.Gla.colV h e)) := by
  pointwise [b47, b46]
  rfl
theorem rest_at (b : Fin 2) (i : Fin 64) (h : Fin 4) (e : Fin 256) :
    b91 j s (ix4 b i h e) = b9 j s (ix3 b i (Cert.Gla.hv h e)) := by
  pointwise [b91]
  rfl
/-- The keys decayed to the chunk's end. -/
theorem keyEnd_at (b : Fin 2) (i : Fin 64) (h : Fin 4) (d : Fin 128) :
    b57 j s (ix4 b i h d) = b45 j s (ix4 b i h d) * Ideal.exp (b50 j s (ix4 b 63 h d) - b50 j s (ix4 b i h d)) := by
  pointwise [b57, b56, b55, b54, b53, b52, b51]
theorem state_at (b : Fin 2) (h : Fin 4) (d : Fin 128) (e : Fin 256) :
    b90 j s (ix4 b h d e) = Ideal.exp (b50 j s (ix4 b 63 h d)) * s.main_v11_6 (ix4 b h d e)
      + ∑ x : Fin 64, b57 j s (ix4 b x h d) * b47 j s (ix4 b x h e) := by
  pointwise [b90, b89, b88, b87, b86, b58, b52, b51]

/-- The keys with their decay taken off. -/
theorem keyOff_at (b : Fin 2) (i : Fin 64) (h : Fin 4) (d : Fin 128) :
    b63 j s (ix4 b i h d) = b45 j s (ix4 b i h d) * Ideal.exp (-b50 j s (ix4 b i h d)) := by
  pointwise [b63, b62, b61]
/-- The scores within the chunk. -/
theorem score_at (b : Fin 2) (h : Fin 4) (i x : Fin 64) :
    b64 j s (ix4 b h i x) = ∑ d : Fin 128, b60 j s (ix4 b i h d) * b63 j s (ix4 b x h d) := by
  pointwise [b64]
theorem mask_at (i x : Fin 64) : b75 j s (ix2 i x) = BitVec.ofBool (decide (x.val ≤ i.val)) := by
  pointwise [b75, b74, b73, b72, b71, b70, b69, b68, b67, b66, b65]
  revert i x
  decide +kernel
theorem masked_at (b : Fin 2) (h : Fin 4) (i x : Fin 64) :
    b80 j s (ix4 b h i x) = if x.val ≤ i.val then b64 j s (ix4 b h i x) else 0 := by
  pointwise [b80, b79, b78, b77, b76]
  rw [mask_at]
  by_cases hx : x.val ≤ i.val
  · rw [if_pos hx, decide_eq_true hx]; rfl
  · rw [if_neg hx, decide_eq_false hx]; rfl
theorem within_at (b : Fin 2) (i : Fin 64) (h : Fin 4) (e : Fin 256) :
    b82 j s (ix4 b i h e) = ∑ x : Fin 64, b47 j s (ix4 b x h e) * b80 j s (ix4 b h i x) := by
  pointwise [b82, b81]
theorem across_at (b : Fin 2) (i : Fin 64) (h : Fin 4) (e : Fin 256) :
    b84 j s (ix4 b i h e) = ∑ d : Fin 128, s.main_v11_6 (ix4 b h d e) * b60 j s (ix4 b i h d) := by
  pointwise [b84, b83]
theorem head_at (b : Fin 2) (i : Fin 64) (h : Fin 4) (e : Fin 256) :
    b92 j s (ix4 b i h e) = b82 j s (ix4 b i h e) + b84 j s (ix4 b i h e) + b91 j s (ix4 b i h e) := by
  pointwise [b92, b85]

end Cert.ReferenceIdeal.Scan

end
-- ==== Proof.GlaRefOut.lean ====
/- The reference's output of a chunk, at an index: each head's row normalised, weighted and gated. -/
module

public import proofs.«01_k».proof.Proof.Gen.ReferenceIdeal.Step
public import proofs.«01_k».proof.Proof.GlaSpec

@[expose] public section

set_option maxRecDepth 16384

noncomputable section

namespace Cert.ReferenceIdeal.Scan

open Idealize.ShloMosaic Cert.ReferenceIdeal
open Cert.ReferenceIdeal.Step

variable (j : ℕ) (s : State Ideal)

theorem normed_at (b : Fin 2) (i : Fin 64) (h : Fin 4) (e : Fin 256) :
    b120 j s (ix3 b i (Cert.Gla.hv h e)) = Cert.Gla.normed (fun x => b92 j s (ix4 b i h x)) (fun x => s.main_v11_4 (ix1 x))
      (fun x => b4 j s (ix3 b i (Cert.Gla.colR h x))) e := by
  have e0 : ∀ f : Fin 1024, b120 j s (ix3 b i f) = Cert.Gla.normed (fun x => b92 j s (ix4 b i ⟨f.val / 256, by omega⟩ x)) (fun x => s.main_v11_4 (ix1 x))
      (fun x => b4 j s (ix3 b i (Cert.Gla.colR ⟨f.val / 256, by omega⟩ x))) ⟨f.val % 256, by omega⟩ := by
    intro f
    pointwise [b120, b119, b118, b117, b116, b115, b114, b113, b112, b111, b110, b109, b108, b107, b106, b105, b104, b103, b102, b101, b100, b99, b98, b97, b96, b95, b94, b93]
    have hf : Cert.Gla.colR ⟨f.val / 256, by omega⟩ ⟨f.val % 256, by omega⟩ = ⟨2048 + f.val, by omega⟩ :=
      Fin.ext (congrArg (2048 + ·) (Nat.div_add_mod' f.val 256))
    have hb : b4 j s (ix3 b i ⟨2048 + f.val, by omega⟩) = b4 j s (ix3 b i (Cert.Gla.colR ⟨f.val / 256, by omega⟩ ⟨f.val % 256, by omega⟩)) :=
      congrArg (fun y => b4 j s (ix3 b i y)) hf.symm
    exact congrArg (fun r : EReal => (b92 j s (ix4 b i ⟨f.val / 256, by omega⟩ ⟨f.val % 256, by omega⟩) *
          Ideal.rsqrt (Ideal.div (∑ x, b92 j s (ix4 b i ⟨f.val / 256, by omega⟩ x) * b92 j s (ix4 b i ⟨f.val / 256, by omega⟩ x))
            (Ideal.ofBits FTy.f32 1132462080#32) + Ideal.ofBits FTy.f32 897988541#32) *
        s.main_v11_4 (ix1 ⟨f.val % 256, by omega⟩)) * (r * Ideal.div 1 (1 + Ideal.exp (-r)))) hb
  rw [e0]
  have h1 : (⟨(Cert.Gla.hv h e).val / 256, by omega⟩ : Fin 4) = h := Fin.ext (by show (h.val * 256 + e.val) / 256 = h.val; omega)
  have h2 : (⟨(Cert.Gla.hv h e).val % 256, by omega⟩ : Fin 256) = e := Fin.ext (by show (h.val * 256 + e.val) % 256 = e.val; omega)
  rw [h1, h2]

end Cert.ReferenceIdeal.Scan

end
-- ==== Proof.GlaRefRows.lean ====
/- The reference's rows, at an index: chunk `j` of the projected sequence and of the reverse pass's, and the results. -/
module

public import proofs.«01_k».proof.Proof.Gen.ReferenceIdeal.Step
public import proofs.«01_k».proof.Proof.GlaSpec

@[expose] public section

set_option maxRecDepth 16384

noncomputable section

namespace Cert.ReferenceIdeal.Scan

open Idealize.ShloMosaic Cert.ReferenceIdeal
open Cert.ReferenceIdeal.Step Cert.ReferenceIdeal.Gen

variable (a0 : FVec Ideal S2x256x5376 .f32) (a1 : FVec Ideal S2x8192x5376 .f32) (a5 : FVec Ideal S2x256x1024 .f32) (a6 : FVec Ideal S2x8192x1024 .f32)

/-- The latents column by column. -/
theorem cols_at (b : Fin 2) (r : Fin 8192) (f : Fin 5376) :
    A_main_v2 (F := Ideal) a0 a1 a5 a6 (ix3 b r f) = a1 (ix3 b ⟨r.val % 128 * 64 + r.val / 128, by omega⟩ f) := by
  pointwise [A_main_v2, A_main_v1, A_main_v0]

/-- The sequence: the context, then the latents' columns. -/
theorem seq_at (b : Fin 2) (r : Fin 8448) (f : Fin 5376) :
    A_main_v3 (F := Ideal) a0 a1 a5 a6 (ix3 b r f) = if h : r.val < 256 then a0 (ix3 b ⟨r.val, h⟩ f) else A_main_v2 (F := Ideal) a0 a1 a5 a6 (ix3 b ⟨r.val - 256, by omega⟩ f) := by
  pointwise [A_main_v3]
theorem casts_back : S2x132x64x5376.ShapeCasts S2x8448x5376 := by decide
theorem merge5376_at (y : FVec Ideal S2x132x64x5376 .f32) (h : S2x132x64x5376.ShapeCasts S2x8448x5376) (b : Fin 2) (r : Fin 8448) (f : Fin 5376) :
    shapeCast S2x8448x5376 y h (ix3 b r f) = y (ix4 b ⟨r.val / 64, by omega⟩ ⟨r.val % 64, by omega⟩ f) := by
  pointwise
theorem chunk_at_back (h : S2x132x64x5376.ShapeCasts S2x8448x5376) :
    shapeCast S2x8448x5376 (A_main_v6 (F := Ideal) a0 a1 a5 a6) h = A_main_v3 (F := Ideal) a0 a1 a5 a6 := by
  unfold A_main_v6
  rw [shapeCast_comp, shapeCast_id]
theorem chunk_at_swap (y : FVec Ideal S2x132x64x5376 .f32) (j : Fin 132) (b : Fin 2) (i : Fin 64) (f : Fin 5376) :
    transpose S132x2x64x5376 [1, 0, 2, 3] y transposes_S2x132x64x5376_S132x2x64x5376_1_0_2_3 (ix4 j b i f) = y (ix4 b j i f) := by
  pointwise
theorem chunk_at (j : Fin 132) (b : Fin 2) (i : Fin 64) (f : Fin 5376) :
    A_main_v7 (F := Ideal) a0 a1 a5 a6 (ix4 j b i f) = A_main_v3 (F := Ideal) a0 a1 a5 a6 (ix3 b ⟨j.val * 64 + i.val, by omega⟩ f) := by
  have h1 : (⟨(j.val * 64 + i.val) / 64, by omega⟩ : Fin 132) = j := Fin.ext (by show (j.val * 64 + i.val) / 64 = j.val; omega)
  have h2 : (⟨(j.val * 64 + i.val) % 64, by omega⟩ : Fin 64) = i := Fin.ext (by show (j.val * 64 + i.val) % 64 = i.val; omega)
  have m := merge5376_at (A_main_v6 (F := Ideal) a0 a1 a5 a6) casts_back b ⟨j.val * 64 + i.val, by omega⟩ f
  rw [h1, h2] at m
  exact ((show A_main_v7 (F := Ideal) a0 a1 a5 a6 (ix4 j b i f) = A_main_v6 (F := Ideal) a0 a1 a5 a6 (ix4 b j i f) from chunk_at_swap (A_main_v6 (F := Ideal) a0 a1 a5 a6) j b i f).trans m.symm).trans (congrFun (chunk_at_back a0 a1 a5 a6 casts_back) _)

theorem restSeq_at (b : Fin 2) (r : Fin 8448) (f : Fin 1024) :
    A_main_v4 (F := Ideal) a0 a1 a5 a6 (ix3 b r f) = if h : r.val < 256 then a5 (ix3 b ⟨r.val, h⟩ f) else a6 (ix3 b ⟨r.val - 256, by omega⟩ f) := by
  pointwise [A_main_v4]
theorem merge1024_at (y : FVec Ideal S2x132x64x1024 .f32) (h : S2x132x64x1024.ShapeCasts S2x8448x1024) (b : Fin 2) (r : Fin 8448) (f : Fin 1024) :
    shapeCast S2x8448x1024 y h (ix3 b r f) = y (ix4 b ⟨r.val / 64, by omega⟩ ⟨r.val % 64, by omega⟩ f) := by
  pointwise
theorem restChunk_at_back (h : S2x132x64x1024.ShapeCasts S2x8448x1024) :
    shapeCast S2x8448x1024 (A_main_v8 (F := Ideal) a0 a1 a5 a6) h = A_main_v4 (F := Ideal) a0 a1 a5 a6 := by
  unfold A_main_v8
  rw [shapeCast_comp, shapeCast_id]
theorem restChunk_at_swap (y : FVec Ideal S2x132x64x1024 .f32) (j : Fin 132) (b : Fin 2) (i : Fin 64) (f : Fin 1024) :
    transpose S132x2x64x1024 [1, 0, 2, 3] y transposes_S2x132x64x1024_S132x2x64x1024_1_0_2_3 (ix4 j b i f) = y (ix4 b j i f) := by
  pointwise
theorem restChunk_at (j : Fin 132) (b : Fin 2) (i : Fin 64) (f : Fin 1024) :
    A_main_v9 (F := Ideal) a0 a1 a5 a6 (ix4 j b i f) = A_main_v4 (F := Ideal) a0 a1 a5 a6 (ix3 b ⟨j.val * 64 + i.val, by omega⟩ f) := by
  have h1 : (⟨(j.val * 64 + i.val) / 64, by omega⟩ : Fin 132) = j := Fin.ext (by show (j.val * 64 + i.val) / 64 = j.val; omega)
  have h2 : (⟨(j.val * 64 + i.val) % 64, by omega⟩ : Fin 64) = i := Fin.ext (by show (j.val * 64 + i.val) % 64 = i.val; omega)
  have m := merge1024_at (A_main_v8 (F := Ideal) a0 a1 a5 a6) shapeCasts_S2x132x64x1024_S2x8448x1024 b ⟨j.val * 64 + i.val, by omega⟩ f
  rw [h1, h2] at m
  exact ((show A_main_v9 (F := Ideal) a0 a1 a5 a6 (ix4 j b i f) = A_main_v8 (F := Ideal) a0 a1 a5 a6 (ix4 b j i f) from restChunk_at_swap (A_main_v8 (F := Ideal) a0 a1 a5 a6) j b i f).trans m.symm).trans (congrFun (restChunk_at_back a0 a1 a5 a6 shapeCasts_S2x132x64x1024_S2x8448x1024) _)

theorem rows_at (j : Fin 132) (b : Fin 2) (i : Fin 64) (f : Fin 5376) :
    A_main_v7 (F := Ideal) a0 a1 a5 a6 (ix4 j b i f) = Cert.Gla.rows a0 a1 b j.val i f := by
  rw [chunk_at, seq_at]
  unfold Cert.Gla.rows
  by_cases hj : j.val < 4
  · rw [dif_pos (by show j.val * 64 + i.val < 256; omega), dif_pos hj]
    have e : (⟨j.val * 64 + i.val, by omega⟩ : Fin 256) = ⟨64 * j.val + i.val, by omega⟩ := Fin.ext (by show j.val * 64 + i.val = 64 * j.val + i.val; omega)
    exact congrArg (fun r => a0 (ix3 b r f)) e
  · rw [dif_neg (by show ¬ j.val * 64 + i.val < 256; omega), dif_neg hj, cols_at]
    refine congrArg (fun r => a1 (ix3 b r f)) (Fin.ext ?_)
    show (j.val * 64 + i.val - 256) % 128 * 64 + (j.val * 64 + i.val - 256) / 128
      = (64 * (j.val - 4) + i.val) % 128 * 64 + (64 * (j.val - 4) + i.val) / 128 % 64
    omega
theorem restRows_at (j : Fin 132) (b : Fin 2) (i : Fin 64) (f : Fin 1024) :
    A_main_v9 (F := Ideal) a0 a1 a5 a6 (ix4 j b i f) = Cert.Gla.rest a5 a6 b j.val i f := by
  rw [restChunk_at, restSeq_at]
  unfold Cert.Gla.rest
  by_cases hj : j.val < 4
  · rw [dif_pos (by show j.val * 64 + i.val < 256; omega), dif_pos hj]
    have e : (⟨j.val * 64 + i.val, by omega⟩ : Fin 256) = ⟨64 * j.val + i.val, by omega⟩ := Fin.ext (by show j.val * 64 + i.val = 64 * j.val + i.val; omega)
    exact congrArg (fun r => a5 (ix3 b r f)) e
  · rw [dif_neg (by show ¬ j.val * 64 + i.val < 256; omega), dif_neg hj]
    refine congrArg (fun r => a6 (ix3 b r f)) (Fin.ext ?_)
    show j.val * 64 + i.val - 256 = (64 * (j.val - 4) + i.val) % 8192
    omega

variable (s : State Ideal)

theorem ctxResult_at (b : Fin 2) (r : Fin 256) (f : Fin 1024) :
    R_main_v15 s (ix3 b r f) = s.main_v11_7 (ix4 ⟨r.val / 64, by omega⟩ b ⟨r.val % 64, by omega⟩ f) := by
  pointwise [R_main_v15]
theorem latResult_at (b : Fin 2) (r : Fin 8192) (f : Fin 1024) :
    R_main_v17 s (ix3 b r f) = s.main_v11_7 (ix4 ⟨(256 + r.val) / 64, by omega⟩ b ⟨(256 + r.val) % 64, by omega⟩ f) := by
  pointwise [R_main_v17]

end Cert.ReferenceIdeal.Scan

end
-- ==== Proof.GlaRefSlice.lean ====
/- The reference's slices along the scanned axis: a step reads its own chunk's rows and puts its output in their place. -/
module

public import proofs.«01_k».proof.Proof.Gen.ReferenceIdeal.Step
public import proofs.«01_k».proof.Proof.GlaSpec

@[expose] public section

set_option maxRecDepth 16384

noncomputable section

namespace Cert.ReferenceIdeal.Scan

open Idealize.ShloMosaic Cert.ReferenceIdeal
open Cert.ReferenceIdeal.Step Cert.ReferenceIdeal.Gen

/-- The step's number, as the slices read it. -/
theorem number : ∀ j : Fin 132, (BitVec.ofNat 32 j.val).toInt = (j.val : ℤ) := by decide +kernel

section
variable {K : ℕ} (ht : (⟨4, ![1, 2, 64, K]⟩ : Shape).rank = (⟨4, ![132, 2, 64, K]⟩ : Shape).rank) (start : Fin 4 → ℤ) (j : Fin 132)
  (h0 : start 0 = (j.val : ℤ)) (h1 : start 1 = 0) (h2 : start 2 = 0) (h3 : start 3 = 0)
include h0 h1 h2 h3

theorem start0 : Host.clampedStart ⟨4, ![132, 2, 64, K]⟩ ⟨4, ![1, 2, 64, K]⟩ ht start 0 = j.val :=
  Host.clampedStart_of_le ht start 0 j.val h0 (by show j.val + 1 ≤ 132; omega)
theorem start1 : Host.clampedStart ⟨4, ![132, 2, 64, K]⟩ ⟨4, ![1, 2, 64, K]⟩ ht start 1 = 0 :=
  Host.clampedStart_of_le ht start 1 0 h1 (by show 0 + 2 ≤ 2; omega)
theorem start2 : Host.clampedStart ⟨4, ![132, 2, 64, K]⟩ ⟨4, ![1, 2, 64, K]⟩ ht start 2 = 0 :=
  Host.clampedStart_of_le ht start 2 0 h2 (by show 0 + 64 ≤ 64; omega)
theorem start3 : Host.clampedStart ⟨4, ![132, 2, 64, K]⟩ ⟨4, ![1, 2, 64, K]⟩ ht start 3 = 0 :=
  Host.clampedStart_of_le ht start 3 0 h3 (by show 0 + K ≤ K; omega)

theorem slice_at (x : (⟨4, ![132, 2, 64, K]⟩ : Shape).Idx → EReal) (hf : (⟨4, ![132, 2, 64, K]⟩ : Shape).Slices (fun _ => 0) ⟨4, ![1, 2, 64, K]⟩)
    (b : Fin 2) (i : Fin 64) (f : Fin K) :
    Host.dynamicSlice ⟨4, ![1, 2, 64, K]⟩ x start hf (ix4 0 b i f) = x (ix4 j b i f) := by
  rw [Host.dynamicSlice_apply]
  refine congrArg x ((Shape.Idx.norm4 _).trans ((ix4_inj _ _ _ _ _ _ _ _).mpr ⟨Fin.ext ?_, Fin.ext ?_, Fin.ext ?_, Fin.ext ?_⟩))
  · exact congrArg (· + 0) (start0 hf.1 start j h0 h1 h2 h3)
  · exact (congrArg (· + b.val) (start1 hf.1 start j h0 h1 h2 h3)).trans (Nat.zero_add _)
  · exact (congrArg (· + i.val) (start2 hf.1 start j h0 h1 h2 h3)).trans (Nat.zero_add _)
  · exact (congrArg (· + f.val) (start3 hf.1 start j h0 h1 h2 h3)).trans (Nat.zero_add _)

theorem place_at (x : (⟨4, ![132, 2, 64, K]⟩ : Shape).Idx → EReal) (y : (⟨4, ![1, 2, 64, K]⟩ : Shape).Idx → EReal)
    (hf : (⟨4, ![132, 2, 64, K]⟩ : Shape).Slices (fun _ => 0) ⟨4, ![1, 2, 64, K]⟩) (j' : Fin 132) (b : Fin 2) (i : Fin 64) (f : Fin K) :
    Host.dynamicUpdateSlice x y start hf (ix4 j' b i f) = if j' = j then y (ix4 0 b i f) else x (ix4 j' b i f) := by
  have s0 := start0 hf.1 start j h0 h1 h2 h3
  have s1 := start1 hf.1 start j h0 h1 h2 h3
  have s2 := start2 hf.1 start j h0 h1 h2 h3
  have s3 := start3 hf.1 start j h0 h1 h2 h3
  rw [Host.dynamicUpdateSlice_apply]
  by_cases e : j' = j
  · subst e
    rw [if_pos rfl, dif_pos]
    · refine congrArg y ((Shape.Idx.norm4 _).trans ((ix4_inj _ _ _ _ _ _ _ _).mpr ⟨Fin.ext ?_, Fin.ext ?_, Fin.ext ?_, Fin.ext ?_⟩))
      · exact (congrArg (j'.val - ·) s0).trans (Nat.sub_self _)
      · exact congrArg (b.val - ·) s1
      · exact congrArg (i.val - ·) s2
      · exact congrArg (f.val - ·) s3
    · intro a
      fin_cases a
      · exact ⟨le_of_eq s0, lt_of_lt_of_eq (Nat.lt_succ_self j'.val) (congrArg (· + 1) s0.symm)⟩
      · exact ⟨le_of_eq_of_le s1 (Nat.zero_le _), lt_of_lt_of_eq b.isLt ((Nat.zero_add 2).symm.trans (congrArg (· + 2) s1.symm))⟩
      · exact ⟨le_of_eq_of_le s2 (Nat.zero_le _), lt_of_lt_of_eq i.isLt ((Nat.zero_add 64).symm.trans (congrArg (· + 64) s2.symm))⟩
      · exact ⟨le_of_eq_of_le s3 (Nat.zero_le _), lt_of_lt_of_eq f.isLt ((Nat.zero_add K).symm.trans (congrArg (· + K) s3.symm))⟩
  · rw [if_neg e, dif_neg]
    intro hin
    have h := hin 0
    refine e (Fin.ext ?_)
    have ha : j.val ≤ j'.val := le_of_eq_of_le s0.symm h.1
    have hb : j'.val < j.val + 1 := lt_of_lt_of_eq h.2 (congrArg (· + 1) s0)
    omega
end

variable (j : Fin 132) (s : State Ideal)

theorem rowsOf_at (b : Fin 2) (i : Fin 64) (f : Fin 5376) : b4 j.val s (ix3 b i f) = s.main_v11_0 (ix4 j b i f) := by
  have e : b4 j.val s (ix3 b i f) = b3 j.val s (ix4 0 b i f) := by pointwise [b4]
  exact e.trans (slice_at _ j (number j) rfl rfl rfl s.main_v11_0 _ b i f)
theorem restOf_at (b : Fin 2) (i : Fin 64) (f : Fin 1024) : b9 j.val s (ix3 b i f) = s.main_v11_1 (ix4 j b i f) := by
  have e : b9 j.val s (ix3 b i f) = b8 j.val s (ix4 0 b i f) := by pointwise [b9]
  exact e.trans (slice_at _ j (number j) rfl rfl rfl s.main_v11_1 _ b i f)
theorem put_at (j' : Fin 132) (b : Fin 2) (i : Fin 64) (f : Fin 1024) :
    b125 j.val s (ix4 j' b i f) = if j' = j then b120 j.val s (ix3 b i f) else s.main_v11_7 (ix4 j' b i f) := by
  refine (place_at _ j (number j) rfl rfl rfl s.main_v11_7 (b121 j.val s) _ j' b i f).trans ?_
  have e : b121 j.val s (ix4 0 b i f) = b120 j.val s (ix3 b i f) := by pointwise [b121]
  rw [e]

end Cert.ReferenceIdeal.Scan

end
-- ==== Proof.GlaRefValue.lean ====
/- The attention call's reference, read off its scan: the state it carries and its two results are the functions the
   specification names. -/
module

public import proofs.«01_k».proof.Proof.GlaRefRun
public import proofs.«01_k».proof.Proof.GlaRefGate
public import proofs.«01_k».proof.Proof.GlaRefChunk
public import proofs.«01_k».proof.Proof.GlaRefOut
public import proofs.«01_k».proof.Proof.GlaRefRows
public import proofs.«01_k».proof.Proof.GlaRefSlice

@[expose] public section

set_option maxRecDepth 16384

noncomputable section

namespace Cert.ReferenceIdeal.Scan

open Idealize.ShloMosaic Idealize.ShloMosaic.TcCoe Idealize.SL.Sem Cert.ReferenceIdeal
open Cert.ReferenceIdeal.Step

/-! One step, for a state whose rows, weights and biases are the arguments'. -/

section
variable (a0 : FVec Ideal S2x256x5376 .f32) (a1 : FVec Ideal S2x8192x5376 .f32) (a2 : FVec Ideal S2x16x512 .f32) (a3 : FVec Ideal S2x512 .f32)
  (a4 : FVec Ideal S256 .f32) (a5 : FVec Ideal S2x256x1024 .f32) (a6 : FVec Ideal S2x8192x1024 .f32)

/-- The state's fixed fields are the arguments'. -/
structure Of (s : State Ideal) : Prop where
  proj : s.main_v11_0 = A_main_v7 a0 a1 a5 a6
  rest : s.main_v11_1 = A_main_v9 a0 a1 a5 a6
  gateW : s.main_v11_2 = a2
  gateB : s.main_v11_3 = a3
  normG : s.main_v11_4 = a4

variable {a0 a1 a2 a3 a4 a5 a6} {s : State Ideal} (o : Of a0 a1 a2 a3 a4 a5 a6 s) (j : Fin 132) (b : Fin 2)
include o

theorem row (i : Fin 64) (f : Fin 5376) : b4 j.val s (ix3 b i f) = Cert.Gla.rows a0 a1 b j.val i f := by
  rw [rowsOf_at, o.proj]
  exact rows_at a0 a1 a5 a6 j b i f
theorem restRow (i : Fin 64) (f : Fin 1024) : b9 j.val s (ix3 b i f) = Cert.Gla.rest a5 a6 b j.val i f := by
  rw [restOf_at, o.rest]
  exact restRows_at a0 a1 a5 a6 j b i f

variable (h : Fin 4)

/-- The decay of the rows. -/
theorem dec (i : Fin 64) (d : Fin 128) :
    b50 j.val s (ix4 b i h d) = Cert.Gla.decayAt (Cert.Gla.rows a0 a1 b) (fun r f => a2 (ix3 0 r f)) (fun f => a3 (ix2 0 f)) h j.val i d := by
  rw [cum_at]
  unfold Cert.Gla.decayAt Cert.Gla.gateSum
  refine congrArg (fun g => Cert.Gla.cum g i) (funext fun i' => ?_)
  rw [gate_at, o.gateW, o.gateB]
  exact congrArg (fun z => Cert.Gla.logGate (z + a3 (ix2 0 (Cert.Gla.hd h d))))
    (Finset.sum_congr rfl fun r _ => congrArg (· * a2 (ix3 0 r (Cert.Gla.hd h d))) (row o j b i' (Cert.Gla.colG r)))

/-- The keys decayed to the chunk's end. -/
theorem keyEnd (i : Fin 64) (d : Fin 128) :
    b57 j.val s (ix4 b i h d) = Cert.Gla.rows a0 a1 b j.val i (Cert.Gla.colK h d)
      * Ideal.exp (-Cert.Gla.decayAt (Cert.Gla.rows a0 a1 b) (fun r f => a2 (ix3 0 r f)) (fun f => a3 (ix2 0 f)) h j.val i d)
      * Ideal.exp (Cert.Gla.decayAt (Cert.Gla.rows a0 a1 b) (fun r f => a2 (ix3 0 r f)) (fun f => a3 (ix2 0 f)) h j.val 63 d) := by
  rw [keyEnd_at, key_at, row o j b, dec o j b, dec o j b, mul_assoc]
  exact congrArg (_ * ·) (Cert.Gla.exp_split (Cert.Gla.gateSum_last_le _ _ _ i) (Cert.Gla.gateSum_nonpos _ _ _ i))

/-- The state after the step. -/
theorem stateNext (hs : ∀ d e, s.main_v11_6 (ix4 b h d e) = Cert.Gla.stateAfter a0 a1 a2 a3 b h j.val e d) (d : Fin 128) (e : Fin 256) :
    b90 j.val s (ix4 b h d e) = Cert.Gla.stateAfter a0 a1 a2 a3 b h (j.val + 1) e d := by
  rw [state_at, hs, dec o j b]
  refine congrArg₂ (· + ·) (mul_comm _ _) (Finset.sum_congr rfl fun x _ => ?_)
  rw [keyEnd o j b h x d, val_at, row o j b]
  exact mul_comm _ _

/-- The step's output. -/
theorem outNext (hs : ∀ d e, s.main_v11_6 (ix4 b h d e) = Cert.Gla.stateAfter a0 a1 a2 a3 b h j.val e d) (i : Fin 64) (e : Fin 256) :
    b120 j.val s (ix3 b i (Cert.Gla.hv h e)) = Cert.Gla.result a0 a1 a2 a3 a4 a5 a6 b h j.val i e := by
  rw [normed_at, o.normG]
  unfold Cert.Gla.result Cert.Gla.outRow
  have e1 : (fun x => b92 j.val s (ix4 b i h x)) = Cert.Gla.headRow
      (fun i' d => Cert.Gla.rows a0 a1 b j.val i' (Cert.Gla.colQ h d) * Ideal.ofBits .f32 1035273459#32)
      (fun i' d => Cert.Gla.rows a0 a1 b j.val i' (Cert.Gla.colK h d))
      (Cert.Gla.decayAt (Cert.Gla.rows a0 a1 b) (fun r f => a2 (ix3 0 r f)) (fun f => a3 (ix2 0 f)) h j.val)
      (fun i' e'' => Cert.Gla.rows a0 a1 b j.val i' (Cert.Gla.colV h e'')) (fun i' e'' => Cert.Gla.rest a5 a6 b j.val i' (Cert.Gla.hv h e''))
      (Cert.Gla.scan (Cert.Gla.rows a0 a1 b) (fun r f => a2 (ix3 0 r f)) (fun f => a3 (ix2 0 f)) h j.val) i := by
    funext x
    unfold Cert.Gla.headRow
    rw [head_at, within_at, across_at, rest_at, restRow o j b]
    refine congrArg (· + _) (congrArg₂ (· + ·) (Finset.sum_congr rfl fun y _ => ?_) (Finset.sum_congr rfl fun d _ => ?_))
    · rw [val_at, row o j b, masked_at, mul_comm]
      refine congrArg (· * _) (if_congr Iff.rfl ?_ rfl)
      rw [score_at]
      refine Finset.sum_congr rfl fun d _ => ?_
      rw [qdec_at, keyOff_at, key_at, row o j b, row o j b, dec o j b, dec o j b]
    · rw [hs, qdec_at, row o j b, dec o j b, mul_comm]
      rfl
  have e2 : (fun x => b4 j.val s (ix3 b i (Cert.Gla.colR h x))) = fun x => Cert.Gla.rows a0 a1 b j.val i (Cert.Gla.colR h x) :=
    funext fun x => row o j b i _
  rw [e1, e2]
end

/-! The scan. -/

variable (m : (ℓ : Loc nD τ sig) → Buf (Elt Ideal) ℓ) (c : Dev nD)

abbrev Args (s : State Ideal) : Prop :=
  Of (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) s

theorem args : ∀ k, Args m c (stateAt m c k)
  | 0 => ⟨rfl, rfl, rfl, rfl, rfl⟩
  | k + 1 => ⟨(args k).proj, (args k).rest, (args k).gateW, (args k).gateB, (args k).normG⟩

theorem zeroState (y : S2x4x128x256.Idx) : K_main_v5 (F := Ideal) y = 0 := by
  pointwise [K_main_v5, K_main_cst]

theorem states (b : Fin 2) (h : Fin 4) : ∀ k ≤ 132, ∀ d e, (stateAt m c k).main_v11_6 (ix4 b h d e)
    = Cert.Gla.stateAfter (m ((c.tc : Thread nD τ).loc main_arg0)) (m ((c.tc : Thread nD τ).loc main_arg1)) (m ((c.tc : Thread nD τ).loc main_arg2))
        (m ((c.tc : Thread nD τ).loc main_arg3)) b h k e d
  | 0, _, d, e => zeroState (ix4 b h d e)
  | k + 1, hk, d, e => stateNext (args m c k) ⟨k, hk⟩ b h (states b h k (Nat.le_of_succ_le hk)) d e

theorem outs (b : Fin 2) (i : Fin 64) (h : Fin 4) (e : Fin 256) : ∀ k ≤ 132, ∀ j : Fin 132, j.val < k →
    (stateAt m c k).main_v11_7 (ix4 j b i (Cert.Gla.hv h e))
    = Cert.Gla.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) b h j.val i e
  | 0, _, j, hj => absurd hj (Nat.not_lt_zero _)
  | k + 1, hk, j, hj => by
    refine (put_at ⟨k, hk⟩ (stateAt m c k) j b i (Cert.Gla.hv h e)).trans ?_
    by_cases e1 : j = ⟨k, hk⟩
    · rw [if_pos e1]
      subst e1
      exact outNext (args m c k) ⟨k, hk⟩ b h (states m c b h k (Nat.le_of_succ_le hk)) i e
    · rw [if_neg e1]
      exact outs b i h e k (Nat.le_of_succ_le hk) j (by have : j.val ≠ k := fun x => e1 (Fin.ext x); omega)

theorem hv_split (f : Fin 1024) : Cert.Gla.hv ⟨f.val / 256, Nat.div_lt_of_lt_mul f.isLt⟩ ⟨f.val % 256, Nat.mod_lt _ (by decide)⟩ = f :=
  Fin.ext (Nat.div_add_mod' f.val 256)

theorem ctxTerm : R_main_v15 (stateAt m c 132)
    = Cert.Gla.specCtx (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  funext y
  idx_vars y
  rw [ctxResult_at]
  have := outs m c y0 ⟨y1.val % 64, Nat.mod_lt _ (by decide)⟩ ⟨y2.val / 256, Nat.div_lt_of_lt_mul y2.isLt⟩ ⟨y2.val % 256, Nat.mod_lt _ (by decide)⟩
    132 (le_refl _) ⟨y1.val / 64, by omega⟩ (by show y1.val / 64 < 132; omega)
  rw [hv_split] at this
  exact this
theorem latTerm : R_main_v17 (stateAt m c 132)
    = Cert.Gla.specLat (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  funext y
  idx_vars y
  rw [latResult_at]
  have := outs m c y0 ⟨(256 + y1.val) % 64, Nat.mod_lt _ (by decide)⟩ ⟨y2.val / 256, Nat.div_lt_of_lt_mul y2.isLt⟩ ⟨y2.val % 256, Nat.mod_lt _ (by decide)⟩
    132 (le_refl _) ⟨(256 + y1.val) / 64, by omega⟩ (by show (256 + y1.val) / 64 < 132; omega)
  rw [hv_split] at this
  exact this

end Cert.ReferenceIdeal.Scan

end
-- ==== Proof.ClaimGla.lean ====
/- The claims about the attention call. -/
module

public import proofs.«01_k».proof.Defs
public import proofs.«01_k».proof.Proof.GlaValue
public import proofs.«01_k».proof.Proof.GlaRefValue
public import proofs.«01_k».proof.Proof.GlaPrintedFrame
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Gla

open Cert.KernelIdeal Cert.KernelIdeal.Gen

/-- The run leaves the two results at the scan's rows, and the arguments as launched. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15_0) = Cert.Gla.specCtx (a0 m c) (a1 m c) (a2 m c) (a3 m c) (a4 m c) (a5 m c) (a6 m c)
      ∧ r.2.mem ((c.tc : Thread nD τ).loc main_v15_1) = Cert.Gla.specLat (a0 m c) (a1 m c) (a2 m c) (a3 m c) (a4 m c) (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h.1 c).1 15 |>.trans (final_ctx m c), (h.1 c).1 16 |>.trans (final_lat m c), h.2.1 c⟩)
    (θ_run_and (run_main m ρ) (frame_gla m ρ))

end Cert.KernelIdeal.Gla

namespace Cert.Proof

/-- The printed kernel runs, keeps its arguments and ends quiescent. -/
theorem quiescent_Kernel : Cert.quiescent_Kernel := fun m ρ _ => Cert.Kernel.Gla.frame_gla m ρ

/-- So does its idealization. -/
theorem quiescent_KernelIdeal : Cert.quiescent_KernelIdeal := fun m ρ _ => Cert.KernelIdeal.Gla.frame_gla m ρ

/-- And the reference. -/
theorem quiescent_ReferenceIdeal : Cert.quiescent_ReferenceIdeal := by
  intro m g _
  exact (θ_run Cert.ReferenceIdeal.defs _ _).mono
    (fun r h => ⟨fun c => (h c).2.2, sem_eq_zero_of_no_sems (by decide) r.2⟩) (Cert.ReferenceIdeal.Scan.run_scan m g)

/-- Idealizing the kernel changes no rounding that a claim here speaks of. -/
theorem preserves_Kernel : Cert.preserves_Kernel_KernelIdeal := trivial

/-- On the same arguments the kernel and the reference compute the same two arrays. -/
theorem algebraic_Kernel : Cert.algebraic_KernelIdeal_ReferenceIdeal := by
  pair_intro
  · run_from Cert.KernelIdeal.Gla.run_value m g
  · have h := (θ_run Cert.ReferenceIdeal.defs _ _).mono
      (fun r h => show ∀ c, _ ∧ _ ∧ _ from fun c => ⟨(h c).1.trans (Cert.ReferenceIdeal.Scan.ctxTerm m' c),
        (h c).2.1.trans (Cert.ReferenceIdeal.Scan.latTerm m' c), (h c).2.2⟩)
      (Cert.ReferenceIdeal.Scan.run_scan m' g')
    run_from h

end Cert.Proof

end
-- ==== Proof.LayerSpec.lean ====
/- The two formulas the dense calls of the layer share: the root-mean-square scale of a row of 2048 numbers, and the
   row so scaled, weighted and modulated. Both over the extended reals, the floats of the idealized programs. -/
module

public import Idealize.ShloMosaic.Lib.Pipeline.ValueKit
public import Idealize.ShloMosaic.Lib.Pointwise

@[expose] public section

noncomputable section

open Idealize.ShloMosaic

namespace Cert.Layer

/-- `1 / sqrt (mean of the squares + ε)` of a row of 2048 numbers. -/
def rstd (x : Fin 2048 → EReal) : EReal :=
  Ideal.rsqrt (Ideal.div (∑ k, x k * x k) (Ideal.ofBits .f32 0x45000000#32) + Ideal.ofBits .f32 0x358637BD#32)

/-- Entry `k` of the normalised and modulated row: `x · rstd x · g · (1 + s) + sh`. -/
def modulated (x g s sh : Fin 2048 → EReal) (k : Fin 2048) : EReal := x k * rstd x * (g k * (1 + s k)) + sh k

end Cert.Layer

end
-- ==== Proof.FfnStep.lean ====
/- The feed-forward call: what one grid step computes from its blocks, element by element. -/
module

public import proofs.«01_k».proof.Proof.Gen.FfnIdeal.Frame
public import proofs.«01_k».proof.Proof.LayerSpec
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

/-- The normalised tile at row `r`, column `k`. -/
theorem pay3_at (x0 : FVec Ideal S1024x2048 .f32) (x1 x2 : FVec Ideal S1x1x2048 .f32) (j : S1024x2048.Idx) :
    k0_pay3 (F := Ideal) x0 x1 x2 j
      = x0 (ix2 (j 0) (j 1)) * Layer.rstd (fun k => x0 (ix2 (j 0) k)) * x1 (ix3 0 0 (j 1)) + x2 (ix3 0 0 (j 1)) := by
  idx_vars j
  pointwise [k0_pay3, Layer.rstd]

/-- The eight rows before the tile, normalised. -/
theorem pay6_at (x0 : FVec Ideal S8x2048 .f32) (x1 x2 : FVec Ideal S1x1x2048 .f32) (j : S8x2048.Idx) :
    k0_pay6 (F := Ideal) (k0_pay4 x0) (k0_pay5 x1) x2 j
      = x0 (ix2 (j 0) (j 1)) * Layer.rstd (fun k => x0 (ix2 (j 0) k)) * x1 (ix3 0 0 (j 1)) + x2 (ix3 0 0 (j 1)) := by
  idx_vars j
  pointwise [k0_pay6, k0_pay4, k0_pay5, Layer.rstd]

/-- The eight rows after the tile, normalised. -/
theorem pay7_at (x0 : FVec Ideal S8x2048 .f32) (x1 x2 : FVec Ideal S1x1x2048 .f32) (j : S8x2048.Idx) :
    k0_pay7 (F := Ideal) x0 x1 x2 j
      = x0 (ix2 (j 0) (j 1)) * Layer.rstd (fun k => x0 (ix2 (j 0) k)) * x1 (ix3 0 0 (j 1)) + x2 (ix3 0 0 (j 1)) := by
  idx_vars j
  pointwise [k0_pay7, Layer.rstd]

/-- The accumulator begins at zero. -/
theorem pay8_at (j : S1024x2048.Idx) : k0_pay8 (F := Ideal) j = 0 := by
  idx_vars j
  pointwise [k0_pay8]

/-- The last step's result: the row plus the modulation times the accumulated row. -/
theorem pay2_at (x : FVec Ideal S1024x2048 .f32) (g : FVec Ideal S1x1x2048 .f32) (o : FVec Ideal S1024x2048 .f32) (j : S1024x2048.Idx) :
    k0_pay2 (F := Ideal) x g o j = x (ix2 (j 0) (j 1)) + g (ix3 0 0 (j 1)) * o (ix2 (j 0) (j 1)) := by
  idx_vars j
  pointwise [k0_pay2]

/-- The right half of the accumulator after a step. -/
theorem pay1_at (a : FVec Ideal S1024x512 .bf16) (o : FVec Ideal S1024x1024 .f32) (w : FVec Ideal S512x1024 .bf16) (j : S1024x1024.Idx) :
    k0_pay1 (F := Ideal) a o w j = o (ix2 (j 0) (j 1)) + ∑ k : Fin 512, a (ix2 (j 0) k) * w (ix2 k (j 1)) := by
  idx_vars j
  pointwise [k0_pay1]

/-- The left half of the accumulator after a step: the same formula. -/
theorem pay16_at (v6 v12 : FVec Ideal S1024x512 .f32) (v24 : FVec Ideal S8x512 .f32) (v26 : BitVec 1) (v27 : IVec S1024x512 32)
    (v30 v46 v49 v53 v57 : FVec Ideal S1x512 .f32) (o : FVec Ideal S1024x1024 .f32) (w : FVec Ideal S512x1024 .bf16) (j : S1024x1024.Idx) :
    k0_pay16 (F := Ideal) v6 v12 v24 v26 v27 v30 v46 v49 v53 v57 o w j
      = o (ix2 (j 0) (j 1)) + ∑ k : Fin 512, k0_pay15 (F := Ideal) v6 v12 v24 v26 v27 v30 v46 v49 v53 v57 (ix2 (j 0) k) * w (ix2 k (j 1)) := by
  idx_vars j
  pointwise [k0_pay16]

/-- The number of the row tile within its batch, as the body computes it from the grid. -/
def posOf (i : grid0.Coords) : BitVec 32 :=
  Scalar.select
    (Scalar.andi
      (Scalar.xori (Scalar.cmpi .slt (Scalar.remsi (BitVec.ofNat 32 (i 0).val) 8#32) 0#32) 0#1)
      (Scalar.cmpi .ne (Scalar.remsi (BitVec.ofNat 32 (i 0).val) 8#32) 0#32))
    (Scalar.addi (Scalar.remsi (BitVec.ofNat 32 (i 0).val) 8#32) 8#32)
    (Scalar.remsi (BitVec.ofNat 32 (i 0).val) 8#32)

/-- It is the tile's number modulo 8. -/
theorem posOf_eq (i : grid0.Coords) : posOf i = BitVec.ofNat 32 ((i 0).val % 8) := by
  have h : ∀ q : Fin 16, Scalar.select
    (Scalar.andi
      (Scalar.xori (Scalar.cmpi .slt (Scalar.remsi (BitVec.ofNat 32 q.val) 8#32) 0#32) 0#1)
      (Scalar.cmpi .ne (Scalar.remsi (BitVec.ofNat 32 q.val) 8#32) 0#32))
    (Scalar.addi (Scalar.remsi (BitVec.ofNat 32 q.val) 8#32) 8#32)
    (Scalar.remsi (BitVec.ofNat 32 q.val) 8#32) = BitVec.ofNat 32 (q.val % 8) := by decide +kernel
  exact h (i 0)

/-- The activation of a step: the first halves convolved along the rows, gated, times the second halves. -/
def act (i : grid0.Coords) (h : FVec Ideal S1024x2048 .bf16) (hh : FVec Ideal S16x2048 .bf16) (wa wb : FVec Ideal S1x2048x512 .bf16)
    (cw : FVec Ideal S3x512 .f32) (cb : FVec Ideal S1x512 .f32) : FVec Ideal S1024x512 .bf16 :=
  k0_pay15 (F := Ideal) (k0_pay10 wa h) (k0_pay12 h wb) (k0_pay13 wa hh) (Scalar.cmpi .eq (posOf i) 7#32)
    (iota Kind.tc S1024x512 32 [0] iota_S1024x512_d0_w32) (k0_pay14 (F := Ideal) i wa hh)
    (View.ld cw (Rect.unit (s := S3x512) ![0, 0] S1x512.size inb_S3x512_S1x512_0_0))
    (View.ld cw (Rect.unit (s := S3x512) ![1, 0] S1x512.size inb_S3x512_S1x512_1_0))
    (View.ld cw (Rect.unit (s := S3x512) ![2, 0] S1x512.size inb_S3x512_S1x512_2_0)) cb

/-- A row of the first halves. -/
def aRow {n : ℕ} (h : Fin n → Fin 2048 → EReal) (w : FVec Ideal S1x2048x512 .bf16) (r : Fin n) (j : Fin 512) : EReal :=
  ∑ k : Fin 2048, h r k * w (ix3 0 k j)

/-- A choice on the equality of two words of small numbers is a choice on the numbers' equality. -/
theorem select_eq (n c : ℕ) (hn : n < 1024) (hc : c < 1024) (a b : EReal) :
    Scalar.select (Scalar.cmpi .eq (BitVec.ofNat 32 n) (BitVec.ofNat 32 c)) a b = if n = c then a else b := by
  by_cases h : n = c
  · subst h
    rw [if_pos rfl]
    simp [Scalar.select, Scalar.cmpi, IntOp.cmpi]
  · rw [if_neg h]
    have hb : BitVec.ofNat 32 n ≠ BitVec.ofNat 32 c := fun e => h (by
      have := congrArg BitVec.toNat e
      simp only [BitVec.toNat_ofNat] at this
      omega)
    have hf : (BitVec.ofNat 32 n == BitVec.ofNat 32 c) = false := beq_eq_false_iff_ne.mpr hb
    simp [Scalar.select, Scalar.cmpi, IntOp.cmpi, hf]

/-- The row before row `r` of the first halves, the batch's first row having zeros before it. -/
def rowBefore (i : ℕ) (h : FVec Ideal S1024x2048 .bf16) (hh : FVec Ideal S16x2048 .bf16) (w : FVec Ideal S1x2048x512 .bf16)
    (r : Fin 1024) (j : Fin 512) : EReal :=
  if r.val = 0 then if i % 8 = 0 then 0 else aRow (fun r k => hh (ix2 r k)) w 7 j
  else aRow (fun r k => h (ix2 r k)) w ⟨r.val - 1, by omega⟩ j

/-- The row after row `r` of the first halves, the batch's last row having zeros after it. -/
def rowAfter (i : ℕ) (h : FVec Ideal S1024x2048 .bf16) (hh : FVec Ideal S16x2048 .bf16) (w : FVec Ideal S1x2048x512 .bf16)
    (r : Fin 1024) (j : Fin 512) : EReal :=
  if hr : r.val = 1023 then if i % 8 = 7 then 0 else aRow (fun r k => hh (ix2 r k)) w 8 j
  else aRow (fun r k => h (ix2 r k)) w ⟨r.val + 1, by omega⟩ j

/-- The convolution along the rows: three taps and the bias. -/
def convAt (i : ℕ) (h : FVec Ideal S1024x2048 .bf16) (hh : FVec Ideal S16x2048 .bf16) (wa : FVec Ideal S1x2048x512 .bf16)
    (cw : FVec Ideal S3x512 .f32) (cb : FVec Ideal S1x512 .f32) (r : Fin 1024) (j : Fin 512) : EReal :=
  rowBefore i h hh wa r j * cw (ix2 0 j) + aRow (fun r k => h (ix2 r k)) wa r j * cw (ix2 1 j)
    + rowAfter i h hh wa r j * cw (ix2 2 j) + cb (ix2 0 j)

theorem pay14_at (i : grid0.Coords) (wa : FVec Ideal S1x2048x512 .bf16) (hh : FVec Ideal S16x2048 .bf16) (j : Fin 512) :
    k0_pay14 (F := Ideal) i wa hh (ix2 0 j) = if (i 0).val % 8 = 0 then 0 else aRow (fun r k => hh (ix2 r k)) wa 7 j := by
  refine Eq.trans ?_ (select_eq ((i 0).val % 8) 0 (by omega) (by omega) 0 (aRow (fun r k => hh (ix2 r k)) wa 7 j))
  rw [← posOf_eq]
  unfold posOf aRow
  pointwise [k0_pay14, k0_pay11, k0_pay9]
  rfl

/-- The activation of a step at row `r`, column `j`. -/
theorem act_at (i : grid0.Coords) (h : FVec Ideal S1024x2048 .bf16) (hh : FVec Ideal S16x2048 .bf16) (wa wb : FVec Ideal S1x2048x512 .bf16)
    (cw : FVec Ideal S3x512 .f32) (cb : FVec Ideal S1x512 .f32) (r : Fin 1024) (j : Fin 512) :
    act i h hh wa wb cw cb (ix2 r j)
      = convAt (i 0).val h hh wa cw cb r j * Ideal.logistic (convAt (i 0).val h hh wa cw cb r j)
        * aRow (fun r k => h (ix2 r k)) wb r j := by
  have e1 : Scalar.select (IntOp.cmpi .eq (BitVec.ofNat 32 r.val) 0#32) (k0_pay14 (F := Ideal) i wa hh (ix2 0 j))
      (∑ x : Fin 2048, h (ix2 ⟨(r.val + 1024 - 1) % 1024, by omega⟩ x) * wa (ix3 0 x j)) = rowBefore (i 0).val h hh wa r j := by
    refine (select_eq r.val 0 r.isLt (by omega) _ _).trans ?_
    unfold rowBefore
    by_cases hr : r.val = 0
    · rw [if_pos hr, if_pos hr, pay14_at]
    · rw [if_neg hr, if_neg hr]
      have e : (r.val + 1024 - 1) % 1024 = r.val - 1 := by omega
      unfold aRow
      simp only [e]
  have e2 : Scalar.select (IntOp.cmpi .eq (BitVec.ofNat 32 r.val) 1023#32)
      (Scalar.select (Scalar.cmpi .eq (BitVec.ofNat 32 ((i 0).val % 8)) 7#32) 0 (∑ x : Fin 2048, hh (ix2 8 x) * wa (ix3 0 x j)))
      (∑ x : Fin 2048, h (ix2 ⟨(r.val + 1024 - 1023) % 1024, by omega⟩ x) * wa (ix3 0 x j)) = rowAfter (i 0).val h hh wa r j := by
    refine (select_eq r.val 1023 r.isLt (by omega) _ _).trans ?_
    unfold rowAfter
    by_cases hr : r.val = 1023
    · rw [if_pos hr, dif_pos hr]
      exact select_eq ((i 0).val % 8) 7 (by omega) (by omega) _ _
    · rw [if_neg hr, dif_neg hr]
      have e : (r.val + 1024 - 1023) % 1024 = r.val + 1 := by omega
      unfold aRow
      simp only [e]
  unfold convAt
  rw [← e1, ← e2]
  unfold act
  rw [posOf_eq]
  unfold aRow
  pointwise [k0_pay15, k0_pay10, k0_pay9, k0_pay12, k0_pay13, k0_pay11]

end Cert.FfnIdeal.Value

end
-- ==== Proof.FfnStores.lean ====
/- The feed-forward call: what the two stores of a step leave in a buffer, element by element. -/
module

public import proofs.«01_k».proof.Proof.Gen.FfnIdeal.Frame
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

section

variable {Val : EltTy → Type} [∀ e, Nonempty (Val e)] {s : Shape} {e : EltTy}

/-- Under the last store, at an index that lies at `x` of its rectangle, is the stored element. -/
theorem stored_hit {off size : Fin s.rank → ℕ} (inb : ∀ a, off a + size a ≤ s.size a) (w : (Rect.unit off size inb).shape.Idx → Val e)
    (L : List (View.Piece Val s e)) (y : s.Idx) (x : (Rect.unit off size inb).shape.Idx) (hx : ∀ a, (y a).val = off a + (x a).val) :
    View.canon (⟨Rect.unit off size inb, w⟩ :: L) y = w x := by
  have hy : (Rect.unit off size inb).emb x = y := funext fun a => Fin.ext (by
    show off a + 1 * (x a).val = (y a).val
    rw [hx a, Nat.one_mul])
  rw [← hy]
  exact View.canon_cons_emb _ w L x

/-- Before or behind the last store's rectangle on some axis is what the earlier stores left. -/
theorem stored_skip {off size : Fin s.rank → ℕ} (inb : ∀ a, off a + size a ≤ s.size a) (w : (Rect.unit off size inb).shape.Idx → Val e)
    (L : List (View.Piece Val s e)) (y : s.Idx) (a : Fin s.rank) (ha : (y a).val < off a ∨ off a + size a ≤ (y a).val) :
    View.canon (⟨Rect.unit off size inb, w⟩ :: L) y = View.canon L y := by
  refine View.canon_cons_of_not_mem _ _ ?_
  show y ∉ (Rect.unit off size inb).set
  rw [Rect.mem_set_unit]
  exact fun h => by have := h a; omega

/-- A load through a rectangle reads the element its index lies at. -/
theorem loaded_at {off size : Fin s.rank → ℕ} (inb : ∀ a, off a + size a ≤ s.size a) (X : s.Idx → Val e) (y : s.Idx)
    (x : (Rect.unit off size inb).shape.Idx) (hx : ∀ a, (y a).val = off a + (x a).val) :
    View.ld X (Rect.unit off size inb) x = X y := by
  refine congrArg X (funext fun a => Fin.ext ?_)
  show off a + 1 * (x a).val = (y a).val
  rw [hx a, Nat.one_mul]

/-- A load through a rectangle after stores reads, at its index, what they left there. -/
theorem readCov_at {sig : RefSig} {κ : Kind} {sp : Space} (v : View sig κ sp s e) {off size : Fin s.rank → ℕ}
    (inb : ∀ a, off a + size a ≤ s.size a) (L : List (View.Piece Val s e)) (y : s.Idx)
    (x : (Rect.unit off size inb).shape.Idx) (hx : ∀ a, (y a).val = off a + (x a).val) :
    v.readCov L (Rect.unit off size inb).toLoadRect x = View.canon L y := by
  rw [View.readCov_eq_canon']
  exact loaded_at inb _ y x hx

/-- A load of the whole of a buffer reads what its stores left. -/
theorem readCov_whole {sig : RefSig} {κ : Kind} {sp : Space}
    (v : View sig κ sp s e) {off : Fin s.rank → ℕ} (inb : ∀ a, off a + s.size a ≤ s.size a) (L : List (View.Piece Val s e))
    (h0 : ∀ a, off a = 0) : v.readCov L (Rect.unit off (no_index s.size) inb).toLoadRect = View.canon L := by
  rw [View.readCov_eq_canon']
  exact View.ld_unit_lit inb _ h0

end

/-- Two stores, the left and the right half of the columns, over whatever came before. -/
theorem halves (w1 w0 : FVec Ideal S1024x1024 .f32) (L : List (View.Piece (Elt Ideal) S1024x2048 .f32)) (r : Fin 1024) (j : Fin 2048) :
    View.canon (Val := Elt Ideal) (s := S1024x2048) (e := .f32)
        (⟨Rect.unit (s := S1024x2048) ![0, 1024] S1024x1024.size inb_S1024x2048_S1024x1024_0_1024, w1⟩
          :: ⟨Rect.unit (s := S1024x2048) ![0, 0] S1024x1024.size inb_S1024x2048_S1024x1024_0_0, w0⟩ :: L) (ix2 r j)
      = if h : j.val < 1024 then w0 (ix2 r ⟨j.val, h⟩) else w1 (ix2 r ⟨j.val - 1024, by omega⟩) := by
  by_cases h : j.val < 1024
  · rw [dif_pos h]
    refine (stored_skip _ _ _ _ (1 : Fin 2) (Or.inl h)).trans ?_
    exact stored_hit _ _ _ _ _ (Fin.forall_fin_two.mpr ⟨(Nat.zero_add _).symm, (Nat.zero_add _).symm⟩)
  · rw [dif_neg h]
    exact stored_hit _ _ _ _ _ (Fin.forall_fin_two.mpr ⟨(Nat.zero_add _).symm, by show j.val = 1024 + (j.val - 1024); omega⟩)

/-- Two stores, rows 0–7 and rows 8–15 of the rows around the tile: what row 7 then holds. -/
theorem row7 (w1 w0 : FVec Ideal S8x2048 .bf16) (k : Fin 2048) :
    View.canon (Val := Elt Ideal) (s := S16x2048) (e := .bf16)
        [⟨Rect.unit (s := S16x2048) ![8, 0] S8x2048.size inb_S16x2048_S8x2048_8_0, w1⟩,
          ⟨Rect.unit (s := S16x2048) ![0, 0] S8x2048.size inb_S16x2048_S8x2048_0_0, w0⟩] (ix2 7 k) = w0 (ix2 7 k) := by
  refine (stored_skip _ _ _ _ (0 : Fin 2) (Or.inl (by show 7 < 8; decide))).trans ?_
  exact stored_hit _ _ _ _ _ (Fin.forall_fin_two.mpr ⟨(Nat.zero_add _).symm, (Nat.zero_add _).symm⟩)

/-- And what row 8 then holds. -/
theorem row8 (w1 w0 : FVec Ideal S8x2048 .bf16) (k : Fin 2048) :
    View.canon (Val := Elt Ideal) (s := S16x2048) (e := .bf16)
        [⟨Rect.unit (s := S16x2048) ![8, 0] S8x2048.size inb_S16x2048_S8x2048_8_0, w1⟩,
          ⟨Rect.unit (s := S16x2048) ![0, 0] S8x2048.size inb_S16x2048_S8x2048_0_0, w0⟩] (ix2 8 k) = w1 (ix2 0 k) := by
  exact stored_hit _ _ _ _ _ (Fin.forall_fin_two.mpr ⟨rfl, (Nat.zero_add _).symm⟩)

end Cert.FfnIdeal.Value

end
-- ==== Proof.FfnAcc.lean ====
/- The feed-forward call: what its accumulator and its kept rows hold after each grid step. -/
module

public import proofs.«01_k».proof.Proof.FfnStep
public import proofs.«01_k».proof.Proof.FfnStores
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- What a step adds to the accumulator at row `r`, column `j`: the hidden tile's row times the column of the step's weights. -/
def added (i : grid0.Coords) (h : FVec Ideal S1024x2048 .bf16) (hh : FVec Ideal S16x2048 .bf16) (wa wb : FVec Ideal S1x2048x512 .bf16)
    (cw : FVec Ideal S3x512 .f32) (cb : FVec Ideal S1x512 .f32) (wd : FVec Ideal S512x2048 .bf16) (r : Fin 1024) (j : Fin 2048) : EReal :=
  ∑ k : Fin 512, act i h hh wa wb cw cb (ix2 r k) * wd (ix2 k j)

/-- The two stores of a step leave, at row `r` and column `j`, what was accumulated before plus what the step adds. -/
theorem acc_at (i : grid0.Coords) (h : FVec Ideal S1024x2048 .bf16) (hh : FVec Ideal S16x2048 .bf16) (wa wb : FVec Ideal S1x2048x512 .bf16)
    (cw : FVec Ideal S3x512 .f32) (cb : FVec Ideal S1x512 .f32) (wd : FVec Ideal S512x2048 .bf16) (o1 o0 : FVec Ideal S1024x1024 .f32)
    (L : List (View.Piece (Elt Ideal) S1024x2048 .f32)) (r : Fin 1024) (j : Fin 2048) :
    View.canon (Val := Elt Ideal) (s := S1024x2048) (e := .f32)
        (⟨Rect.unit (s := S1024x2048) ![0, 1024] S1024x1024.size inb_S1024x2048_S1024x1024_0_1024,
            k0_pay1 (F := Ideal) (act i h hh wa wb cw cb) o1
              (View.ld wd (Rect.unit (s := S512x2048) ![0, 1024] S512x1024.size inb_S512x2048_S512x1024_0_1024))⟩
          :: ⟨Rect.unit (s := S1024x2048) ![0, 0] S1024x1024.size inb_S1024x2048_S1024x1024_0_0,
            k0_pay16 (F := Ideal) (k0_pay10 wa h) (k0_pay12 h wb) (k0_pay13 wa hh) (Scalar.cmpi .eq (posOf i) 7#32)
              (iota Kind.tc S1024x512 32 [0] iota_S1024x512_d0_w32) (k0_pay14 (F := Ideal) i wa hh)
              (View.ld cw (Rect.unit (s := S3x512) ![0, 0] S1x512.size inb_S3x512_S1x512_0_0))
              (View.ld cw (Rect.unit (s := S3x512) ![1, 0] S1x512.size inb_S3x512_S1x512_1_0))
              (View.ld cw (Rect.unit (s := S3x512) ![2, 0] S1x512.size inb_S3x512_S1x512_2_0)) cb o0
              (View.ld wd (Rect.unit (s := S512x2048) ![0, 0] S512x1024.size inb_S512x2048_S512x1024_0_0))⟩ :: L) (ix2 r j)
      = (if h : j.val < 1024 then o0 (ix2 r ⟨j.val, h⟩) else o1 (ix2 r ⟨j.val - 1024, by omega⟩)) + added i h hh wa wb cw cb wd r j := by
  refine (halves _ _ _ _ _).trans ?_
  unfold added
  by_cases hj : j.val < 1024
  · rw [dif_pos hj, dif_pos hj, pay16_at]
    exact congrArg _ (Finset.sum_congr rfl fun k _ => congrArg (act i h hh wa wb cw cb (ix2 r k) * ·)
      (loaded_at (Val := Elt Ideal) (s := S512x2048) (e := .bf16) _ wd (ix2 k j) _ (Fin.forall_fin_two.mpr ⟨(Nat.zero_add _).symm, (Nat.zero_add _).symm⟩)))
  · rw [dif_neg hj, dif_neg hj, pay1_at]
    exact congrArg _ (Finset.sum_congr rfl fun k _ => congrArg (act i h hh wa wb cw cb (ix2 r k) * ·)
      (loaded_at (Val := Elt Ideal) (s := S512x2048) (e := .bf16) _ wd (ix2 k j) _ (Fin.forall_fin_two.mpr ⟨(Nat.zero_add _).symm, by show j.val = 1024 + (j.val - 1024); omega⟩)))

/-- What was accumulated before, read by halves. -/
theorem half_ld (o : FVec Ideal S1024x2048 .f32) (r : Fin 1024) (j : Fin 2048) :
    (if h : j.val < 1024 then
        (View.ld (Val := Elt Ideal) (e' := .f32) o (Rect.unit (s := S1024x2048) ![0, 0] S1024x1024.size inb_S1024x2048_S1024x1024_0_0) : FVec Ideal S1024x1024 .f32)
          (ix2 r ⟨j.val, h⟩)
      else (View.ld (Val := Elt Ideal) (e' := .f32) o (Rect.unit (s := S1024x2048) ![0, 1024] S1024x1024.size inb_S1024x2048_S1024x1024_0_1024) : FVec Ideal S1024x1024 .f32)
        (ix2 r ⟨j.val - 1024, by omega⟩)) = o (ix2 r j) := by
  by_cases hj : j.val < 1024
  · rw [dif_pos hj]
    exact loaded_at (Val := Elt Ideal) (s := S1024x2048) (e := .f32) _ o (ix2 r j) _ (Fin.forall_fin_two.mpr ⟨(Nat.zero_add _).symm, (Nat.zero_add _).symm⟩)
  · rw [dif_neg hj]
    exact loaded_at (Val := Elt Ideal) (s := S1024x2048) (e := .f32) _ o (ix2 r j) _ (Fin.forall_fin_two.mpr ⟨(Nat.zero_add _).symm, by show j.val = 1024 + (j.val - 1024); omega⟩)

/-- A finished element: the input plus the modulation times the accumulated sum. -/
def finished (x : FVec Ideal S1024x2048 .f32) (g : FVec Ideal S1x1x2048 .f32) (o : EReal) (r : Fin 1024) (j : Fin 2048) : EReal :=
  x (ix2 r j) + g (ix3 0 0 j) * o

/-- A step that is neither a tile's first nor its last. -/
theorem stepB (c : Dev nD) (t : Fin cfg0.N) (h0 : ¬t.val % 11 = 0) (h1 : ¬t.val % 11 = 10) (r : Fin 1024) (j : Fin 2048) :
    (outsAt0 m c t.val t.isLt).1 (ix2 r j)
      = (outsAt0 m c (t.val - 1) (Nat.lt_of_le_of_lt (Nat.sub_le _ _) t.isLt)).1 (ix2 r j)
        + added (grid0.coords t) (outsAt0 m c t.val t.isLt).2.1 (outsAt0 m c t.val t.isLt).2.2 (iblk m c 5 t) (iblk m c 6 t)
            (iblk m c 7 t) (iblk m c 8 t) (iblk m c 9 t) r j := by
  rw [outsAt0_B m c t h0 h1]
  unfold sout0_B_0 sout0_B_1
  frame_out
  rw [(Memref.isWhole_whole cc0_scratch0).read_unread, (Memref.isWhole_whole cc0_scratch1).read_unread]
  refine (acc_at (grid0.coords t) _ _ (iblk m c 5 t) (iblk m c 6 t) (iblk m c 7 t) (iblk m c 8 t) (iblk m c 9 t) _ _ _ r j).trans ?_
  exact congrArg (· + _) (half_ld _ r j)

/-- A tile's last step: the finished row is added to the input. -/
theorem stepC (c : Dev nD) (t : Fin cfg0.N) (h0 : ¬ t.val % 11 = 0) (h1 : t.val % 11 = 10) (r : Fin 1024) (j : Fin 2048) :
    (outsAt0 m c t.val t.isLt).1 (ix2 r j)
      = finished (iblk m c 0 t) (iblk m c 10 t)
          ((outsAt0 m c (t.val - 1) (Nat.lt_of_le_of_lt (Nat.sub_le _ _) t.isLt)).1 (ix2 r j)
          + added (grid0.coords t) (outsAt0 m c t.val t.isLt).2.1 (outsAt0 m c t.val t.isLt).2.2 (iblk m c 5 t) (iblk m c 6 t)
            (iblk m c 7 t) (iblk m c 8 t) (iblk m c 9 t) r j) r j := by
  rw [outsAt0_C m c t h0 h1]
  unfold sout0_C_0 sout0_C_1
  frame_out
  rw [pay2_at, readCov_whole _ _ _ (by decide)]
  rw [(Memref.isWhole_whole cc0_scratch0).read_unread, (Memref.isWhole_whole cc0_scratch1).read_unread]
  refine congrArg (fun z => finished (iblk m c 0 t) (iblk m c 10 t) z r j) ?_
  refine (acc_at (grid0.coords t) _ _ (iblk m c 5 t) (iblk m c 6 t) (iblk m c 7 t) (iblk m c 8 t) (iblk m c 9 t) _ _ _ r j).trans ?_
  exact congrArg (· + _) (half_ld _ r j)

/-- A tile's first step: the accumulator begins at zero. -/
theorem stepA (c : Dev nD) (t : Fin cfg0.N) (h0 : t.val % 11 = 0) (h1 : ¬t.val % 11 = 10) (r : Fin 1024) (j : Fin 2048) :
    (outsAt0 m c t.val t.isLt).1 (ix2 r j)
      = 0 + added (grid0.coords t) (outsAt0 m c t.val t.isLt).2.1 (outsAt0 m c t.val t.isLt).2.2 (iblk m c 5 t) (iblk m c 6 t)
            (iblk m c 7 t) (iblk m c 8 t) (iblk m c 9 t) r j := by
  rw [outsAt0_A m c t h0 h1]
  frame_out
  rw [readCov_whole _ _ _ (by decide)]
  refine (acc_at (grid0.coords t) _ _ (iblk m c 5 t) (iblk m c 6 t) (iblk m c 7 t) (iblk m c 8 t) (iblk m c 9 t) _ _ _ r j).trans ?_
  refine congrArg (· + _) ?_
  by_cases hj : j.val < 1024
  · rw [dif_pos hj]
    refine (readCov_at _ _ _ (ix2 r j : S1024x2048.Idx) _ (Fin.forall_fin_two.mpr ⟨(Nat.zero_add _).symm, (Nat.zero_add _).symm⟩)).trans ?_
    refine (stored_hit _ _ _ _ (ix2 r j : S1024x2048.Idx) (Fin.forall_fin_two.mpr ⟨(Nat.zero_add _).symm, (Nat.zero_add _).symm⟩)).trans ?_
    exact pay8_at _
  · rw [dif_neg hj]
    refine (readCov_at _ _ _ (ix2 r j : S1024x2048.Idx) _
      (Fin.forall_fin_two.mpr ⟨(Nat.zero_add _).symm, by show j.val = 1024 + (j.val - 1024); omega⟩)).trans ?_
    refine (stored_skip _ _ _ _ (1 : Fin 2) (Or.inr (by show 0 + 1024 ≤ j.val; omega))).trans ?_
    refine (stored_hit _ _ _ _ (ix2 r j : S1024x2048.Idx) (Fin.forall_fin_two.mpr ⟨(Nat.zero_add _).symm, (Nat.zero_add _).symm⟩)).trans ?_
    exact pay8_at _

end Cert.FfnIdeal.Value

end
-- ==== Proof.FfnBlocks.lean ====
/- The feed-forward call: what it computes, and what the blocks of a grid step hold in terms of the arguments. -/
module

public import proofs.«01_k».proof.Proof.Gen.FfnIdeal.Frame
public import proofs.«01_k».proof.Proof.LayerSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- Row `r` of the normalised and modulated input (rows 0–8191 are the first batch's, the others the second's). -/
def hrow (x : FVec Ideal S2x8192x2048 .f32) (g : FVec Ideal S2048 .f32) (s sh : FVec Ideal S2x1x2048 .f32)
    (r : Fin 16384) (k : Fin 2048) : EReal :=
  Layer.modulated (fun k => x (ix3 ⟨r.val / 8192, by omega⟩ ⟨r.val % 8192, by omega⟩ k)) (fun k => g (ix1 k))
    (fun k => s (ix3 ⟨r.val / 8192, by omega⟩ 0 k)) (fun k => sh (ix3 ⟨r.val / 8192, by omega⟩ 0 k)) k

/-- The scale of batch `b`: the norm's weight times one plus the modulation. -/
def gsAt (g : FVec Ideal S2048 .f32) (s : FVec Ideal S2x1x2048 .f32) (b : Fin 2) (j : Fin 2048) : EReal :=
  g (ix1 j) * (1 + s (ix3 b 0 j))

/-- The up projection of a row at column `512 p + j` (the weights lie in 22 blocks of 512 columns). -/
def up (h : Fin 16384 → Fin 2048 → EReal) (w : FVec Ideal S22x2048x512 .bf16) (r : Fin 16384) (p : Fin 22) (j : Fin 512) : EReal :=
  ∑ k : Fin 2048, h r k * w (ix3 p k j)

/-- The three-tap convolution of the first half of the up projection along the rows of a batch, with a row of zeros
before the batch's first and after its last, at column `512 f + j` of row `r`. -/
def conv (h : Fin 16384 → Fin 2048 → EReal) (w : FVec Ideal S22x2048x512 .bf16) (cw : FVec Ideal S3x5632 .f32) (cb : FVec Ideal S5632 .f32)
    (r : Fin 16384) (f : Fin 11) (j : Fin 512) : EReal :=
  (if r.val % 8192 = 0 then 0 else up h w ⟨r.val - 1, by omega⟩ ⟨f.val, by omega⟩ j) * cw (ix2 0 ⟨f.val * 512 + j.val, by omega⟩)
    + up h w r ⟨f.val, by omega⟩ j * cw (ix2 1 ⟨f.val * 512 + j.val, by omega⟩)
    + (if hr : r.val % 8192 = 8191 then 0 else up h w ⟨r.val + 1, by omega⟩ ⟨f.val, by omega⟩ j) * cw (ix2 2 ⟨f.val * 512 + j.val, by omega⟩)
    + cb (ix1 ⟨f.val * 512 + j.val, by omega⟩)

/-- The hidden layer at column `512 f + j` of row `r`: the convolution times its logistic function, times the second half of
the up projection. -/
def hidden (h : Fin 16384 → Fin 2048 → EReal) (w : FVec Ideal S22x2048x512 .bf16) (cw : FVec Ideal S3x5632 .f32) (cb : FVec Ideal S5632 .f32)
    (r : Fin 16384) (f : Fin 11) (j : Fin 512) : EReal :=
  conv h w cw cb r f j * Ideal.logistic (conv h w cw cb r f j) * up h w r ⟨f.val + 11, by omega⟩ j

/-- The part of the down projection that comes from the hidden columns of block `f` (its remainder modulo 11). -/
def part (h : Fin 16384 → Fin 2048 → EReal) (w : FVec Ideal S22x2048x512 .bf16) (cw : FVec Ideal S3x5632 .f32) (cb : FVec Ideal S5632 .f32)
    (wd : FVec Ideal S5632x2048 .f32) (r : Fin 16384) (j : Fin 2048) (f : ℕ) : EReal :=
  ∑ k : Fin 512, hidden h w cw cb r ⟨f % 11, by omega⟩ k * wd (ix2 ⟨f % 11 * 512 + k.val, by omega⟩ j)

/-- Row `r`, column `j` of the result: the input plus the modulation times the down projection of the hidden layer. -/
def specAt (x : FVec Ideal S2x8192x2048 .f32) (g : FVec Ideal S2048 .f32) (s sh : FVec Ideal S2x1x2048 .f32)
    (w : FVec Ideal S22x2048x512 .bf16) (cw : FVec Ideal S3x5632 .f32) (cb : FVec Ideal S5632 .f32) (wd : FVec Ideal S5632x2048 .f32)
    (g2 : FVec Ideal S2x1x2048 .f32) (r : Fin 16384) (j : Fin 2048) : EReal :=
  x (ix3 ⟨r.val / 8192, by omega⟩ ⟨r.val % 8192, by omega⟩ j)
    + g2 (ix3 ⟨r.val / 8192, by omega⟩ 0 j)
      * ∑ q : Fin 5632, hidden (hrow x g s sh) w cw cb r ⟨q.val / 512, by omega⟩ ⟨q.val % 512, by omega⟩ * wd (ix2 q j)

/-- The whole result array. -/
def spec (x : FVec Ideal S2x8192x2048 .f32) (g : FVec Ideal S2048 .f32) (s sh : FVec Ideal S2x1x2048 .f32)
    (w : FVec Ideal S22x2048x512 .bf16) (cw : FVec Ideal S3x5632 .f32) (cb : FVec Ideal S5632 .f32) (wd : FVec Ideal S5632x2048 .f32)
    (g2 : FVec Ideal S2x1x2048 .f32) : FVec Ideal S16384x2048 .f32 := fun i => specAt x g s sh w cw cb wd g2 (i 0) (i 1)

/-- The block of every window at grid point `t` (16 row tiles, for each the 11 blocks of hidden columns). -/
theorem idx : ∀ t : Fin cfg0.N, win0_0.index t = ![t.val / 11, 0] ∧ win0_1.index t = ![t.val / 11 * 128 - 1, 0]
    ∧ win0_2.index t = ![min ((t.val / 11 + 1) * 128) 2047, 0] ∧ win0_3.index t = ![t.val / 88, 0, 0] ∧ win0_4.index t = ![t.val / 88, 0, 0]
    ∧ win0_5.index t = ![t.val % 11, 0, 0] ∧ win0_6.index t = ![t.val % 11 + 11, 0, 0] ∧ win0_7.index t = ![0, t.val % 11]
    ∧ win0_8.index t = ![0, t.val % 11] ∧ win0_9.index t = ![t.val % 11, 0] ∧ win0_10.index t = ![t.val / 88, 0, 0]
    ∧ win0_11.index t = ![t.val / 11, 0] :=
  (by decide +kernel : ∀ t : Fin grid0.N, _)

/-- The grid's first coordinate is the row tile. -/
theorem coords0 : ∀ t : Fin cfg0.N, ((grid0.coords t) 0).val = t.val / 11 := (by decide +kernel : ∀ t : Fin grid0.N, _)

/-- The rows as the kernel finds them: the argument with its two batches laid one after the other. -/
theorem entry0 (c : Dev nD) (r : Fin 16384) (j : Fin 2048) :
    (V m c main_v5 : FVec Ideal S16384x2048 .f32) (ix2 r j)
      = (m ((c : Thread nD τ).loc main_arg0) : FVec Ideal S2x8192x2048 .f32) (ix3 ⟨r.val / 8192, by omega⟩ ⟨r.val % 8192, by omega⟩ j) := by
  entry_read
  pointwise

/-- The scale as the kernel finds it: the norm's weight times one plus the modulation. -/
theorem gs_entry (c : Dev nD) (b : Fin 2) (j : Fin 2048) :
    (V m c main_v4 : FVec Ideal S2x1x2048 .f32) (ix3 b 0 j) = gsAt (m ((c : Thread nD τ).loc main_arg1)) (m ((c : Thread nD τ).loc main_arg2)) b j := by
  entry_read
  pointwise [gsAt]

/-- The convolution's bias as the kernel finds it: one row. -/
theorem cb_entry (c : Dev nD) (j : Fin 5632) :
    (V m c main_v7 : FVec Ideal S1x5632 .f32) (ix2 0 j) = (m ((c : Thread nD τ).loc main_arg6) : FVec Ideal S5632 .f32) (ix1 j) := by
  entry_read
  pointwise

/-- The down projection's weights as the kernel finds them: rounding changes nothing. -/
theorem wd_entry (c : Dev nD) (k : Fin 5632) (j : Fin 2048) :
    (V m c main_v6 : FVec Ideal S5632x2048 .bf16) (ix2 k j) = (m ((c : Thread nD τ).loc main_arg7) : FVec Ideal S5632x2048 .f32) (ix2 k j) := by
  entry_read
  pointwise

/-- The row tile. -/
theorem blk0 (c : Dev nD) (t : Fin cfg0.N) (ht : t.val < 176) (r : Fin 1024) (j : Fin 2048) :
    (iblk m c 0 t : FVec Ideal S1024x2048 .f32) (ix2 r j)
      = (m ((c : Thread nD τ).loc main_arg0) : FVec Ideal S2x8192x2048 .f32)
          (ix3 ⟨(t.val / 11 * 1024 + r.val) / 8192, by omega⟩ ⟨(t.val / 11 * 1024 + r.val) % 8192, by omega⟩ j) := by
  refine Eq.trans ?_ (entry0 m c ⟨t.val / 11 * 1024 + r.val, by omega⟩ j)
  blk_ext [iblk, idx t]

/-- The last of the eight rows before the tile, where there is one. -/
theorem blk1 (c : Dev nD) (t : Fin cfg0.N) (ht : t.val < 176) (h1 : 1 ≤ t.val / 11) (j : Fin 2048) :
    (iblk m c 1 t : FVec Ideal S8x2048 .f32) (ix2 7 j)
      = (m ((c : Thread nD τ).loc main_arg0) : FVec Ideal S2x8192x2048 .f32)
          (ix3 ⟨(t.val / 11 * 1024 - 1) / 8192, by omega⟩ ⟨(t.val / 11 * 1024 - 1) % 8192, by omega⟩ j) := by
  refine Eq.trans ?_ (entry0 m c ⟨t.val / 11 * 1024 - 1, by omega⟩ j)
  blk_ext [iblk, idx t]

/-- The first of the eight rows after the tile, where there is one. -/
theorem blk2 (c : Dev nD) (t : Fin cfg0.N) (ht : t.val < 176) (h1 : t.val / 11 < 15) (j : Fin 2048) :
    (iblk m c 2 t : FVec Ideal S8x2048 .f32) (ix2 0 j)
      = (m ((c : Thread nD τ).loc main_arg0) : FVec Ideal S2x8192x2048 .f32)
          (ix3 ⟨((t.val / 11 + 1) * 1024) / 8192, by omega⟩ ⟨((t.val / 11 + 1) * 1024) % 8192, by omega⟩ j) := by
  refine Eq.trans ?_ (entry0 m c ⟨(t.val / 11 + 1) * 1024, by omega⟩ j)
  blk_ext [iblk, idx t]

/-- The tile's scale. -/
theorem blk3 (c : Dev nD) (t : Fin cfg0.N) (ht : t.val < 176) (j : Fin 2048) :
    (iblk m c 3 t : FVec Ideal S1x1x2048 .f32) (ix3 0 0 j)
      = gsAt (m ((c : Thread nD τ).loc main_arg1)) (m ((c : Thread nD τ).loc main_arg2)) ⟨t.val / 88, by omega⟩ j := by
  refine Eq.trans ?_ (gs_entry m c ⟨t.val / 88, by omega⟩ j)
  blk_ext [iblk, idx t]

/-- The tile's shift. -/
theorem blk4 (c : Dev nD) (t : Fin cfg0.N) (ht : t.val < 176) (j : Fin 2048) :
    (iblk m c 4 t : FVec Ideal S1x1x2048 .f32) (ix3 0 0 j)
      = (m ((c : Thread nD τ).loc main_arg3) : FVec Ideal S2x1x2048 .f32) (ix3 ⟨t.val / 88, by omega⟩ 0 j) := by
  blk_ext [iblk, V_main_arg3, idx t]

/-- The step's block of the first half of the up projection's weights. -/
theorem blk5 (c : Dev nD) (t : Fin cfg0.N) (k : Fin 2048) (j : Fin 512) :
    (iblk m c 5 t : FVec Ideal S1x2048x512 .bf16) (ix3 0 k j)
      = (m ((c : Thread nD τ).loc main_arg4) : FVec Ideal S22x2048x512 .bf16) (ix3 ⟨t.val % 11, by omega⟩ k j) := by
  blk_ext [iblk, V_main_arg4, idx t]

/-- The step's block of the second half. -/
theorem blk6 (c : Dev nD) (t : Fin cfg0.N) (k : Fin 2048) (j : Fin 512) :
    (iblk m c 6 t : FVec Ideal S1x2048x512 .bf16) (ix3 0 k j)
      = (m ((c : Thread nD τ).loc main_arg4) : FVec Ideal S22x2048x512 .bf16) (ix3 ⟨t.val % 11 + 11, by omega⟩ k j) := by
  blk_ext [iblk, V_main_arg4, idx t]

/-- The step's taps. -/
theorem blk7 (c : Dev nD) (t : Fin cfg0.N) (i : Fin 3) (j : Fin 512) :
    (iblk m c 7 t : FVec Ideal S3x512 .f32) (ix2 i j)
      = (m ((c : Thread nD τ).loc main_arg5) : FVec Ideal S3x5632 .f32) (ix2 i ⟨t.val % 11 * 512 + j.val, by omega⟩) := by
  blk_ext [iblk, V_main_arg5, idx t]

/-- The step's part of the convolution's bias. -/
theorem blk8 (c : Dev nD) (t : Fin cfg0.N) (j : Fin 512) :
    (iblk m c 8 t : FVec Ideal S1x512 .f32) (ix2 0 j)
      = (m ((c : Thread nD τ).loc main_arg6) : FVec Ideal S5632 .f32) (ix1 ⟨t.val % 11 * 512 + j.val, by omega⟩) := by
  refine Eq.trans ?_ (cb_entry m c ⟨t.val % 11 * 512 + j.val, by omega⟩)
  blk_ext [iblk, idx t]

/-- The step's rows of the down projection's weights. -/
theorem blk9 (c : Dev nD) (t : Fin cfg0.N) (k : Fin 512) (j : Fin 2048) :
    (iblk m c 9 t : FVec Ideal S512x2048 .bf16) (ix2 k j)
      = (m ((c : Thread nD τ).loc main_arg7) : FVec Ideal S5632x2048 .f32) (ix2 ⟨t.val % 11 * 512 + k.val, by omega⟩ j) := by
  refine Eq.trans ?_ (wd_entry m c ⟨t.val % 11 * 512 + k.val, by omega⟩ j)
  blk_ext [iblk, idx t]

/-- The tile's modulation of the result. -/
theorem blk10 (c : Dev nD) (t : Fin cfg0.N) (ht : t.val < 176) (j : Fin 2048) :
    (iblk m c 10 t : FVec Ideal S1x1x2048 .f32) (ix3 0 0 j)
      = (m ((c : Thread nD τ).loc main_arg8) : FVec Ideal S2x1x2048 .f32) (ix3 ⟨t.val / 88, by omega⟩ 0 j) := by
  blk_ext [iblk, V_main_arg8, idx t]

end Cert.FfnIdeal.Value

end
-- ==== Proof.FfnValue.lean ====
/- The feed-forward call: its result array, element by element. -/
module

public import proofs.«01_k».proof.Proof.FfnAcc
public import proofs.«01_k».proof.Proof.FfnBlocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- A normalised element, read from a row `x'`, the scale and the shift of batch `b`. -/
theorem hrow_of (x : FVec Ideal S2x8192x2048 .f32) (g : FVec Ideal S2048 .f32) (s sh : FVec Ideal S2x1x2048 .f32) (x' : Fin 2048 → EReal)
    (q : Fin 16384) (b : Fin 2) (hx : ∀ k, x' k = x (ix3 ⟨q.val / 8192, by omega⟩ ⟨q.val % 8192, by omega⟩ k))
    (hb : b.val = q.val / 8192) (k : Fin 2048) :
    x' k * Layer.rstd x' * gsAt g s b k + sh (ix3 b 0 k) = hrow x g s sh q k := by
  obtain ⟨b, hb'⟩ := b
  subst hb
  obtain rfl : x' = fun k => x (ix3 ⟨q.val / 8192, by omega⟩ ⟨q.val % 8192, by omega⟩ k) := funext hx
  rfl

/-- The kept rows of a tile's first step are the tile's normalised rows. -/
theorem kept_first (c : Dev nD) (t : Fin cfg0.N) (ht : t.val < 176) (h0 : t.val % 11 = 0) (r : Fin 1024) (k : Fin 2048) :
    (outsAt0 m c t.val t.isLt).2.1 (ix2 r k) = (hrow (m ((c : Thread nD τ).loc main_arg0)) (m ((c : Thread nD τ).loc main_arg1)) (m ((c : Thread nD τ).loc main_arg2)) (m ((c : Thread nD τ).loc main_arg3))) ⟨t.val / 11 * 1024 + r.val, by omega⟩ k := by
  rw [outsAt0_A m c t h0 (by omega)]
  frame_out
  rw [pay3_at]
  refine Eq.trans ?_ (hrow_of (m ((c : Thread nD τ).loc main_arg0)) (m ((c : Thread nD τ).loc main_arg1)) (m ((c : Thread nD τ).loc main_arg2)) (m ((c : Thread nD τ).loc main_arg3)) (fun k => (iblk m c 0 t : FVec Ideal S1024x2048 .f32) (ix2 r k)) _
    ⟨t.val / 88, by omega⟩ (fun k => blk0 m c t ht r k) (by show t.val / 88 = (t.val / 11 * 1024 + r.val) / 8192; omega) k)
  exact congrArg₂ (· + ·) (congrArg (_ * ·) (blk3 m c t ht k)) (blk4 m c t ht k)

/-- The row kept from before the tile, unless the tile is its batch's first. -/
theorem before_first (c : Dev nD) (t : Fin cfg0.N) (ht : t.val < 176) (h0 : t.val % 11 = 0) (h1 : t.val / 11 % 8 ≠ 0) (k : Fin 2048) :
    (outsAt0 m c t.val t.isLt).2.2 (ix2 7 k) = (hrow (m ((c : Thread nD τ).loc main_arg0)) (m ((c : Thread nD τ).loc main_arg1)) (m ((c : Thread nD τ).loc main_arg2)) (m ((c : Thread nD τ).loc main_arg3))) ⟨t.val / 11 * 1024 - 1, by omega⟩ k := by
  rw [outsAt0_A m c t h0 (by omega)]
  frame_out
  refine (row7 _ _ k).trans ?_
  rw [pay6_at]
  refine Eq.trans ?_ (hrow_of (m ((c : Thread nD τ).loc main_arg0)) (m ((c : Thread nD τ).loc main_arg1)) (m ((c : Thread nD τ).loc main_arg2)) (m ((c : Thread nD τ).loc main_arg3)) (fun k => (iblk m c 1 t : FVec Ideal S8x2048 .f32) (ix2 7 k)) _
    ⟨t.val / 88, by omega⟩ (fun k => blk1 m c t ht (by omega) k) (by show t.val / 88 = (t.val / 11 * 1024 - 1) / 8192; omega) k)
  exact congrArg₂ (· + ·) (congrArg (_ * ·) (blk3 m c t ht k)) (blk4 m c t ht k)

/-- The row kept from after the tile, unless the tile is its batch's last. -/
theorem after_first (c : Dev nD) (t : Fin cfg0.N) (ht : t.val < 176) (h0 : t.val % 11 = 0) (h1 : t.val / 11 % 8 ≠ 7) (k : Fin 2048) :
    (outsAt0 m c t.val t.isLt).2.2 (ix2 8 k) = (hrow (m ((c : Thread nD τ).loc main_arg0)) (m ((c : Thread nD τ).loc main_arg1)) (m ((c : Thread nD τ).loc main_arg2)) (m ((c : Thread nD τ).loc main_arg3))) ⟨(t.val / 11 + 1) * 1024, by omega⟩ k := by
  rw [outsAt0_A m c t h0 (by omega)]
  frame_out
  refine (row8 _ _ k).trans ?_
  rw [pay7_at]
  refine Eq.trans ?_ (hrow_of (m ((c : Thread nD τ).loc main_arg0)) (m ((c : Thread nD τ).loc main_arg1)) (m ((c : Thread nD τ).loc main_arg2)) (m ((c : Thread nD τ).loc main_arg3)) (fun k => (iblk m c 2 t : FVec Ideal S8x2048 .f32) (ix2 0 k)) _
    ⟨t.val / 88, by omega⟩ (fun k => blk2 m c t ht (by omega) k) (by show t.val / 88 = ((t.val / 11 + 1) * 1024) / 8192; omega) k)
  exact congrArg₂ (· + ·) (congrArg (_ * ·) (blk3 m c t ht k)) (blk4 m c t ht k)

/-- A later step of the tile keeps what the step before it kept. -/
theorem kept_succ (c : Dev nD) (n : ℕ) (hn : n + 1 < cfg0.N) (h0 : ¬(n + 1) % 11 = 0) :
    (outsAt0 m c (n + 1) hn).2.1 = (outsAt0 m c n (Nat.lt_of_succ_lt hn)).2.1
      ∧ (outsAt0 m c (n + 1) hn).2.2 = (outsAt0 m c n (Nat.lt_of_succ_lt hn)).2.2 := by
  by_cases h1 : (n + 1) % 11 = 10
  · rw [outsAt0_C m c ⟨n + 1, hn⟩ h0 h1]
    exact ⟨rfl, rfl⟩
  · rw [outsAt0_B m c ⟨n + 1, hn⟩ h0 h1]
    exact ⟨rfl, rfl⟩

/-- What is kept for the tile, at every one of its steps: its rows, and the rows before and after it within the batch. -/
theorem kept_at (c : Dev nD) (n : ℕ) (hn : n < cfg0.N) (hN : n < 176) :
    (∀ (r : Fin 1024) (k : Fin 2048), (outsAt0 m c n hn).2.1 (ix2 r k) = (hrow (m ((c : Thread nD τ).loc main_arg0)) (m ((c : Thread nD τ).loc main_arg1)) (m ((c : Thread nD τ).loc main_arg2)) (m ((c : Thread nD τ).loc main_arg3))) ⟨n / 11 * 1024 + r.val, by omega⟩ k)
      ∧ (∀ (h1 : n / 11 % 8 ≠ 0) (k : Fin 2048), (outsAt0 m c n hn).2.2 (ix2 7 k) = (hrow (m ((c : Thread nD τ).loc main_arg0)) (m ((c : Thread nD τ).loc main_arg1)) (m ((c : Thread nD τ).loc main_arg2)) (m ((c : Thread nD τ).loc main_arg3))) ⟨n / 11 * 1024 - 1, by omega⟩ k)
      ∧ ∀ (h1 : n / 11 % 8 ≠ 7) (k : Fin 2048), (outsAt0 m c n hn).2.2 (ix2 8 k) = (hrow (m ((c : Thread nD τ).loc main_arg0)) (m ((c : Thread nD τ).loc main_arg1)) (m ((c : Thread nD τ).loc main_arg2)) (m ((c : Thread nD τ).loc main_arg3))) ⟨(n / 11 + 1) * 1024, by omega⟩ k := by
  induction n with
  | zero =>
    exact ⟨kept_first m c ⟨0, hn⟩ hN (Nat.zero_mod _), before_first m c ⟨0, hn⟩ hN (Nat.zero_mod _), after_first m c ⟨0, hn⟩ hN (Nat.zero_mod _)⟩
  | succ n ih =>
    by_cases h0 : (n + 1) % 11 = 0
    · exact ⟨kept_first m c ⟨n + 1, hn⟩ hN h0, before_first m c ⟨n + 1, hn⟩ hN h0, after_first m c ⟨n + 1, hn⟩ hN h0⟩
    · have e : (n + 1) / 11 = n / 11 := by omega
      have ih' := ih (Nat.lt_of_succ_lt hn) (by omega)
      rw [(kept_succ m c n hn h0).1, (kept_succ m c n hn h0).2]
      simp only [e]
      exact ih'

/-- What a step adds is its block's part of the down projection. -/
theorem added_eq (c : Dev nD) (t : Fin cfg0.N) (ht : t.val < 176) (r : Fin 1024) (j : Fin 2048) :
    added (grid0.coords t) (outsAt0 m c t.val t.isLt).2.1 (outsAt0 m c t.val t.isLt).2.2 (iblk m c 5 t) (iblk m c 6 t)
        (iblk m c 7 t) (iblk m c 8 t) (iblk m c 9 t) r j
      = part (hrow (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) ⟨t.val / 11 * 1024 + r.val, by omega⟩ j t.val := by
  obtain ⟨kh, k7, k8⟩ := kept_at m c t.val t.isLt ht
  have hup : ∀ (q : Fin 1024) (k : Fin 512), aRow (fun r k => (outsAt0 m c t.val t.isLt).2.1 (ix2 r k)) (iblk m c 5 t) q k
      = up (hrow (m ((c : Thread nD τ).loc main_arg0)) (m ((c : Thread nD τ).loc main_arg1)) (m ((c : Thread nD τ).loc main_arg2)) (m ((c : Thread nD τ).loc main_arg3))) (m ((c : Thread nD τ).loc main_arg4)) ⟨t.val / 11 * 1024 + q.val, by omega⟩ ⟨t.val % 11, by omega⟩ k := fun q k =>
    Finset.sum_congr rfl fun p _ => congrArg₂ (· * ·) (kh q p) (blk5 m c t p k)
  have hupb : ∀ (q : Fin 1024) (k : Fin 512), aRow (fun r k => (outsAt0 m c t.val t.isLt).2.1 (ix2 r k)) (iblk m c 6 t) q k
      = up (hrow (m ((c : Thread nD τ).loc main_arg0)) (m ((c : Thread nD τ).loc main_arg1)) (m ((c : Thread nD τ).loc main_arg2)) (m ((c : Thread nD τ).loc main_arg3))) (m ((c : Thread nD τ).loc main_arg4)) ⟨t.val / 11 * 1024 + q.val, by omega⟩ ⟨t.val % 11 + 11, by omega⟩ k := fun q k =>
    Finset.sum_congr rfl fun p _ => congrArg₂ (· * ·) (kh q p) (blk6 m c t p k)
  have hb : ∀ k : Fin 512, rowBefore (t.val / 11) (outsAt0 m c t.val t.isLt).2.1 (outsAt0 m c t.val t.isLt).2.2 (iblk m c 5 t) r k
      = if (t.val / 11 * 1024 + r.val) % 8192 = 0 then 0
        else up (hrow (m ((c : Thread nD τ).loc main_arg0)) (m ((c : Thread nD τ).loc main_arg1)) (m ((c : Thread nD τ).loc main_arg2)) (m ((c : Thread nD τ).loc main_arg3))) (m ((c : Thread nD τ).loc main_arg4)) ⟨t.val / 11 * 1024 + r.val - 1, by omega⟩ ⟨t.val % 11, by omega⟩ k := by
    intro k
    unfold rowBefore
    by_cases hr : r.val = 0
    · rw [if_pos hr]
      by_cases h8 : t.val / 11 % 8 = 0
      · rw [if_pos h8, if_pos (by omega)]
      · rw [if_neg h8, if_neg (by omega)]
        have e : (⟨t.val / 11 * 1024 + r.val - 1, by omega⟩ : Fin 16384) = ⟨t.val / 11 * 1024 - 1, by omega⟩ := Fin.ext (by show _ = _; simp only []; omega)
        rw [e]
        exact Finset.sum_congr rfl fun p _ => congrArg₂ (· * ·) (k7 h8 p) (blk5 m c t p k)
    · rw [if_neg hr, if_neg (by omega), hup]
      refine congrArg (fun q => up _ _ q _ k) (Fin.ext ?_)
      show t.val / 11 * 1024 + (r.val - 1) = t.val / 11 * 1024 + r.val - 1
      omega
  have ha : ∀ k : Fin 512, rowAfter (t.val / 11) (outsAt0 m c t.val t.isLt).2.1 (outsAt0 m c t.val t.isLt).2.2 (iblk m c 5 t) r k
      = if hr : (t.val / 11 * 1024 + r.val) % 8192 = 8191 then 0
        else up (hrow (m ((c : Thread nD τ).loc main_arg0)) (m ((c : Thread nD τ).loc main_arg1)) (m ((c : Thread nD τ).loc main_arg2)) (m ((c : Thread nD τ).loc main_arg3))) (m ((c : Thread nD τ).loc main_arg4)) ⟨t.val / 11 * 1024 + r.val + 1, by omega⟩ ⟨t.val % 11, by omega⟩ k := by
    intro k
    unfold rowAfter
    by_cases hr : r.val = 1023
    · rw [dif_pos hr]
      by_cases h8 : t.val / 11 % 8 = 7
      · rw [if_pos h8, dif_pos (by omega)]
      · rw [if_neg h8, dif_neg (by omega)]
        have e : (⟨t.val / 11 * 1024 + r.val + 1, by omega⟩ : Fin 16384) = ⟨(t.val / 11 + 1) * 1024, by omega⟩ := Fin.ext (by show _ = _; simp only []; omega)
        rw [e]
        exact Finset.sum_congr rfl fun p _ => congrArg₂ (· * ·) (k8 h8 p) (blk5 m c t p k)
    · rw [dif_neg hr, dif_neg (by omega), hup]
      exact congrArg (fun q => up _ _ q _ k) (Fin.ext (by show t.val / 11 * 1024 + (r.val + 1) = t.val / 11 * 1024 + r.val + 1; omega))
  have hc : ∀ k : Fin 512, convAt (t.val / 11) (outsAt0 m c t.val t.isLt).2.1 (outsAt0 m c t.val t.isLt).2.2 (iblk m c 5 t) (iblk m c 7 t) (iblk m c 8 t) r k
      = conv (hrow (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) ⟨t.val / 11 * 1024 + r.val, by omega⟩ ⟨t.val % 11, by omega⟩ k := fun k =>
    congrArg₂ (· + ·) (congrArg₂ (· + ·) (congrArg₂ (· + ·) (congrArg₂ (· * ·) (hb k) (blk7 m c t 0 k))
      (congrArg₂ (· * ·) (hup r k) (blk7 m c t 1 k))) (congrArg₂ (· * ·) (ha k) (blk7 m c t 2 k))) (blk8 m c t k)
  refine Finset.sum_congr rfl fun k _ => ?_
  rw [act_at, coords0, hc, hupb]
  exact congrArg (_ * ·) (blk9 m c t k j)

/-- The accumulator after a step that is not its tile's last: the parts of the blocks so far. -/
theorem acc_upto (c : Dev nD) (n : ℕ) (hn : n < cfg0.N) (hN : n < 176) (h1 : ¬n % 11 = 10) (r : Fin 1024) (j : Fin 2048) :
    (outsAt0 m c n hn).1 (ix2 r j)
      = ∑ f ∈ Finset.range (n % 11 + 1), part (hrow (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) ⟨n / 11 * 1024 + r.val, by omega⟩ j f := by
  induction n with
  | zero =>
    refine (stepA m c ⟨0, hn⟩ (Nat.zero_mod _) h1 r j).trans ?_
    rw [added_eq m c ⟨0, hn⟩ hN, Finset.sum_range_one, zero_add]
  | succ n ih =>
    have hp : ∀ q, part (hrow (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) q j (n + 1) = part (hrow (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) q j ((n + 1) % 11) := by
      intro q
      unfold part
      simp only [Nat.mod_mod]
    by_cases h0 : (n + 1) % 11 = 0
    · refine (stepA m c ⟨n + 1, hn⟩ h0 h1 r j).trans ?_
      rw [added_eq m c ⟨n + 1, hn⟩ hN, zero_add, h0, zero_add, Finset.sum_range_one]
      refine (hp _).trans ?_
      rw [h0]
    · refine (stepB m c ⟨n + 1, hn⟩ h0 h1 r j).trans ?_
      have e : (n + 1) / 11 = n / 11 := by omega
      have e' : (n + 1) % 11 = n % 11 + 1 := by omega
      rw [added_eq m c ⟨n + 1, hn⟩ hN, Finset.sum_range_succ]
      refine congrArg₂ (· + ·) ?_ (hp _)
      refine (ih (Nat.lt_of_succ_lt hn) (by omega) (by omega)).trans ?_
      rw [e']
      simp only [e]

/-- All the blocks' parts together are the whole down projection. -/
theorem parts_sum (h : Fin 16384 → Fin 2048 → EReal) (w : FVec Ideal S22x2048x512 .bf16) (cw : FVec Ideal S3x5632 .f32) (cb : FVec Ideal S5632 .f32)
    (wd : FVec Ideal S5632x2048 .f32) (r : Fin 16384) (j : Fin 2048) :
    ∑ f ∈ Finset.range 11, part h w cw cb wd r j f
      = ∑ q : Fin 5632, hidden h w cw cb r ⟨q.val / 512, by omega⟩ ⟨q.val % 512, by omega⟩ * wd (ix2 q j) := by
  rw [Finset.sum_range]
  unfold part
  rw [← Fintype.sum_prod_type']
  refine Fintype.sum_equiv (finProdFinEquiv (m := 11) (n := 512)) _ _ fun p => ?_
  obtain ⟨f, k⟩ := p
  have e1 : (512 * f.val + k.val) / 512 = f.val := by omega
  have e2 : (512 * f.val + k.val) % 512 = k.val := by omega
  have e3 : f.val % 11 = f.val := by omega
  have e4 : f.val * 512 + k.val = k.val + 512 * f.val := by omega
  have e5 : (k.val + 512 * f.val) / 512 = f.val := by omega
  have e6 : (k.val + 512 * f.val) % 512 = k.val := by omega
  simp only [e3, e4, finProdFinEquiv_apply_val, e5, e6, Fin.eta]
  rfl

/-- A tile's finished element. -/
theorem last_at (c : Dev nD) (t : Fin cfg0.N) (ht : t.val < 176) (h1 : t.val % 11 = 10) (r : Fin 1024) (j : Fin 2048) :
    (outsAt0 m c t.val t.isLt).1 (ix2 r j) = specAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨t.val / 11 * 1024 + r.val, by omega⟩ j := by
  refine (stepC m c t (by omega) h1 r j).trans ?_
  have e1 : (t.val - 1) / 11 = t.val / 11 := by omega
  have e2 : (t.val - 1) % 11 = 9 := by omega
  have hs : (outsAt0 m c (t.val - 1) (Nat.lt_of_le_of_lt (Nat.sub_le _ _) t.isLt)).1 (ix2 r j)
        + added (grid0.coords t) (outsAt0 m c t.val t.isLt).2.1 (outsAt0 m c t.val t.isLt).2.2 (iblk m c 5 t) (iblk m c 6 t)
            (iblk m c 7 t) (iblk m c 8 t) (iblk m c 9 t) r j
      = ∑ f ∈ Finset.range 11, part (hrow (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) ⟨t.val / 11 * 1024 + r.val, by omega⟩ j f := by
    have hp : part (hrow (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) ⟨t.val / 11 * 1024 + r.val, by omega⟩ j t.val
        = part (hrow (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7)) ⟨t.val / 11 * 1024 + r.val, by omega⟩ j 10 := by
      unfold part
      simp only [h1]
    rw [acc_upto m c (t.val - 1) _ (by omega) (by omega), added_eq m c t ht, Finset.sum_range_succ _ 10, hp, e2]
    simp only [e1]
  rw [hs, parts_sum]
  have e88 : (⟨(t.val / 11 * 1024 + r.val) / 8192, by omega⟩ : Fin 2) = ⟨t.val / 88, by omega⟩ := Fin.ext (by show _ = _; simp only []; omega)
  unfold specAt
  refine congrArg₂ (· + ·) (blk0 m c t ht r j) (congrArg (· * _) ?_)
  refine (blk10 m c t ht j).trans ?_
  exact congrArg (fun q => ((m ((c : Thread nD τ).loc main_arg8)) : FVec Ideal S2x1x2048 .f32) (ix3 q 0 j)) e88.symm

/-- What a tile's last step stores at block index `y` is `spec` at the row and column `y` sits at. -/
theorem point (c : Dev nD) (t : Fin cfg0.N) (h1 : t.val % 11 = 10) (y : S1024x2048.Idx) :
    (outsAt0 m c t.val t.isLt).1 y = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb y) := by
  have ht : t.val < 176 := lt_of_lt_of_eq t.isLt N_0
  idx_vars y
  have he : ((cfg0.win 11).blk t).view.emb (ix2 y0 y1)
      = (ix2 ⟨t.val / 11 * 1024 + y0.val, by omega⟩ y1 : S16384x2048.Idx) := by
    blk_ext [idx t]
  rw [he]
  exact last_at m c t ht h1 y0 y1

/-- Only a tile's last step writes the result back. -/
theorem flush_last : ∀ t : Fin cfg0.N, (cfg0.win 11).flush t = true → t.val % 11 = 10 :=
  (by decide +kernel : ∀ t : Fin grid0.N, _)

/-- The result array after the run is `spec` of the argument arrays. -/
theorem final (c : Dev nD) : (dats m 0 c).arrAt 11 (cfgs 0).N = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  have h1 := flush_last t hf
  blk_simp; rw [after0_11]
  exact point m c t h1 y

end Cert.FfnIdeal.Value

end
-- ==== Proof.FfnRefValue.lean ====
/- The feed-forward call's reference: its result array is the same function of the arguments as the kernel's. -/
module

public import proofs.«01_k».proof.Proof.FfnBlocks
public import proofs.«01_k».proof.Proof.Gen.FfnRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnRefIdeal.Value

open Cert.FfnRefIdeal Cert.FfnRefIdeal.Gen

/-- The normalised and modulated input. -/
def normed (x : FVec Ideal S2x8192x2048 .f32) (g : FVec Ideal S2048 .f32) (s sh : FVec Ideal S2x1x2048 .f32) : FVec Ideal S2x8192x2048 .f32 :=
  addf (mulf (mulf (mulf x (broadcastInDim S2x8192x2048 ![0, 1, 2] bcast_S2x8192x1_S2x8192x2048_0_1_2 (Host.rsqrt (addf (Host.divf (broadcastInDim
    S2x8192x1 ![0, 1] bcast_S2x8192_S2x8192x1_0_1 (Host.reduceAdd (mulf x x) (constant S_ .f32 0x00000000#32) reducesTo_S2x8192x2048_S2x8192_d2 h_S_))
    (broadcastInDim S2x8192x1 ![] bcast_S_S2x8192x1 (constant S_ .f32 0x45000000#32))) (broadcastInDim S2x8192x1 ![] bcast_S_S2x8192x1 (constant S_
    .f32 0x358637BD#32)))))) (broadcastInDim S2x8192x2048 ![0, 1, 2] bcast_S1x1x2048_S2x8192x2048_0_1_2 (broadcastInDim S1x1x2048 ![2]
    bcast_S2048_S1x1x2048_2 g))) (broadcastInDim S2x8192x2048 ![0, 1, 2] bcast_S2x1x2048_S2x8192x2048_0_1_2 (addf (broadcastInDim S2x1x2048 ![]
    bcast_S_S2x1x2048 (constant S_ .f32 0x3F800000#32)) s))) (broadcastInDim S2x8192x2048 ![0, 1, 2] bcast_S2x1x2048_S2x8192x2048_0_1_2 sh)

/-- The up projection. -/
def upped (h : FVec Ideal S2x8192x2048 .f32) (w : FVec Ideal S22x2048x512 .bf16) : FVec Ideal S2x8192x11264 .f32 :=
  Host.dotGeneral dot_S2x8192x2048_S2048x11264_S2x8192x11264_2_0_01_1_n_n none h (shapeCast _ (transpose S2048x22x512 [1, 0, 2] (extf .f32 w
    bitsLt_bf16_f32) transposes_S22x2048x512_S2048x22x512_1_0_2) shapeCasts_S2048x22x512_S2048x11264)

/-- Its first half with a row of zeros before and after each batch. -/
def padded (u : FVec Ideal S2x8192x11264 .f32) : FVec Ideal S2x8194x5632 .f32 :=
  pad S2x8194x5632 ![0, 1, 0] ![0, 1, 0] ![0, 0, 0] (extractStridedSlice S2x8192x5632 ![0, 0, 0] u slices_S2x8192x11264_S2x8192x5632_0_0_0) (sitofp
    .f32 (constantI S_ 32 0#32)) pads_S2x8192x5632_S2x8194x5632_000_110_000 h_S_

/-- The three-tap convolution. -/
def convolved (p : FVec Ideal S2x8194x5632 .f32) (cw : FVec Ideal S3x5632 .f32) (cb : FVec Ideal S5632 .f32) : FVec Ideal S2x8192x5632 .f32 :=
  addf (addf (addf (mulf (extractStridedSlice S2x8192x5632 ![0, 0, 0] p slices_S2x8194x5632_S2x8192x5632_0_0_0) (broadcastInDim S2x8192x5632 ![0, 1, 2]
    bcast_S1x1x5632_S2x8192x5632_0_1_2 (broadcastInDim S1x1x5632 ![2] bcast_S5632_S1x1x5632_2 (shapeCast _ (extractStridedSlice S1x5632 ![0, 0] cw
    slices_S3x5632_S1x5632_0_0) shapeCasts_S1x5632_S5632)))) (mulf (extractStridedSlice S2x8192x5632 ![0, 1, 0] p
    slices_S2x8194x5632_S2x8192x5632_0_1_0) (broadcastInDim S2x8192x5632 ![0, 1, 2] bcast_S1x1x5632_S2x8192x5632_0_1_2 (broadcastInDim S1x1x5632 ![2]
    bcast_S5632_S1x1x5632_2 (shapeCast _ (extractStridedSlice S1x5632 ![1, 0] cw slices_S3x5632_S1x5632_1_0) shapeCasts_S1x5632_S5632))))) (mulf
    (extractStridedSlice S2x8192x5632 ![0, 2, 0] p slices_S2x8194x5632_S2x8192x5632_0_2_0) (broadcastInDim S2x8192x5632 ![0, 1, 2]
    bcast_S1x1x5632_S2x8192x5632_0_1_2 (broadcastInDim S1x1x5632 ![2] bcast_S5632_S1x1x5632_2 (shapeCast _ (extractStridedSlice S1x5632 ![2, 0] cw
    slices_S3x5632_S1x5632_2_0) shapeCasts_S1x5632_S5632))))) (broadcastInDim S2x8192x5632 ![0, 1, 2] bcast_S1x1x5632_S2x8192x5632_0_1_2
    (broadcastInDim S1x1x5632 ![2] bcast_S5632_S1x1x5632_2 cb))

/-- The result. -/
def finished (x : FVec Ideal S2x8192x2048 .f32) (u : FVec Ideal S2x8192x11264 .f32) (a : FVec Ideal S2x8192x5632 .f32)
    (wd : FVec Ideal S5632x2048 .f32) (g2 : FVec Ideal S2x1x2048 .f32) : FVec Ideal S16384x2048 .f32 :=
  shapeCast _ (addf x (mulf (broadcastInDim S2x8192x2048 ![0, 1, 2] bcast_S2x1x2048_S2x8192x2048_0_1_2 g2) (Host.dotGeneral
    dot_S2x8192x5632_S5632x2048_S2x8192x2048_2_0_01_1_n_n none (mulf (mulf a (Host.divf (broadcastInDim S2x8192x5632 ![] bcast_S_S2x8192x5632
    (constant S_ .f32 0x3F800000#32)) (addf (broadcastInDim S2x8192x5632 ![] bcast_S_S2x8192x5632 (constant S_ .f32 0x3F800000#32)) (Host.exp
    (Host.negf a))))) (extractStridedSlice S2x8192x5632 ![0, 0, 5632] u slices_S2x8192x11264_S2x8192x5632_0_0_5632)) wd)))
    shapeCasts_S2x8192x2048_S16384x2048

/-- The reference's composed term in these pieces. -/
theorem term_pieces (m : (ℓ : Loc nD τ sig) → Buf (Elt Ideal) ℓ) (c : Dev nD) :
    res_out0 m c = finished (m ((c.tc : Thread nD τ).loc main_arg0)) (upped (normed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      (convolved (padded (upped (normed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (m ((c.tc : Thread nD τ).loc main_arg5)) (m ((c.tc : Thread nD τ).loc main_arg6))) (m ((c.tc : Thread nD τ).loc main_arg7)) (m ((c.tc : Thread nD τ).loc main_arg8)) := rfl

theorem normed_at (x : FVec Ideal S2x8192x2048 .f32) (g : FVec Ideal S2048 .f32) (s sh : FVec Ideal S2x1x2048 .f32)
    (b : Fin 2) (t : Fin 8192) (k : Fin 2048) :
    normed x g s sh (ix3 b t k) = x (ix3 b t k) * Layer.rstd (fun k => x (ix3 b t k)) * g (ix1 k) * (1 + s (ix3 b 0 k)) + sh (ix3 b 0 k) := by
  unfold normed
  pointwise [Layer.rstd]

theorem upped_at (h : FVec Ideal S2x8192x2048 .f32) (w : FVec Ideal S22x2048x512 .bf16) (b : Fin 2) (t : Fin 8192) (q : Fin 11264) :
    upped h w (ix3 b t q) = ∑ k : Fin 2048, h (ix3 b t k) * w (ix3 ⟨q.val / 512, by omega⟩ k ⟨q.val % 512, by omega⟩) := by
  unfold upped
  pointwise

/-- A row of the padded half: zeros at both ends, and between them the rows of the up projection. -/
theorem padded_at (u : FVec Ideal S2x8192x11264 .f32) (b : Fin 2) (t : Fin 8194) (q : Fin 5632) :
    padded u (ix3 b t q) = if h : 1 ≤ t.val ∧ t.val - 1 < 8192 then u (ix3 b ⟨t.val - 1, by omega⟩ ⟨q.val, by omega⟩) else 0 := by
  unfold padded
  pointwise
  have e : (FloatOps.sitofp .f32 0#32 : Ideal .f32) = (0 : EReal) := by
    show (((0#32 : BitVec 32).toInt : ℝ) : EReal) = 0
    simp
  rw [e]

theorem convolved_at (p : FVec Ideal S2x8194x5632 .f32) (cw : FVec Ideal S3x5632 .f32) (cb : FVec Ideal S5632 .f32)
    (b : Fin 2) (t : Fin 8192) (q : Fin 5632) :
    convolved p cw cb (ix3 b t q) = p (ix3 b ⟨t.val, by omega⟩ q) * cw (ix2 0 q) + p (ix3 b ⟨1 + t.val, by omega⟩ q) * cw (ix2 1 q)
      + p (ix3 b ⟨2 + t.val, by omega⟩ q) * cw (ix2 2 q) + cb (ix1 q) := by
  unfold convolved
  pointwise

theorem finished_at (x : FVec Ideal S2x8192x2048 .f32) (u : FVec Ideal S2x8192x11264 .f32) (a : FVec Ideal S2x8192x5632 .f32)
    (wd : FVec Ideal S5632x2048 .f32) (g2 : FVec Ideal S2x1x2048 .f32) (r : Fin 16384) (j : Fin 2048) :
    finished x u a wd g2 (ix2 r j)
      = x (ix3 ⟨r.val / 8192, by omega⟩ ⟨r.val % 8192, by omega⟩ j) + g2 (ix3 ⟨r.val / 8192, by omega⟩ 0 j)
        * ∑ q : Fin 5632, a (ix3 ⟨r.val / 8192, by omega⟩ ⟨r.val % 8192, by omega⟩ q)
            * Ideal.logistic (a (ix3 ⟨r.val / 8192, by omega⟩ ⟨r.val % 8192, by omega⟩ q))
            * u (ix3 ⟨r.val / 8192, by omega⟩ ⟨r.val % 8192, by omega⟩ ⟨5632 + q.val, by omega⟩) * wd (ix2 q j) := by
  unfold finished
  pointwise
  rfl

/-- A row of the up projection, its weights read by blocks of 512 columns. -/
theorem up_eq (x : FVec Ideal S2x8192x2048 .f32) (g : FVec Ideal S2048 .f32) (s sh : FVec Ideal S2x1x2048 .f32)
    (w : FVec Ideal S22x2048x512 .bf16) (b : Fin 2) (t : Fin 8192) (q : Fin 11264) (r : Fin 16384) (p : Fin 22) (k : Fin 512)
    (hb : r.val / 8192 = b.val) (ht : r.val % 8192 = t.val) (hp : q.val / 512 = p.val) (hk : q.val % 512 = k.val) :
    upped (normed x g s sh) w (ix3 b t q) = Cert.FfnIdeal.Value.up (Cert.FfnIdeal.Value.hrow x g s sh) w r p k := by
  obtain ⟨b, hb'⟩ := b
  obtain ⟨t, ht'⟩ := t
  obtain ⟨p, hp'⟩ := p
  obtain ⟨k, hk'⟩ := k
  subst hb
  subst ht
  subst hp
  subst hk
  rw [upped_at]
  refine Finset.sum_congr rfl fun i _ => congrArg (· * _) ?_
  rw [normed_at, mul_assoc (_ * _)]
  rfl

/-- The reference's composed term is the same function of its arguments. -/
theorem term_eq (m : (ℓ : Loc nD τ sig) → Buf (Elt Ideal) ℓ) (c : Dev nD) :
    res_out0 m c = Cert.FfnIdeal.Value.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext (j : S16384x2048.Idx)
  idx_vars j
  rw [term_pieces]
  refine (finished_at _ _ _ _ _ _ _).trans ?_
  show _ = Cert.FfnIdeal.Value.specAt _ _ _ _ _ _ _ _ _ j0 j1
  unfold Cert.FfnIdeal.Value.specAt
  refine congrArg₂ (· + ·) rfl (congrArg₂ (· * ·) rfl (Finset.sum_congr rfl fun q _ => congrArg₂ (· * ·) ?_ rfl))
  unfold Cert.FfnIdeal.Value.hidden
  have hc : convolved (padded (upped (normed (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (m ((c.tc : Thread nD τ).loc main_arg5)) (m ((c.tc : Thread nD τ).loc main_arg6))
        (ix3 ⟨j0.val / 8192, by omega⟩ ⟨j0.val % 8192, by omega⟩ q)
      = Cert.FfnIdeal.Value.conv (Cert.FfnIdeal.Value.hrow (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) j0
          ⟨q.val / 512, by omega⟩ ⟨q.val % 512, by omega⟩ := by
    have eq : q = ⟨q.val / 512 * 512 + q.val % 512, by omega⟩ := Fin.ext (by show q.val = q.val / 512 * 512 + q.val % 512; omega)
    rw [convolved_at, padded_at, padded_at, padded_at]
    unfold Cert.FfnIdeal.Value.conv
    refine congrArg₂ (· + ·) (congrArg₂ (· + ·) (congrArg₂ (· + ·) (congrArg₂ (· * ·) ?_ (congrArg (fun q => (m ((c.tc : Thread nD τ).loc main_arg5)) (ix2 0 q)) eq))
      (congrArg₂ (· * ·) ?_ (congrArg (fun q => (m ((c.tc : Thread nD τ).loc main_arg5)) (ix2 1 q)) eq))) (congrArg₂ (· * ·) ?_ (congrArg (fun q => (m ((c.tc : Thread nD τ).loc main_arg5)) (ix2 2 q)) eq)))
      (congrArg (fun q => (m ((c.tc : Thread nD τ).loc main_arg6)) (ix1 q)) eq)
    · by_cases h : j0.val % 8192 = 0
      · rw [if_pos h, dif_neg (by simp only []; omega)]
      · rw [if_neg h, dif_pos (by simp only []; omega)]
        exact up_eq _ _ _ _ _ _ _ _ _ _ _ (by simp only []; omega) (by simp only []; omega) rfl rfl
    · rw [dif_pos (by simp only []; omega)]
      exact up_eq _ _ _ _ _ _ _ _ _ _ _ rfl (by simp only []; omega) rfl rfl
    · by_cases h : j0.val % 8192 = 8191
      · rw [dif_pos h, dif_neg (by simp only []; omega)]
      · rw [dif_neg h, dif_pos (by simp only []; omega)]
        exact up_eq _ _ _ _ _ _ _ _ _ _ _ (by simp only []; omega) (by simp only []; omega) rfl rfl
  rw [hc]
  exact congrArg₂ (· * ·) rfl (up_eq _ _ _ _ _ _ _ _ j0 _ _ rfl rfl (by simp only []; omega) (by simp only []; omega))

end Cert.FfnRefIdeal.Value

end
-- ==== Proof.ClaimFfn.lean ====
/- The claims about the feed-forward call. -/
module

public import proofs.«01_k».proof.Defs
public import proofs.«01_k».proof.Proof.FfnValue
public import proofs.«01_k».proof.Proof.FfnRefValue
public import proofs.«01_k».proof.Proof.Gen.Ffn.Frame
public import proofs.«01_k».proof.Proof.Gen.FfnRefIdeal.Run
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof

/-- The printed kernel runs, keeps its arguments and ends quiescent. -/
theorem quiescent_Ffn : Cert.quiescent_Ffn := fun m ρ _ => Cert.Ffn.Gen.frame m ρ

/-- So does its idealization. -/
theorem quiescent_FfnIdeal : Cert.quiescent_FfnIdeal := fun m ρ _ => Cert.FfnIdeal.Gen.frame m ρ

/-- And the reference. -/
theorem quiescent_FfnRefIdeal : Cert.quiescent_FfnRefIdeal := by
  intro m g _
  exact (θ_run Cert.FfnRefIdeal.defs _ _).mono
    (fun r h => ⟨fun c => (h c).2, sem_eq_zero_of_no_sems (by decide) r.2⟩) (Cert.FfnRefIdeal.Value.run m g)

/-- Idealizing the kernel changes no rounding that a claim here speaks of. -/
theorem preserves_Ffn : Cert.preserves_Ffn_FfnIdeal := trivial

/-- On the same arguments the kernel and the reference compute the same array. -/
theorem algebraic_Ffn : Cert.algebraic_FfnIdeal_FfnRefIdeal := by
  pair_intro
  · run_from Cert.FfnIdeal.Gen.run_main m g
  · have h := (θ_run Cert.FfnRefIdeal.defs _ _).mono
      (fun r h => show ∀ c, _ ∧ _ from fun c => ⟨(h c).1.trans (Cert.FfnRefIdeal.Value.term_eq m' c), (h c).2⟩)
      (Cert.FfnRefIdeal.Value.run m' g')
    run_from h
    exact (Cert.FfnIdeal.Value.final m c).symm

end Cert.Proof

end
-- ==== Proof.MergeValue.lean ====
/- The merge of the branches: what the kernel's result array holds after the run, element by element. -/
module

public import proofs.«01_k».proof.Proof.Gen.MergeIdeal.Frame
public import proofs.«01_k».proof.Proof.LayerSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- Row `r` of the normalised and modulated input (rows 0–8191 are the first batch's, the others the second's). -/
def hrow (x : FVec Ideal S2x8192x2048 .f32) (g : FVec Ideal S2048 .f32) (s sh : FVec Ideal S2x1x2048 .f32)
    (r : Fin 16384) (k : Fin 2048) : EReal :=
  Layer.modulated (fun k => x (ix3 ⟨r.val / 8192, by omega⟩ ⟨r.val % 8192, by omega⟩ k)) (fun k => g (ix1 k))
    (fun k => s (ix3 ⟨r.val / 8192, by omega⟩ 0 k)) (fun k => sh (ix3 ⟨r.val / 8192, by omega⟩ 0 k)) k

/-- The scale of batch `b`: the norm's weight times one plus the modulation. -/
def gsAt (g : FVec Ideal S2048 .f32) (s : FVec Ideal S2x1x2048 .f32) (b : Fin 2) (j : Fin 2048) : EReal :=
  g (ix1 j) * (1 + s (ix3 b 0 j))

/-- Row `r`, column `j` of the product of an array of rows, laid out by batch, with the rows of the branch weights from row `o`. -/
def branch {n : ℕ} (y : Fin 2 → Fin 8192 → Fin n → EReal) (w : FVec Ideal S2048x2048 .f32) (o : ℕ) (ho : o + n ≤ 2048)
    (r : Fin 16384) (j : Fin 2048) : EReal :=
  ∑ k : Fin n, y ⟨r.val / 8192, by omega⟩ ⟨r.val % 8192, by omega⟩ k * w (ix2 ⟨o + k.val, by omega⟩ j)

/-- The branch whose weights begin at row 0, with those rows read directly. -/
theorem branch_zero {n : ℕ} (y : Fin 2 → Fin 8192 → Fin n → EReal) (w : FVec Ideal S2048x2048 .f32) (ho : 0 + n ≤ 2048)
    (r : Fin 16384) (j : Fin 2048) :
    ∑ k : Fin n, y ⟨r.val / 8192, by omega⟩ ⟨r.val % 8192, by omega⟩ k * w (ix2 ⟨k.val, by omega⟩ j) = branch y w 0 ho r j :=
  Finset.sum_congr rfl fun k _ => congrArg (y _ _ k * ·) (congrArg w (congrArg (fun q => ix2 q j) (Fin.ext (Nat.zero_add _).symm)))

/-- The gate of branch `i` (0, 1, 2) at row `r`, column `j`: the logistic function of the projection of the normalised row. -/
def gate (x : FVec Ideal S2x8192x2048 .f32) (g : FVec Ideal S2048 .f32) (s sh : FVec Ideal S2x1x2048 .f32)
    (w : FVec Ideal S2048x11296 .f32) (i : Fin 3) (r : Fin 16384) (j : Fin 2048) : EReal :=
  Ideal.logistic (∑ k : Fin 2048, hrow x g s sh r k * w (ix2 k ⟨5152 + (i.val * 2048 + j.val), by omega⟩))

/-- The gate with the logistic function and the norm's scale written out, its weights read at column `q`. -/
theorem gate_of (x : FVec Ideal S2x8192x2048 .f32) (g : FVec Ideal S2048 .f32) (s sh : FVec Ideal S2x1x2048 .f32)
    (w : FVec Ideal S2048x11296 .f32) (i : Fin 3) (r : Fin 16384) (j : Fin 2048) {q : ℕ} (hq : q < 11296)
    (e : 5152 + (i.val * 2048 + j.val) = q) :
    Ideal.div 1 (1 + Ideal.exp (-∑ k : Fin 2048,
        (x (ix3 ⟨r.val / 8192, by omega⟩ ⟨r.val % 8192, by omega⟩ k)
            * Layer.rstd (fun k => x (ix3 ⟨r.val / 8192, by omega⟩ ⟨r.val % 8192, by omega⟩ k)) * g (ix1 k)
            * (1 + s (ix3 ⟨r.val / 8192, by omega⟩ 0 k)) + sh (ix3 ⟨r.val / 8192, by omega⟩ 0 k)) * w (ix2 k ⟨q, hq⟩)))
      = gate x g s sh w i r j := by
  subst e
  exact congrArg Ideal.logistic (Finset.sum_congr rfl fun k _ => congrArg (· * _) (congrArg (· + _) (mul_assoc _ _ _)))

/-- Row `r`, column `j` of the result: each branch's product times its gate, the three added from the left. -/
def specAt (x : FVec Ideal S2x8192x2048 .f32) (g : FVec Ideal S2048 .f32) (s sh : FVec Ideal S2x1x2048 .f32)
    (ya yb : FVec Ideal S2x8192x512 .bf16) (yc : FVec Ideal S2x8192x1024 .bf16) (w : FVec Ideal S2048x11296 .f32)
    (wb : FVec Ideal S2048x2048 .f32) (r : Fin 16384) (j : Fin 2048) : EReal :=
  gate x g s sh w 0 r j * branch (fun b t k => ya (ix3 b t k)) wb 0 (by omega) r j
    + gate x g s sh w 1 r j * branch (fun b t k => yb (ix3 b t k)) wb 512 (by omega) r j
    + gate x g s sh w 2 r j * branch (fun b t k => yc (ix3 b t k)) wb 1024 (by omega) r j

/-- The whole result array. -/
def spec (x : FVec Ideal S2x8192x2048 .f32) (g : FVec Ideal S2048 .f32) (s sh : FVec Ideal S2x1x2048 .f32)
    (ya yb : FVec Ideal S2x8192x512 .bf16) (yc : FVec Ideal S2x8192x1024 .bf16) (w : FVec Ideal S2048x11296 .f32)
    (wb : FVec Ideal S2048x2048 .f32) : FVec Ideal S16384x2048 .bf16 := fun i => specAt x g s sh ya yb yc w wb (i 0) (i 1)

/-- The block of every window at grid point `t` (16 row tiles, for each the 4 column tiles). -/
theorem idx : ∀ t : Fin cfg0.N, win0_0.index t = ![t.val / 4, 0] ∧ win0_1.index t = ![t.val / 32, 0, 0]
    ∧ win0_2.index t = ![t.val / 32, 0, 0] ∧ win0_3.index t = ![t.val / 4, 0] ∧ win0_4.index t = ![t.val / 4, 0]
    ∧ win0_5.index t = ![t.val / 4, 0] ∧ win0_6.index t = ![t.val % 4, 0, 0, 0] ∧ win0_7.index t = ![t.val % 4, 0, 0]
    ∧ win0_8.index t = ![t.val / 4, t.val % 4] :=
  (by decide +kernel : ∀ t : Fin grid0.N, _)

/-- The normalised tile at row `r`, column `k`. -/
theorem pay2_at (x0 : FVec Ideal S1024x2048 .f32) (x1 x2 : FVec Ideal S1x1x2048 .f32) (j : S1024x2048.Idx) :
    k0_pay2 (F := Ideal) x0 x1 x2 j
      = x0 (ix2 (j 0) (j 1)) * Layer.rstd (fun k => x0 (ix2 (j 0) k)) * x1 (ix3 0 0 (j 1)) + x2 (ix3 0 0 (j 1)) := by
  idx_vars j
  pointwise [k0_pay2, Layer.rstd]

/-- What the body stores, of its kept rows `h`, the three branches' tiles and the two blocks of weights. -/
def tile (h : FVec Ideal S1024x2048 .bf16) (ya yb : FVec Ideal S1024x512 .bf16) (yc : FVec Ideal S1024x1024 .bf16)
    (wg : FVec Ideal S1x3x2048x512 .bf16) (wb : FVec Ideal S1x2048x512 .bf16) : FVec Ideal S1024x512 .bf16 :=
  k0_pay1 (F := Ideal) h
    (k0_pay3 (F := Ideal) h
      (View.ld wg (Rect.unit (s := S1x3x2048x512) ![0, 0, 0, 0] S1x1x2048x512.size inb_S1x3x2048x512_S1x1x2048x512_0_0_0_0)) ya
      (View.ld wb (Rect.unit (s := S1x2048x512) ![0, 0, 0] S1x512x512.size inb_S1x2048x512_S1x512x512_0_0_0))
      (View.ld wg (Rect.unit (s := S1x3x2048x512) ![0, 1, 0, 0] S1x1x2048x512.size inb_S1x3x2048x512_S1x1x2048x512_0_1_0_0)) yb
      (View.ld wb (Rect.unit (s := S1x2048x512) ![0, 512, 0] S1x512x512.size inb_S1x2048x512_S1x512x512_0_512_0)))
    (k0_pay4 (F := Ideal)
      (View.ld wg (Rect.unit (s := S1x3x2048x512) ![0, 2, 0, 0] S1x1x2048x512.size inb_S1x3x2048x512_S1x1x2048x512_0_2_0_0)))
    yc (View.ld wb (Rect.unit (s := S1x2048x512) ![0, 1024, 0] S1x1024x512.size inb_S1x2048x512_S1x1024x512_0_1024_0))

/-- The stored tile at row `r`, column `j`. -/
theorem tile_at (h : FVec Ideal S1024x2048 .bf16) (ya yb : FVec Ideal S1024x512 .bf16) (yc : FVec Ideal S1024x1024 .bf16)
    (wg : FVec Ideal S1x3x2048x512 .bf16) (wb : FVec Ideal S1x2048x512 .bf16) (r : Fin 1024) (j : Fin 512) :
    tile h ya yb yc wg wb (ix2 r j)
      = Ideal.logistic (∑ k : Fin 2048, h (ix2 r k) * wg (ix4 0 0 k j)) * ∑ k : Fin 512, ya (ix2 r k) * wb (ix3 0 ⟨0 + k.val, by omega⟩ j)
        + Ideal.logistic (∑ k : Fin 2048, h (ix2 r k) * wg (ix4 0 1 k j)) * ∑ k : Fin 512, yb (ix2 r k) * wb (ix3 0 ⟨512 + k.val, by omega⟩ j)
        + Ideal.logistic (∑ k : Fin 2048, h (ix2 r k) * wg (ix4 0 2 k j)) * ∑ k : Fin 1024, yc (ix2 r k) * wb (ix3 0 ⟨1024 + k.val, by omega⟩ j) := by
  unfold tile
  pointwise [k0_pay1, k0_pay3, k0_pay4]
  all_goals blk_ext

/-- The rows as the kernel finds them: the argument with its two batches laid one after the other. -/
theorem entry0 (c : Dev nD) (r : Fin 16384) (j : Fin 2048) :
    (V m c main_v10 : FVec Ideal S16384x2048 .f32) (ix2 r j)
      = (m ((c : Thread nD τ).loc main_arg0) : FVec Ideal S2x8192x2048 .f32) (ix3 ⟨r.val / 8192, by omega⟩ ⟨r.val % 8192, by omega⟩ j) := by
  entry_read
  pointwise

/-- The first branch's rows as the kernel finds them: the argument with its two batches laid one after the other. -/
theorem entry4 (c : Dev nD) (r : Fin 16384) (j : Fin 512) :
    (V m c main_v11 : FVec Ideal S16384x512 .bf16) (ix2 r j)
      = (m ((c : Thread nD τ).loc main_arg4) : FVec Ideal S2x8192x512 .bf16) (ix3 ⟨r.val / 8192, by omega⟩ ⟨r.val % 8192, by omega⟩ j) := by
  entry_read
  pointwise

/-- The second branch's rows as the kernel finds them: the argument with its two batches laid one after the other. -/
theorem entry5 (c : Dev nD) (r : Fin 16384) (j : Fin 512) :
    (V m c main_v12 : FVec Ideal S16384x512 .bf16) (ix2 r j)
      = (m ((c : Thread nD τ).loc main_arg5) : FVec Ideal S2x8192x512 .bf16) (ix3 ⟨r.val / 8192, by omega⟩ ⟨r.val % 8192, by omega⟩ j) := by
  entry_read
  pointwise

/-- The third branch's rows as the kernel finds them: the argument with its two batches laid one after the other. -/
theorem entry6 (c : Dev nD) (r : Fin 16384) (j : Fin 1024) :
    (V m c main_v13 : FVec Ideal S16384x1024 .bf16) (ix2 r j)
      = (m ((c : Thread nD τ).loc main_arg6) : FVec Ideal S2x8192x1024 .bf16) (ix3 ⟨r.val / 8192, by omega⟩ ⟨r.val % 8192, by omega⟩ j) := by
  entry_read
  pointwise

/-- The scale as the kernel finds it: the norm's weight times one plus the modulation. -/
theorem gs_entry (c : Dev nD) (b : Fin 2) (j : Fin 2048) :
    (V m c main_v4 : FVec Ideal S2x1x2048 .f32) (ix3 b 0 j) = gsAt (m ((c : Thread nD τ).loc main_arg1)) (m ((c : Thread nD τ).loc main_arg2)) b j := by
  entry_read
  pointwise [gsAt]

/-- The gates' weights as the kernel finds them: column block `b` of gate `i`. -/
theorem wg_entry (c : Dev nD) (b : Fin 4) (i : Fin 3) (k : Fin 2048) (j : Fin 512) :
    (V m c main_v15 : FVec Ideal S4x3x2048x512 .bf16) (ix4 b i k j)
      = (m ((c : Thread nD τ).loc main_arg7) : FVec Ideal S2048x11296 .f32) (ix2 k ⟨5152 + (i.val * 2048 + (b.val * 512 + j.val)), by omega⟩) := by
  entry_read
  pointwise

/-- The branches' weights as the kernel finds them: column block `b`. -/
theorem wb_entry (c : Dev nD) (b : Fin 4) (k : Fin 2048) (j : Fin 512) :
    (V m c main_v17 : FVec Ideal S4x2048x512 .bf16) (ix3 b k j)
      = (m ((c : Thread nD τ).loc main_arg8) : FVec Ideal S2048x2048 .f32) (ix2 k ⟨b.val * 512 + j.val, by omega⟩) := by
  entry_read
  pointwise

theorem blk0 (c : Dev nD) (t : Fin cfg0.N) (ht : t.val < 64) (r : Fin 1024) (j : Fin 2048) :
    (iblk m c 0 t : FVec Ideal S1024x2048 .f32) (ix2 r j)
      = (m ((c : Thread nD τ).loc main_arg0) : FVec Ideal S2x8192x2048 .f32)
          (ix3 ⟨(t.val / 4 * 1024 + r.val) / 8192, by omega⟩ ⟨(t.val / 4 * 1024 + r.val) % 8192, by omega⟩ j) := by
  refine Eq.trans ?_ (entry0 m c ⟨t.val / 4 * 1024 + r.val, by omega⟩ j)
  blk_ext [iblk, idx t]

theorem blk3 (c : Dev nD) (t : Fin cfg0.N) (ht : t.val < 64) (r : Fin 1024) (j : Fin 512) :
    (iblk m c 3 t : FVec Ideal S1024x512 .bf16) (ix2 r j)
      = (m ((c : Thread nD τ).loc main_arg4) : FVec Ideal S2x8192x512 .bf16)
          (ix3 ⟨(t.val / 4 * 1024 + r.val) / 8192, by omega⟩ ⟨(t.val / 4 * 1024 + r.val) % 8192, by omega⟩ j) := by
  refine Eq.trans ?_ (entry4 m c ⟨t.val / 4 * 1024 + r.val, by omega⟩ j)
  blk_ext [iblk, idx t]

theorem blk4 (c : Dev nD) (t : Fin cfg0.N) (ht : t.val < 64) (r : Fin 1024) (j : Fin 512) :
    (iblk m c 4 t : FVec Ideal S1024x512 .bf16) (ix2 r j)
      = (m ((c : Thread nD τ).loc main_arg5) : FVec Ideal S2x8192x512 .bf16)
          (ix3 ⟨(t.val / 4 * 1024 + r.val) / 8192, by omega⟩ ⟨(t.val / 4 * 1024 + r.val) % 8192, by omega⟩ j) := by
  refine Eq.trans ?_ (entry5 m c ⟨t.val / 4 * 1024 + r.val, by omega⟩ j)
  blk_ext [iblk, idx t]

theorem blk5 (c : Dev nD) (t : Fin cfg0.N) (ht : t.val < 64) (r : Fin 1024) (j : Fin 1024) :
    (iblk m c 5 t : FVec Ideal S1024x1024 .bf16) (ix2 r j)
      = (m ((c : Thread nD τ).loc main_arg6) : FVec Ideal S2x8192x1024 .bf16)
          (ix3 ⟨(t.val / 4 * 1024 + r.val) / 8192, by omega⟩ ⟨(t.val / 4 * 1024 + r.val) % 8192, by omega⟩ j) := by
  refine Eq.trans ?_ (entry6 m c ⟨t.val / 4 * 1024 + r.val, by omega⟩ j)
  blk_ext [iblk, idx t]

theorem blk1 (c : Dev nD) (t : Fin cfg0.N) (ht : t.val < 64) (r : Fin 1024) (j : Fin 2048) :
    (iblk m c 1 t : FVec Ideal S1x1x2048 .f32) (ix3 0 0 j)
      = gsAt (m ((c : Thread nD τ).loc main_arg1)) (m ((c : Thread nD τ).loc main_arg2)) ⟨(t.val / 4 * 1024 + r.val) / 8192, by omega⟩ j := by
  refine Eq.trans ?_ (gs_entry m c ⟨(t.val / 4 * 1024 + r.val) / 8192, by omega⟩ j)
  blk_ext [iblk, idx t]

theorem blk2 (c : Dev nD) (t : Fin cfg0.N) (ht : t.val < 64) (r : Fin 1024) (j : Fin 2048) :
    (iblk m c 2 t : FVec Ideal S1x1x2048 .f32) (ix3 0 0 j)
      = (m ((c : Thread nD τ).loc main_arg3) : FVec Ideal S2x1x2048 .f32) (ix3 ⟨(t.val / 4 * 1024 + r.val) / 8192, by omega⟩ 0 j) := by
  blk_ext [iblk, V_main_arg3, idx t]

theorem blk6 (c : Dev nD) (t : Fin cfg0.N) (i : Fin 3) (k : Fin 2048) (j : Fin 512) :
    (iblk m c 6 t : FVec Ideal S1x3x2048x512 .bf16) (ix4 0 i k j)
      = (m ((c : Thread nD τ).loc main_arg7) : FVec Ideal S2048x11296 .f32)
          (ix2 k ⟨5152 + (i.val * 2048 + (t.val % 4 * 512 + j.val)), by omega⟩) := by
  refine Eq.trans ?_ (wg_entry m c ⟨t.val % 4, by omega⟩ i k j)
  blk_ext [iblk, idx t]

theorem blk7 (c : Dev nD) (t : Fin cfg0.N) (k : Fin 2048) (j : Fin 512) :
    (iblk m c 7 t : FVec Ideal S1x2048x512 .bf16) (ix3 0 k j)
      = (m ((c : Thread nD τ).loc main_arg8) : FVec Ideal S2048x2048 .f32) (ix2 k ⟨t.val % 4 * 512 + j.val, by omega⟩) := by
  refine Eq.trans ?_ (wb_entry m c ⟨t.val % 4, by omega⟩ k j)
  blk_ext [iblk, idx t]

/-- The normalised rows kept for the column tiles: at every grid point those of the point's row tile. -/
theorem scr_at (c : Dev nD) (n : ℕ) (hn : n < cfg0.N) (h64 : n < 64) (r : Fin 1024) (k : Fin 2048) :
    (outsAt0 m c n hn).2 (ix2 r k)
      = hrow (m ((c : Thread nD τ).loc main_arg0)) (m ((c : Thread nD τ).loc main_arg1)) (m ((c : Thread nD τ).loc main_arg2))
          (m ((c : Thread nD τ).loc main_arg3)) ⟨n / 4 * 1024 + r.val, by omega⟩ k := by
  induction n with
  | zero =>
    rw [outsAt0_A m c ⟨0, hn⟩ (Nat.zero_mod _)]
    frame_out
    rw [pay2_at]
    exact congrArg₂ (· + ·) (congrArg₂ (· * ·) (congrArg₂ (· * ·) (blk0 m c ⟨0, hn⟩ h64 r k)
      (congrArg Layer.rstd (funext fun k => blk0 m c ⟨0, hn⟩ h64 r k))) (blk1 m c ⟨0, hn⟩ h64 r k)) (blk2 m c ⟨0, hn⟩ h64 r k)
  | succ n ih =>
    by_cases h0 : (n + 1) % 4 = 0
    · rw [outsAt0_A m c ⟨n + 1, hn⟩ h0]
      frame_out
      rw [pay2_at]
      exact congrArg₂ (· + ·) (congrArg₂ (· * ·) (congrArg₂ (· * ·) (blk0 m c ⟨n + 1, hn⟩ h64 r k)
        (congrArg Layer.rstd (funext fun k => blk0 m c ⟨n + 1, hn⟩ h64 r k))) (blk1 m c ⟨n + 1, hn⟩ h64 r k))
        (blk2 m c ⟨n + 1, hn⟩ h64 r k)
    · rw [outsAt0_B m c ⟨n + 1, hn⟩ h0]
      unfold sout0_B_0
      refine (ih (Nat.lt_of_succ_lt hn) (by omega)).trans ?_
      congr 3
      omega

/-- At every grid point the output tile is the body's function of the kept rows and the point's blocks. -/
theorem out_eq (c : Dev nD) (t : Fin cfg0.N) :
    (outsAt0 m c t.val t.isLt).1 = tile (outsAt0 m c t.val t.isLt).2 (iblk m c 3 t) (iblk m c 4 t) (iblk m c 5 t) (iblk m c 6 t) (iblk m c 7 t) := by
  by_cases h0 : t.val % 4 = 0
  · rw [outsAt0_A m c t h0]
    frame_out
    rfl
  · rw [outsAt0_B m c t h0]
    unfold sout0_B_0
    frame_out
    exact congrArg (fun h => tile h (iblk m c 3 t) (iblk m c 4 t) (iblk m c 5 t) (iblk m c 6 t) (iblk m c 7 t))
      ((Memref.isWhole_whole _).read_unread _)

/-- The gate of the kept rows at grid point `t`. -/
theorem gate_at (c : Dev nD) (t : Fin cfg0.N) (ht : t.val < 64) (i : Fin 3) (r : Fin 1024) (j : Fin 512) :
    Ideal.logistic (∑ k : Fin 2048, (outsAt0 m c t.val t.isLt).2 (ix2 r k) * (iblk m c 6 t : FVec Ideal S1x3x2048x512 .bf16) (ix4 0 i k j))
      = gate (m ((c : Thread nD τ).loc main_arg0)) (m ((c : Thread nD τ).loc main_arg1)) (m ((c : Thread nD τ).loc main_arg2)) (m ((c : Thread nD τ).loc main_arg3)) (m ((c : Thread nD τ).loc main_arg7)) i
          ⟨t.val / 4 * 1024 + r.val, by omega⟩ ⟨t.val % 4 * 512 + j.val, by omega⟩ :=
  congrArg Ideal.logistic (Finset.sum_congr rfl fun k _ => congrArg₂ (· * ·) (scr_at m c t.val t.isLt ht r k) (blk6 m c t i k j))

/-- What the body stores at block index `y` of grid point `t` is `spec` at the row and column `y` sits at. -/
theorem point (c : Dev nD) (t : Fin cfg0.N) (y : S1024x512.Idx) :
    (outsAt0 m c t.val t.isLt).1 y
      = spec (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (((cfg0.win 8).blk t).view.emb y) := by
  have ht : t.val < 64 := lt_of_lt_of_eq t.isLt N_0
  idx_vars y
  have he : ((cfg0.win 8).blk t).view.emb (ix2 y0 y1)
      = (ix2 ⟨t.val / 4 * 1024 + y0.val, by omega⟩ ⟨t.val % 4 * 512 + y1.val, by omega⟩ : S16384x2048.Idx) := by
    blk_ext [idx t]
  rw [he, out_eq, tile_at]
  refine congrArg₂ (· + ·) (congrArg₂ (· + ·) (congrArg₂ (· * ·) (gate_at m c t ht 0 y0 y1) ?_)
    (congrArg₂ (· * ·) (gate_at m c t ht 1 y0 y1) ?_)) (congrArg₂ (· * ·) (gate_at m c t ht 2 y0 y1) ?_)
  · exact Finset.sum_congr rfl fun k _ => congrArg₂ (· * ·) (blk3 m c t ht y0 k) (blk7 m c t ⟨0 + k.val, by omega⟩ y1)
  · exact Finset.sum_congr rfl fun k _ => congrArg₂ (· * ·) (blk4 m c t ht y0 k) (blk7 m c t ⟨512 + k.val, by omega⟩ y1)
  · exact Finset.sum_congr rfl fun k _ => congrArg₂ (· * ·) (blk5 m c t ht y0 k) (blk7 m c t ⟨1024 + k.val, by omega⟩ y1)

/-- The result array after the run is `spec` of the argument arrays. -/
theorem final (c : Dev nD) : (dats m 0 c).arrAt 8 (cfgs 0).N
    = spec (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) := by
  refine (dats m 0 c).arrAt_eq_of_covers 8 _ (by decide +kernel) fun t _ y => ?_
  blk_simp; rw [after0_8]
  exact point m c t y

end Cert.MergeIdeal.Value

end
-- ==== Proof.MergeRefValue.lean ====
/- The merge's reference: its result array is the same function of the arguments as the kernel's. -/
module

public import proofs.«01_k».proof.Proof.MergeValue
public import proofs.«01_k».proof.Proof.Gen.MergeRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeRefIdeal.Value

open Cert.MergeRefIdeal Cert.MergeRefIdeal.Gen

/-- The reference's composed term is the same function of its arguments. -/
theorem term_eq (m : (ℓ : Loc nD τ sig) → Buf (Elt Ideal) ℓ) (c : Dev nD) :
    res_out0 m c = Cert.MergeIdeal.Value.spec (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext (j : S16384x2048.Idx)
  idx_vars j
  unfold res_out0 res_main_v45
  show _ = Cert.MergeIdeal.Value.specAt _ _ _ _ _ _ _ _ _ j0 j1
  unfold Cert.MergeIdeal.Value.specAt
  pointwise
  refine congrArg₂ (· + ·) (congrArg₂ (· + ·) (congrArg₂ (· * ·) ?_ ?_) (congrArg₂ (· * ·) ?_ ?_)) (congrArg₂ (· * ·) ?_ ?_)
  · exact Cert.MergeIdeal.Value.gate_of _ _ _ _ _ 0 j0 j1 (by omega) (by simp)
  · exact Cert.MergeIdeal.Value.branch_zero
      (fun b t k => (m ((c.tc : Thread nD τ).loc main_arg4) : FVec Ideal S2x8192x512 .bf16) (ix3 b t k)) _ _ j0 j1
  · exact Cert.MergeIdeal.Value.gate_of _ _ _ _ _ 1 j0 j1 (by omega) (by simp)
  · rfl
  · exact Cert.MergeIdeal.Value.gate_of _ _ _ _ _ 2 j0 j1 (by omega) (by simp)
  · rfl

end Cert.MergeRefIdeal.Value

end
-- ==== Proof.ClaimMerge.lean ====
/- The claims about the merge of the branches. -/
module

public import proofs.«01_k».proof.Defs
public import proofs.«01_k».proof.Proof.MergeValue
public import proofs.«01_k».proof.Proof.MergeRefValue
public import proofs.«01_k».proof.Proof.Gen.Merge.Frame
public import proofs.«01_k».proof.Proof.Gen.MergeRefIdeal.Run
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof

/-- The printed kernel runs, keeps its arguments and ends quiescent. -/
theorem quiescent_Merge : Cert.quiescent_Merge := fun m ρ _ => Cert.Merge.Gen.frame m ρ

/-- So does its idealization. -/
theorem quiescent_MergeIdeal : Cert.quiescent_MergeIdeal := fun m ρ _ => Cert.MergeIdeal.Gen.frame m ρ

/-- And the reference. -/
theorem quiescent_MergeRefIdeal : Cert.quiescent_MergeRefIdeal := by
  intro m g _
  exact (θ_run Cert.MergeRefIdeal.defs _ _).mono
    (fun r h => ⟨fun c => (h c).2, sem_eq_zero_of_no_sems (by decide) r.2⟩) (Cert.MergeRefIdeal.Value.run m g)

/-- Idealizing the kernel changes no rounding that a claim here speaks of. -/
theorem preserves_Merge : Cert.preserves_Merge_MergeIdeal := trivial

/-- On the same arguments the kernel and the reference compute the same array. -/
theorem algebraic_Merge : Cert.algebraic_MergeIdeal_MergeRefIdeal := by
  pair_intro
  · run_from Cert.MergeIdeal.Gen.run_main m g
  · have h := (θ_run Cert.MergeRefIdeal.defs _ _).mono
      (fun r h => show ∀ c, _ ∧ _ from fun c => ⟨(h c).1.trans (Cert.MergeRefIdeal.Value.term_eq m' c), (h c).2⟩)
      (Cert.MergeRefIdeal.Value.run m' g')
    run_from h
    exact (Cert.MergeIdeal.Value.final m c).symm

end Cert.Proof

end
-- ==== Proof.ProjValue.lean ====
/- The combined input projection: what the kernel's result array holds after the run, element by element. -/
module

public import proofs.«01_k».proof.Proof.Gen.ProjIdeal.Frame
public import proofs.«01_k».proof.Proof.LayerSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- Row `r` of the normalised and modulated input (rows 0–8191 are the first batch's, the others the second's). -/
def hrow (x : FVec Ideal S2x8192x2048 .f32) (g : FVec Ideal S2048 .f32) (s sh : FVec Ideal S2x1x2048 .f32)
    (r : Fin 16384) (k : Fin 2048) : EReal :=
  Layer.modulated (fun k => x (ix3 ⟨r.val / 8192, by omega⟩ ⟨r.val % 8192, by omega⟩ k)) (fun k => g (ix1 k))
    (fun k => s (ix3 ⟨r.val / 8192, by omega⟩ 0 k)) (fun k => sh (ix3 ⟨r.val / 8192, by omega⟩ 0 k)) k

/-- The scale of batch `b`: the norm's weight times one plus the modulation. -/
def gsAt (g : FVec Ideal S2048 .f32) (s : FVec Ideal S2x1x2048 .f32) (b : Fin 2) (j : Fin 2048) : EReal :=
  g (ix1 j) * (1 + s (ix3 b 0 j))

/-- The column of the weights that column `j` of the packed projection is taken from, for `j` below 5152. -/
def src (j : ℕ) : ℕ :=
  if j < 512 then j else if j < 2048 then 3616 + (j - 512) else if j < 3072 then 2592 + (j - 2048)
  else if j < 3584 then 512 + (j - 3072) else if j < 4096 then 2080 + (j - 3584)
  else if j < 5120 then 1024 + (j - 4096) else 2048 + (j - 5120)

theorem src_lt {j : ℕ} (h : j < 5152) : src j < 11296 := by unfold src; split_ifs <;> omega

/-- The packed weights: the columns regrouped, then 224 columns of zeros. -/
def wAt (w : FVec Ideal S2048x11296 .f32) (k : Fin 2048) (j : ℕ) : EReal :=
  if h : j < 5152 then w (ix2 k ⟨src j, src_lt h⟩) else 0

theorem wAt_of (w : FVec Ideal S2048x11296 .f32) (k : Fin 2048) {j s : ℕ} (h : j < 5152) (hs : s < 11296) (e : src j = s) :
    wAt w k j = w (ix2 k ⟨s, hs⟩) := by
  subst e; exact dif_pos h

theorem wAt_pad (w : FVec Ideal S2048x11296 .f32) (k : Fin 2048) {j : ℕ} (h : ¬ j < 5152) : wAt w k j = 0 := dif_neg h

/-- Row `r`, column `j` of the result: the row of the normalised input times the column of the packed weights. -/
def specAt (x : FVec Ideal S2x8192x2048 .f32) (g : FVec Ideal S2048 .f32) (s sh : FVec Ideal S2x1x2048 .f32)
    (w : FVec Ideal S2048x11296 .f32) (r : Fin 16384) (j : Fin 5376) : EReal :=
  ∑ k : Fin 2048, hrow x g s sh r k * wAt w k j.val

/-- The whole result array. -/
def spec (x : FVec Ideal S2x8192x2048 .f32) (g : FVec Ideal S2048 .f32) (s sh : FVec Ideal S2x1x2048 .f32)
    (w : FVec Ideal S2048x11296 .f32) : FVec Ideal S16384x5376 .f32 := fun i => specAt x g s sh w (i 0) (i 1)

/-- The block of every window at grid point `t` (16 row tiles, for each the 3 column tiles). -/
theorem idx : ∀ t : Fin cfg0.N, win0_0.index t = ![t.val / 3, 0] ∧ win0_1.index t = ![t.val / 24, 0, 0]
    ∧ win0_2.index t = ![t.val / 24, 0, 0] ∧ win0_3.index t = ![t.val % 3, 0, 0] ∧ win0_4.index t = ![t.val / 3, t.val % 3] :=
  (by decide +kernel : ∀ t : Fin grid0.N, _)

/-- The normalised tile at row `r`, column `k`. -/
theorem pay1_at (x0 : FVec Ideal S1024x2048 .f32) (x1 x2 : FVec Ideal S1x1x2048 .f32) (j : S1024x2048.Idx) :
    k0_pay1 (F := Ideal) x0 x1 x2 j
      = x0 (ix2 (j 0) (j 1)) * Layer.rstd (fun k => x0 (ix2 (j 0) k)) * x1 (ix3 0 0 (j 1)) + x2 (ix3 0 0 (j 1)) := by
  idx_vars j
  pointwise [k0_pay1, Layer.rstd]

/-- The product tile at row `r`, column `j`. -/
theorem pay2_at (h : FVec Ideal S1024x2048 .bf16) (w : FVec Ideal S1x2048x1792 .bf16) (j : S1024x1792.Idx) :
    k0_pay2 (F := Ideal) h w j = ∑ k : Fin 2048, h (ix2 (j 0) k) * w (ix3 0 k (j 1)) := by
  idx_vars j
  pointwise [k0_pay2]

/-- The rows as the kernel finds them: the argument with its two batches laid one after the other. -/
theorem x_entry (c : Dev nD) (r : Fin 16384) (j : Fin 2048) :
    (V m c main_v15 : FVec Ideal S16384x2048 .f32) (ix2 r j)
      = (m ((c : Thread nD τ).loc main_arg0) : FVec Ideal S2x8192x2048 .f32) (ix3 ⟨r.val / 8192, by omega⟩ ⟨r.val % 8192, by omega⟩ j) := by
  entry_read
  pointwise

/-- The scale as the kernel finds it: the norm's weight times one plus the modulation. -/
theorem gs_entry (c : Dev nD) (b : Fin 2) (j : Fin 2048) :
    (V m c main_v4 : FVec Ideal S2x1x2048 .f32) (ix3 b 0 j)
      = gsAt (m ((c : Thread nD τ).loc main_arg1)) (m ((c : Thread nD τ).loc main_arg2)) b j := by
  entry_read
  pointwise [gsAt]

/-- The regrouped columns, as the host puts them together. -/
def packed (w : FVec Ideal S2048x11296 .f32) : FVec Ideal S2048x5376 .f32 :=
  concatenate S2048x5376 1 [⟨S2048x512, extractStridedSlice S2048x512 ![0, 0] w slices_S2048x11296_S2048x512_0_0⟩,
    ⟨S2048x1536, extractStridedSlice S2048x1536 ![0, 3616] w slices_S2048x11296_S2048x1536_0_3616⟩,
    ⟨S2048x1024, extractStridedSlice S2048x1024 ![0, 2592] w slices_S2048x11296_S2048x1024_0_2592⟩,
    ⟨S2048x512, extractStridedSlice S2048x512 ![0, 512] w slices_S2048x11296_S2048x512_0_512⟩,
    ⟨S2048x512, extractStridedSlice S2048x512 ![0, 2080] w slices_S2048x11296_S2048x512_0_2080⟩,
    ⟨S2048x1024, extractStridedSlice S2048x1024 ![0, 1024] w slices_S2048x11296_S2048x1024_0_1024⟩,
    ⟨S2048x32, extractStridedSlice S2048x32 ![0, 2048] w slices_S2048x11296_S2048x32_0_2048⟩,
    ⟨S2048x224, broadcastInDim S2048x224 ![] bcast_S_S2048x224 (constant (F := Ideal) S_ .f32 0x00000000#32)⟩]
    concatenates_S2048x512_S2048x1536_S2048x1024_S2048x512_S2048x512_S2048x1024_S2048x32_S2048x224_S2048x5376_d1

theorem packed_at (w : FVec Ideal S2048x11296 .f32) (k : Fin 2048) (j : Fin 5376) : packed w (ix2 k j) = wAt w k j.val := by
  unfold packed
  pointwise
  split_ifs
  all_goals first
    | exact (wAt_of w k (by omega) (by omega) (by unfold src; split_ifs <;> omega)).symm
    | exact (wAt_pad w k (by omega)).symm

/-- The weights as the kernel finds them, as the host's term of the argument. -/
theorem w_term (c : Dev nD) : (V m c main_v17 : FVec Ideal S3x2048x1792 .bf16)
    = transpose S3x2048x1792 [1, 0, 2] (shapeCast S2048x3x1792 (truncf .bf16 (packed (m ((c : Thread nD τ).loc main_arg4))) bitsLt_bf16_f32)
        shapeCasts_S2048x5376_S2048x3x1792) transposes_S2048x3x1792_S3x2048x1792_1_0_2 := by
  unfold V
  after_results_simp <;> (try dsimp only [Matrix.cons_val]) <;> (try after_results_simp) <;> rfl

/-- The weights as the kernel finds them: the packed columns in three blocks of 1792. -/
theorem w_entry (c : Dev nD) (b : Fin 3) (k : Fin 2048) (j : Fin 1792) :
    (V m c main_v17 : FVec Ideal S3x2048x1792 .bf16) (ix3 b k j)
      = wAt (m ((c : Thread nD τ).loc main_arg4)) k (b.val * 1792 + j.val) := by
  rw [w_term]
  refine Eq.trans ?_ (packed_at _ k ⟨b.val * 1792 + j.val, by omega⟩)
  pointwise

theorem blk0 (c : Dev nD) (t : Fin cfg0.N) (ht : t.val < 48) (r : Fin 1024) (j : Fin 2048) :
    (iblk m c 0 t : FVec Ideal S1024x2048 .f32) (ix2 r j)
      = (m ((c : Thread nD τ).loc main_arg0) : FVec Ideal S2x8192x2048 .f32)
          (ix3 ⟨(t.val / 3 * 1024 + r.val) / 8192, by omega⟩ ⟨(t.val / 3 * 1024 + r.val) % 8192, by omega⟩ j) := by
  refine Eq.trans ?_ (x_entry m c ⟨t.val / 3 * 1024 + r.val, by omega⟩ j)
  blk_ext [iblk, idx t]

theorem blk1 (c : Dev nD) (t : Fin cfg0.N) (ht : t.val < 48) (r : Fin 1024) (j : Fin 2048) :
    (iblk m c 1 t : FVec Ideal S1x1x2048 .f32) (ix3 0 0 j)
      = gsAt (m ((c : Thread nD τ).loc main_arg1)) (m ((c : Thread nD τ).loc main_arg2)) ⟨(t.val / 3 * 1024 + r.val) / 8192, by omega⟩ j := by
  refine Eq.trans ?_ (gs_entry m c ⟨(t.val / 3 * 1024 + r.val) / 8192, by omega⟩ j)
  blk_ext [iblk, idx t]

theorem blk2 (c : Dev nD) (t : Fin cfg0.N) (ht : t.val < 48) (r : Fin 1024) (j : Fin 2048) :
    (iblk m c 2 t : FVec Ideal S1x1x2048 .f32) (ix3 0 0 j)
      = (m ((c : Thread nD τ).loc main_arg3) : FVec Ideal S2x1x2048 .f32) (ix3 ⟨(t.val / 3 * 1024 + r.val) / 8192, by omega⟩ 0 j) := by
  blk_ext [iblk, V_main_arg3, idx t]

theorem blk3 (c : Dev nD) (t : Fin cfg0.N) (k : Fin 2048) (j : Fin 1792) :
    (iblk m c 3 t : FVec Ideal S1x2048x1792 .bf16) (ix3 0 k j)
      = wAt (m ((c : Thread nD τ).loc main_arg4)) k (t.val % 3 * 1792 + j.val) := by
  refine Eq.trans ?_ (w_entry m c ⟨t.val % 3, by omega⟩ k j)
  blk_ext [iblk, idx t]

/-- The normalised rows kept for the column tiles: at every grid point those of the point's row tile. -/
theorem scr_at (c : Dev nD) (n : ℕ) (hn : n < cfg0.N) (h48 : n < 48) (r : Fin 1024) (k : Fin 2048) :
    (outsAt0 m c n hn).2 (ix2 r k)
      = hrow (m ((c : Thread nD τ).loc main_arg0)) (m ((c : Thread nD τ).loc main_arg1)) (m ((c : Thread nD τ).loc main_arg2))
          (m ((c : Thread nD τ).loc main_arg3)) ⟨n / 3 * 1024 + r.val, by omega⟩ k := by
  induction n with
  | zero =>
    rw [outsAt0_A m c ⟨0, hn⟩ (Nat.zero_mod _)]
    frame_out
    rw [pay1_at]
    exact congrArg₂ (· + ·) (congrArg₂ (· * ·) (congrArg₂ (· * ·) (blk0 m c ⟨0, hn⟩ h48 r k)
      (congrArg Layer.rstd (funext fun k => blk0 m c ⟨0, hn⟩ h48 r k))) (blk1 m c ⟨0, hn⟩ h48 r k)) (blk2 m c ⟨0, hn⟩ h48 r k)
  | succ n ih =>
    by_cases h0 : (n + 1) % 3 = 0
    · rw [outsAt0_A m c ⟨n + 1, hn⟩ h0]
      frame_out
      rw [pay1_at]
      exact congrArg₂ (· + ·) (congrArg₂ (· * ·) (congrArg₂ (· * ·) (blk0 m c ⟨n + 1, hn⟩ h48 r k)
        (congrArg Layer.rstd (funext fun k => blk0 m c ⟨n + 1, hn⟩ h48 r k))) (blk1 m c ⟨n + 1, hn⟩ h48 r k))
        (blk2 m c ⟨n + 1, hn⟩ h48 r k)
    · rw [outsAt0_B m c ⟨n + 1, hn⟩ h0]
      unfold sout0_B_0
      refine (ih (Nat.lt_of_succ_lt hn) (by omega)).trans ?_
      congr 3
      omega

/-- At every grid point the output tile is the kept rows times the point's block of weights. -/
theorem out_eq (c : Dev nD) (t : Fin cfg0.N) :
    (outsAt0 m c t.val t.isLt).1 = k0_pay2 (F := Ideal) (outsAt0 m c t.val t.isLt).2 (iblk m c 3 t) := by
  by_cases h0 : t.val % 3 = 0
  · rw [outsAt0_A m c t h0]
    frame_out
  · rw [outsAt0_B m c t h0]
    unfold sout0_B_0
    frame_out
    exact congrArg (fun h => k0_pay2 (F := Ideal) h (iblk m c 3 t)) ((Memref.isWhole_whole _).read_unread _)

/-- What the body stores at block index `y` of grid point `t` is `spec` at the row and column `y` sits at. -/
theorem point (c : Dev nD) (t : Fin cfg0.N) (y : S1024x1792.Idx) :
    (outsAt0 m c t.val t.isLt).1 y
      = spec (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 4).blk t).view.emb y) := by
  have ht : t.val < 48 := lt_of_lt_of_eq t.isLt N_0
  idx_vars y
  have he : ((cfg0.win 4).blk t).view.emb (ix2 y0 y1)
      = (ix2 ⟨t.val / 3 * 1024 + y0.val, by omega⟩ ⟨t.val % 3 * 1792 + y1.val, by omega⟩ : S16384x5376.Idx) := by
    blk_ext [idx t]
  rw [he, out_eq, pay2_at]
  exact Finset.sum_congr rfl fun k _ => congrArg₂ (· * ·) (scr_at m c t.val t.isLt ht y0 k) (blk3 m c t k y1)

/-- The result array after the run is `spec` of the argument arrays. -/
theorem final (c : Dev nD) : (dats m 0 c).arrAt 4 (cfgs 0).N
    = spec (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 4 _ (by decide +kernel) fun t _ y => ?_
  blk_simp; rw [after0_4]
  exact point m c t y

end Cert.ProjIdeal.Value

end
-- ==== Proof.ProjRefValue.lean ====
/- The combined input projection: the reference's composed term, element by element. -/
module

public import proofs.«01_k».proof.Proof.Gen.ProjRefIdeal.Run
public import proofs.«01_k».proof.Proof.ProjValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjRefIdeal.Value

open Cert.ProjRefIdeal Cert.ProjRefIdeal.Gen

set_option maxHeartbeats 1600000 in
/-- The reference's composed term is the same function of its arguments. -/
theorem term_eq (m : (ℓ : Loc nD τ sig) → Buf (Elt Ideal) ℓ) (c : Dev nD) :
    res_out0 m c = Cert.ProjIdeal.Value.spec (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  funext (j : S16384x5376.Idx)
  idx_vars j
  unfold res_out0 res_main_v30
  show _ = Cert.ProjIdeal.Value.specAt _ _ _ _ _ j0 j1
  unfold Cert.ProjIdeal.Value.specAt
  pointwise
  split_ifs
  all_goals first
    | refine Finset.sum_congr rfl fun k _ => congrArg₂ (· * ·) (congrArg (· + _) (mul_assoc _ _ _))
        (Cert.ProjIdeal.Value.wAt_of _ k (by omega) (by omega) (by unfold Cert.ProjIdeal.Value.src; split_ifs <;> omega)).symm
    | exact (Finset.sum_eq_zero fun k _ => by rw [Cert.ProjIdeal.Value.wAt_pad _ k (by omega), mul_zero]).symm

end Cert.ProjRefIdeal.Value

end
-- ==== Proof.ClaimProj.lean ====
/- The claims about the input projection. -/
module

public import proofs.«01_k».proof.Defs
public import proofs.«01_k».proof.Proof.ProjValue
public import proofs.«01_k».proof.Proof.ProjRefValue
public import proofs.«01_k».proof.Proof.Gen.Proj.Frame
public import proofs.«01_k».proof.Proof.Gen.ProjRefIdeal.Run
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof

/-- The printed kernel runs, keeps its arguments and ends quiescent. -/
theorem quiescent_Proj : Cert.quiescent_Proj := fun m ρ _ => Cert.Proj.Gen.frame m ρ

/-- So does its idealization. -/
theorem quiescent_ProjIdeal : Cert.quiescent_ProjIdeal := fun m ρ _ => Cert.ProjIdeal.Gen.frame m ρ

/-- And the reference. -/
theorem quiescent_ProjRefIdeal : Cert.quiescent_ProjRefIdeal := by
  intro m g _
  exact (θ_run Cert.ProjRefIdeal.defs _ _).mono
    (fun r h => ⟨fun c => (h c).2, sem_eq_zero_of_no_sems (by decide) r.2⟩) (Cert.ProjRefIdeal.Value.run m g)

/-- Idealizing the kernel changes no rounding that a claim here speaks of. -/
theorem preserves_Proj : Cert.preserves_Proj_ProjIdeal := trivial

/-- On the same arguments the kernel and the reference compute the same array. -/
theorem algebraic_Proj : Cert.algebraic_ProjIdeal_ProjRefIdeal := by
  pair_intro
  · run_from Cert.ProjIdeal.Gen.run_main m g
  · have h := (θ_run Cert.ProjRefIdeal.defs _ _).mono
      (fun r h => show ∀ c, _ ∧ _ from fun c => ⟨(h c).1.trans (Cert.ProjRefIdeal.Value.term_eq m' c), (h c).2⟩)
      (Cert.ProjRefIdeal.Value.run m' g')
    run_from h
    exact (Cert.ProjIdeal.Value.final m c).symm

end Cert.Proof

end
-- ==== Proof.OutValue.lean ====
/- The output projection with its residual: what the kernel's result array holds after the run, element by
   element, and that the reference's composed term is the same function. -/
module

public import proofs.«01_k».proof.Proof.Gen.OutIdeal.Frame
public import proofs.«01_k».proof.Proof.Gen.OutRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ)

/-- Row `r`, column `j` of the result: the residual's element plus the batch's gate times row `r` of `a · w`. Rows
    0–8191 are the first batch's, rows 8192–16383 the second's. -/
def specAt (a : FVec Ideal S16384x2048 .bf16) (w : FVec Ideal S2048x2048 .f32) (x : FVec Ideal S2x8192x2048 .f32)
    (g : FVec Ideal S2x1x2048 .f32) (r : Fin 16384) (j : Fin 2048) : EReal :=
  x (ix3 ⟨r.val / 8192, by omega⟩ ⟨r.val % 8192, by omega⟩ j)
    + g (ix3 ⟨r.val / 8192, by omega⟩ 0 j) * ∑ k : Fin 2048, a (ix2 r k) * w (ix2 k j)

/-- The whole result array. -/
def spec (a : FVec Ideal S16384x2048 .bf16) (w : FVec Ideal S2048x2048 .f32) (x : FVec Ideal S2x8192x2048 .f32)
    (g : FVec Ideal S2x1x2048 .f32) : FVec Ideal S16384x2048 .f32 := fun i => specAt a w x g (i 0) (i 1)

/-- The block of every window at grid point `t` (16 points: one tile of 1024 rows each). -/
theorem idx : ∀ t : Fin cfg0.N, win0_0.index t = ![t.val, 0] ∧ win0_1.index t = ![0, 0, 0] ∧ win0_2.index t = ![t.val, 0]
    ∧ win0_3.index t = ![t.val / 8, 0, 0] ∧ win0_4.index t = ![t.val, 0] :=
  (by decide +kernel : ∀ t : Fin grid0.N, _)

/-- The stored payload at row `r`, column `j` of its tile: residual plus gate times one row of the product. -/
theorem pay_at (x0 : FVec Ideal S1024x2048 .bf16) (x1 : FVec Ideal S1x2048x2048 .bf16) (x2 : FVec Ideal S1024x2048 .f32)
    (x3 : FVec Ideal S1x1x2048 .f32) (j : S1024x2048.Idx) :
    k0_pay1 (F := Ideal) x0 x1 x2 x3 j
      = x2 (ix2 (j 0) (j 1)) + x3 (ix3 0 0 (j 1)) * ∑ k : Fin 2048, x0 (ix2 (j 0) k) * x1 (ix3 0 k (j 1)) := by
  idx_vars j
  pointwise [k0_pay1]

/-- The weights as the kernel finds them: the argument, its one column block put in front. -/
theorem w_entry (c : Dev nD) (k j : Fin 2048) :
    (V m c main_v3 : FVec Ideal S1x2048x2048 .bf16) (ix3 0 k j) = (m ((c : Thread nD τ).loc main_arg1) : FVec Ideal S2048x2048 .f32) (ix2 k j) := by
  entry_read
  pointwise

/-- The residual as the kernel finds it: the argument with its two batches laid one after the other. -/
theorem x_entry (c : Dev nD) (r : Fin 16384) (j : Fin 2048) :
    (V m c main_v1 : FVec Ideal S16384x2048 .f32) (ix2 r j)
      = (m ((c : Thread nD τ).loc main_arg2) : FVec Ideal S2x8192x2048 .f32) (ix3 ⟨r.val / 8192, by omega⟩ ⟨r.val % 8192, by omega⟩ j) := by
  entry_read
  pointwise

theorem blk0 (c : Dev nD) (t : Fin cfg0.N) (ht : t.val < 16) (r : Fin 1024) (k : Fin 2048) :
    (iblk m c 0 t : FVec Ideal S1024x2048 .bf16) (ix2 r k)
      = (m ((c : Thread nD τ).loc main_arg0) : FVec Ideal S16384x2048 .bf16) (ix2 ⟨t.val * 1024 + r.val, by omega⟩ k) := by
  blk_ext [iblk, V_main_arg0, idx t]

theorem blk1 (c : Dev nD) (t : Fin cfg0.N) (k j : Fin 2048) :
    (iblk m c 1 t : FVec Ideal S1x2048x2048 .bf16) (ix3 0 k j)
      = (m ((c : Thread nD τ).loc main_arg1) : FVec Ideal S2048x2048 .f32) (ix2 k j) := by
  refine Eq.trans ?_ (w_entry m c k j)
  blk_ext [iblk, idx t]

theorem blk2 (c : Dev nD) (t : Fin cfg0.N) (ht : t.val < 16) (r : Fin 1024) (j : Fin 2048) :
    (iblk m c 2 t : FVec Ideal S1024x2048 .f32) (ix2 r j)
      = (m ((c : Thread nD τ).loc main_arg2) : FVec Ideal S2x8192x2048 .f32)
          (ix3 ⟨(t.val * 1024 + r.val) / 8192, by omega⟩ ⟨(t.val * 1024 + r.val) % 8192, by omega⟩ j) := by
  refine Eq.trans ?_ (x_entry m c ⟨t.val * 1024 + r.val, by omega⟩ j)
  blk_ext [iblk, idx t]

theorem blk3 (c : Dev nD) (t : Fin cfg0.N) (ht : t.val < 16) (r : Fin 1024) (j : Fin 2048) :
    (iblk m c 3 t : FVec Ideal S1x1x2048 .f32) (ix3 0 0 j)
      = (m ((c : Thread nD τ).loc main_arg3) : FVec Ideal S2x1x2048 .f32) (ix3 ⟨(t.val * 1024 + r.val) / 8192, by omega⟩ 0 j) := by
  blk_ext [iblk, V_main_arg3, idx t]

/-- What the body stores at block index `y` of grid point `t` is `spec` at the row and column `y` sits at. -/
theorem point (c : Dev nD) (t : Fin cfg0.N) (y : S1024x2048.Idx) :
    k0_pay1 (F := Ideal) (iblk m c 0 t) (iblk m c 1 t) (iblk m c 2 t) (iblk m c 3 t) y
      = spec (m ((c : Thread nD τ).loc main_arg0)) (m ((c : Thread nD τ).loc main_arg1))
          (m ((c : Thread nD τ).loc main_arg2)) (m ((c : Thread nD τ).loc main_arg3)) (((cfg0.win 4).blk t).view.emb y) := by
  have ht : t.val < 16 := lt_of_lt_of_eq t.isLt N_0
  idx_vars y
  have he : ((cfg0.win 4).blk t).view.emb (ix2 y0 y1) = (ix2 ⟨t.val * 1024 + y0.val, by omega⟩ y1 : S16384x2048.Idx) := by
    blk_ext [idx t]
  rw [he, pay_at]
  exact congrArg₂ (· + ·) (blk2 m c t ht y0 y1) (congrArg₂ (· * ·) (blk3 m c t ht y0 y1)
    (Finset.sum_congr rfl fun k _ => congrArg₂ (· * ·) (blk0 m c t ht y0 k) (blk1 m c t k y1)))

/-- The result array after the run is `spec` of the argument arrays. -/
theorem final (c : Dev nD) : (dats m 0 c).arrAt 4 (cfgs 0).N
    = spec (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp; rw [after0_4]; frame_out
  exact point m c t y

end Cert.OutIdeal.Value

namespace Cert.OutRefIdeal.Value

open Cert.OutRefIdeal Cert.OutRefIdeal.Gen

/-- The reference's composed term is the same function of its arguments. -/
theorem term_eq (a : FVec Ideal S16384x2048 .bf16) (w : FVec Ideal S2048x2048 .f32) (x : FVec Ideal S2x8192x2048 .f32)
    (g : FVec Ideal S2x1x2048 .f32) :
    (shapeCast _ (addf x (mulf (broadcastInDim S2x8192x2048 ![0, 1, 2] bcast_S2x1x2048_S2x8192x2048_0_1_2 g)
      (Host.dotGeneral (F := Ideal) dot_S2x8192x2048_S2048x2048_S2x8192x2048_2_0_01_1_n_n none
        (shapeCast _ (extf .f32 a bitsLt_bf16_f32) shapeCasts_S16384x2048_S2x8192x2048) w)))
      shapeCasts_S2x8192x2048_S16384x2048 : FVec Ideal S16384x2048 .f32) = Cert.OutIdeal.Value.spec a w x g := by
  funext j
  idx_vars j
  pointwise [Cert.OutIdeal.Value.spec, Cert.OutIdeal.Value.specAt]

end Cert.OutRefIdeal.Value

end
-- ==== Proof.ClaimOut.lean ====
/- The claims about the output projection. -/
module

public import proofs.«01_k».proof.Defs
public import proofs.«01_k».proof.Proof.OutValue
public import proofs.«01_k».proof.Proof.Gen.Out.Frame
public import proofs.«01_k».proof.Proof.Gen.OutRefIdeal.Run
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof

/-- The printed kernel runs, keeps its arguments and ends quiescent. -/
theorem quiescent_Out : Cert.quiescent_Out := fun m ρ _ => Cert.Out.Gen.frame m ρ

/-- So does its idealization. -/
theorem quiescent_OutIdeal : Cert.quiescent_OutIdeal := fun m ρ _ => Cert.OutIdeal.Gen.frame m ρ

/-- And the reference. -/
theorem quiescent_OutRefIdeal : Cert.quiescent_OutRefIdeal := by
  intro m g _
  exact (θ_run Cert.OutRefIdeal.defs _ _).mono
    (fun r h => ⟨fun c => (h c).2, sem_eq_zero_of_no_sems (by decide) r.2⟩) (Cert.OutRefIdeal.Value.run m g)

/-- Idealizing the kernel changes no rounding that a claim here speaks of. -/
theorem preserves_Out : Cert.preserves_Out_OutIdeal := trivial

/-- On the same arguments the kernel and the reference compute the same array. -/
theorem algebraic_Out : Cert.algebraic_OutIdeal_OutRefIdeal := by
  pair_intro
  · run_from Cert.OutIdeal.Gen.run_main m g
  · run_from Cert.OutRefIdeal.Value.run m' g'
    exact (Cert.OutRefIdeal.Value.term_eq _ _ _ _).trans (Cert.OutIdeal.Value.final m c).symm

end Cert.Proof

end
-- ==== Proof.NormValue.lean ====
/- The final norm: what the kernel's result array holds after the run, element by element, and that the
   reference's composed term is the same function. -/
module

public import proofs.«01_k».proof.Proof.Gen.NormIdeal.Frame
public import proofs.«01_k».proof.Proof.Gen.NormRefIdeal.Run
public import proofs.«01_k».proof.Proof.LayerSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

variable (m : (ℓ : Loc nD τ sig) → Buf (Elt Ideal) ℓ)

/-- Row `r`, column `j` of the result: the row of `x` divided by its root mean square, times the weight. Rows 0–8191
    are the first batch's, rows 8192–16383 the second's. -/
def specAt (x : FVec Ideal S2x8192x2048 .f32) (g : FVec Ideal S2048 .f32) (r : Fin 16384) (j : Fin 2048) : EReal :=
  x (ix3 ⟨r.val / 8192, by omega⟩ ⟨r.val % 8192, by omega⟩ j)
    * Layer.rstd (fun k => x (ix3 ⟨r.val / 8192, by omega⟩ ⟨r.val % 8192, by omega⟩ k)) * g (ix1 j)

/-- The whole result array. -/
def spec (x : FVec Ideal S2x8192x2048 .f32) (g : FVec Ideal S2048 .f32) : FVec Ideal S16384x2048 .f32 :=
  fun i => specAt x g (i 0) (i 1)

/-- The block of every window at grid point `t` (16 points: one tile of 1024 rows each). -/
theorem idx : ∀ t : Fin cfg0.N, win0_0.index t = ![t.val, 0] ∧ win0_1.index t = ![0, 0] ∧ win0_2.index t = ![t.val, 0] :=
  (by decide +kernel : ∀ t : Fin grid0.N, _)

/-- The stored payload at row `r`, column `j` of its tile. -/
theorem pay_at (x0 : FVec Ideal S1024x2048 .f32) (x1 : FVec Ideal S1x2048 .f32) (j : S1024x2048.Idx) :
    k0_pay1 (F := Ideal) x0 x1 j
      = x0 (ix2 (j 0) (j 1)) * Layer.rstd (fun k => x0 (ix2 (j 0) k)) * x1 (ix2 0 (j 1)) := by
  idx_vars j
  pointwise [k0_pay1, Layer.rstd]

/-- The rows as the kernel finds them: the argument with its two batches laid one after the other. -/
theorem x_entry (c : Dev nD) (r : Fin 16384) (j : Fin 2048) :
    (V m c main_v0 : FVec Ideal S16384x2048 .f32) (ix2 r j)
      = (m ((c : Thread nD τ).loc main_arg0) : FVec Ideal S2x8192x2048 .f32) (ix3 ⟨r.val / 8192, by omega⟩ ⟨r.val % 8192, by omega⟩ j) := by
  entry_read
  pointwise

/-- The weight as the kernel finds it: the argument as one row. -/
theorem g_entry (c : Dev nD) (j : Fin 2048) :
    (V m c main_v1 : FVec Ideal S1x2048 .f32) (ix2 0 j) = (m ((c : Thread nD τ).loc main_arg1) : FVec Ideal S2048 .f32) (ix1 j) := by
  entry_read
  pointwise

theorem blk0 (c : Dev nD) (t : Fin cfg0.N) (ht : t.val < 16) (r : Fin 1024) (j : Fin 2048) :
    (iblk m c 0 t : FVec Ideal S1024x2048 .f32) (ix2 r j)
      = (m ((c : Thread nD τ).loc main_arg0) : FVec Ideal S2x8192x2048 .f32)
          (ix3 ⟨(t.val * 1024 + r.val) / 8192, by omega⟩ ⟨(t.val * 1024 + r.val) % 8192, by omega⟩ j) := by
  refine Eq.trans ?_ (x_entry m c ⟨t.val * 1024 + r.val, by omega⟩ j)
  blk_ext [iblk, idx t]

theorem blk1 (c : Dev nD) (t : Fin cfg0.N) (j : Fin 2048) :
    (iblk m c 1 t : FVec Ideal S1x2048 .f32) (ix2 0 j) = (m ((c : Thread nD τ).loc main_arg1) : FVec Ideal S2048 .f32) (ix1 j) := by
  refine Eq.trans ?_ (g_entry m c j)
  blk_ext [iblk, idx t]

/-- What the body stores at block index `y` of grid point `t` is `spec` at the row and column `y` sits at. -/
theorem point (c : Dev nD) (t : Fin cfg0.N) (y : S1024x2048.Idx) :
    k0_pay1 (F := Ideal) (iblk m c 0 t) (iblk m c 1 t) y
      = spec (m ((c : Thread nD τ).loc main_arg0)) (m ((c : Thread nD τ).loc main_arg1)) (((cfg0.win 2).blk t).view.emb y) := by
  have ht : t.val < 16 := lt_of_lt_of_eq t.isLt N_0
  idx_vars y
  have he : ((cfg0.win 2).blk t).view.emb (ix2 y0 y1) = (ix2 ⟨t.val * 1024 + y0.val, by omega⟩ y1 : S16384x2048.Idx) := by
    blk_ext [idx t]
  rw [he, pay_at]
  exact congrArg₂ (· * ·) (congrArg₂ (· * ·) (blk0 m c t ht y0 y1) (congrArg Layer.rstd (funext fun k => blk0 m c t ht y0 k)))
    (blk1 m c t y1)

/-- The result array after the run is `spec` of the argument arrays. -/
theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp; rw [after0_2]; frame_out
  exact point m c t y

end Cert.NormIdeal.Value

namespace Cert.NormRefIdeal.Value

open Cert.NormRefIdeal Cert.NormRefIdeal.Gen

/-- The reference's composed term is the same function of its arguments. -/
theorem term_eq (x : FVec Ideal S2x8192x2048 .f32) (g : FVec Ideal S2048 .f32) :
    (shapeCast _ (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))) shapeCasts_S2x8192x2048_S16384x2048 : FVec Ideal S16384x2048 .f32)
      = Cert.NormIdeal.Value.spec x g := by
  funext j
  idx_vars j
  pointwise [Cert.NormIdeal.Value.spec, Cert.NormIdeal.Value.specAt, Layer.rstd]

end Cert.NormRefIdeal.Value

end
-- ==== Proof.ClaimNorm.lean ====
/- The claims about the final normalisation. -/
module

public import proofs.«01_k».proof.Defs
public import proofs.«01_k».proof.Proof.NormValue
public import proofs.«01_k».proof.Proof.Gen.Norm.Frame
public import proofs.«01_k».proof.Proof.Gen.NormRefIdeal.Run
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof

/-- The printed kernel runs, keeps its arguments and ends quiescent. -/
theorem quiescent_Norm : Cert.quiescent_Norm := fun m ρ _ => Cert.Norm.Gen.frame m ρ

/-- So does its idealization. -/
theorem quiescent_NormIdeal : Cert.quiescent_NormIdeal := fun m ρ _ => Cert.NormIdeal.Gen.frame m ρ

/-- And the reference. -/
theorem quiescent_NormRefIdeal : Cert.quiescent_NormRefIdeal := by
  intro m g _
  exact (θ_run Cert.NormRefIdeal.defs _ _).mono
    (fun r h => ⟨fun c => (h c).2, sem_eq_zero_of_no_sems (by decide) r.2⟩) (Cert.NormRefIdeal.Value.run m g)

/-- Idealizing the kernel changes no rounding that a claim here speaks of. -/
theorem preserves_Norm : Cert.preserves_Norm_NormIdeal := trivial

/-- On the same arguments the kernel and the reference compute the same array. -/
theorem algebraic_Norm : Cert.algebraic_NormIdeal_NormRefIdeal := by
  pair_intro
  · run_from Cert.NormIdeal.Gen.run_main m g
  · run_from Cert.NormRefIdeal.Value.run m' g'
    exact (Cert.NormRefIdeal.Value.term_eq _ _).trans (Cert.NormIdeal.Value.final m c).symm

end Cert.Proof

end
-- ==== Proof.lean ====
module

public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Step
public import proofs.«01_k».proof.Proof.Gen.KernelIdeal
public import proofs.«01_k».proof.Proof.Gen.ReferenceIdeal
public import proofs.«01_k».proof.Proof.Gen.KernelIdeal.Skeleton
public import proofs.«01_k».proof.Proof.Gen.Kernel.Skeleton
public import proofs.«01_k».proof.Defs
public import proofs.«01_k».proof.Proof.ClaimGla
public import proofs.«01_k».proof.Proof.ClaimFfn
public import proofs.«01_k».proof.Proof.ClaimMerge
public import proofs.«01_k».proof.Proof.ClaimProj
public import proofs.«01_k».proof.Proof.ClaimOut
public import proofs.«01_k».proof.Proof.ClaimNorm
public import proofs.«01_k».proof.Proof.Gen.Ffn
public import proofs.«01_k».proof.Proof.Gen.FfnIdeal
public import proofs.«01_k».proof.Proof.Gen.FfnRefIdeal
public import proofs.«01_k».proof.Proof.Gen.Merge
public import proofs.«01_k».proof.Proof.Gen.MergeIdeal
public import proofs.«01_k».proof.Proof.Gen.MergeRefIdeal
public import proofs.«01_k».proof.Proof.Gen.Proj
public import proofs.«01_k».proof.Proof.Gen.ProjIdeal
public import proofs.«01_k».proof.Proof.Gen.ProjRefIdeal
public import proofs.«01_k».proof.Proof.Gen.Out
public import proofs.«01_k».proof.Proof.Gen.OutIdeal
public import proofs.«01_k».proof.Proof.Gen.OutRefIdeal
public import proofs.«01_k».proof.Proof.Gen.Norm
public import proofs.«01_k».proof.Proof.Gen.NormIdeal
public import proofs.«01_k».proof.Proof.Gen.NormRefIdeal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.Norm.Gen.facts, Cert.NormIdeal.Gen.facts, Cert.NormRefIdeal.Gen.facts,
  quiescent_Kernel, quiescent_KernelIdeal, quiescent_ReferenceIdeal, quiescent_Ffn, quiescent_FfnIdeal, quiescent_FfnRefIdeal, quiescent_Merge, quiescent_MergeIdeal, quiescent_MergeRefIdeal, quiescent_Proj, quiescent_ProjIdeal, quiescent_ProjRefIdeal, quiescent_Out, quiescent_OutIdeal, quiescent_OutRefIdeal, quiescent_Norm, quiescent_NormIdeal, quiescent_NormRefIdeal,
  preserves_Kernel, algebraic_Kernel, preserves_Ffn, algebraic_Ffn, preserves_Merge, algebraic_Merge, preserves_Proj, algebraic_Proj, preserves_Out, algebraic_Out, preserves_Norm, algebraic_Norm⟩

end Cert.Proof

end
